-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_below_infinity [hPre_below_infinity : Cert.Pre_below_infinity.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_below_infinity.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_below_infinity [hPre_below_infinity : Cert.Pre_below_infinity.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_below_infinity.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 [hPre_dn_w_out_device : Cert.Pre_dn_w_out_device.Facts] (m : (ℓ : Loc Cert.Kernel21.nD Cert.Kernel21.τ Cert.Kernel21.sig) → Buf (Elt Bits) ℓ) : Prop :=
  ∀ c : Dev Cert.Kernel21.nD,
    (Cert.Pre_dn_w_out_device.fn (F := Bits) (m ((c.tc : Thread Cert.Kernel21.nD Cert.Kernel21.τ).loc Cert.Kernel21.main_arg0)) (m ((c.tc : Thread Cert.Kernel21.nD Cert.Kernel21.τ).loc Cert.Kernel21.main_arg1)) (m ((c.tc : Thread Cert.Kernel21.nD Cert.Kernel21.τ).loc Cert.Kernel21.main_arg2)) (m ((c.tc : Thread Cert.Kernel21.nD Cert.Kernel21.τ).loc Cert.Kernel21.main_arg3)) (m ((c.tc : Thread Cert.Kernel21.nD Cert.Kernel21.τ).loc Cert.Kernel21.main_arg4)) (m ((c.tc : Thread Cert.Kernel21.nD Cert.Kernel21.τ).loc Cert.Kernel21.main_arg5)) (m ((c.tc : Thread Cert.Kernel21.nD Cert.Kernel21.τ).loc Cert.Kernel21.main_arg6)) (m ((c.tc : Thread Cert.Kernel21.nD Cert.Kernel21.τ).loc Cert.Kernel21.main_arg7)) (m ((c.tc : Thread Cert.Kernel21.nD Cert.Kernel21.τ).loc Cert.Kernel21.main_arg8)) (m ((c.tc : Thread Cert.Kernel21.nD Cert.Kernel21.τ).loc Cert.Kernel21.main_arg9))) = (fun _ => 1#1)

def Pre_Kernel21Ideal [hPre_dn_w_out_device : Cert.Pre_dn_w_out_device.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_dn_w_out_device.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7)) (m ((c.tc : Thread Cert.Kernel21Ideal.nD Cert.Kernel21Ideal.τ).loc Cert.Kernel21Ideal.main_arg8)) (m ((c.tc : Thread Cert.Kernel21Ideal.nD Cert.Kernel21Ideal.τ).loc Cert.Kernel21Ideal.main_arg9))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_dn_w_out_device [hPre_dn_w_out_device : Cert.Pre_dn_w_out_device.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_dn_w_out_device.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6)) (m ((c.tc : Thread Cert.Reference21Ideal.nD Cert.Reference21Ideal.τ).loc Cert.Reference21Ideal.main_arg7)) (m ((c.tc : Thread Cert.Reference21Ideal.nD Cert.Reference21Ideal.τ).loc Cert.Reference21Ideal.main_arg8)) (m ((c.tc : Thread Cert.Reference21Ideal.nD Cert.Reference21Ideal.τ).loc Cert.Reference21Ideal.main_arg9))) = (fun _ => 1#1)

def Pre_Kernel22 [hPre_dn_w_in_device : Cert.Pre_dn_w_in_device.Facts] (m : (ℓ : Loc Cert.Kernel22.nD Cert.Kernel22.τ Cert.Kernel22.sig) → Buf (Elt Bits) ℓ) : Prop :=
  ∀ c : Dev Cert.Kernel22.nD,
    (Cert.Pre_dn_w_in_device.fn (F := Bits) (m ((c.tc : Thread Cert.Kernel22.nD Cert.Kernel22.τ).loc Cert.Kernel22.main_arg0)) (m ((c.tc : Thread Cert.Kernel22.nD Cert.Kernel22.τ).loc Cert.Kernel22.main_arg1)) (m ((c.tc : Thread Cert.Kernel22.nD Cert.Kernel22.τ).loc Cert.Kernel22.main_arg2)) (m ((c.tc : Thread Cert.Kernel22.nD Cert.Kernel22.τ).loc Cert.Kernel22.main_arg3)) (m ((c.tc : Thread Cert.Kernel22.nD Cert.Kernel22.τ).loc Cert.Kernel22.main_arg4)) (m ((c.tc : Thread Cert.Kernel22.nD Cert.Kernel22.τ).loc Cert.Kernel22.main_arg5)) (m ((c.tc : Thread Cert.Kernel22.nD Cert.Kernel22.τ).loc Cert.Kernel22.main_arg6)) (m ((c.tc : Thread Cert.Kernel22.nD Cert.Kernel22.τ).loc Cert.Kernel22.main_arg7)) (m ((c.tc : Thread Cert.Kernel22.nD Cert.Kernel22.τ).loc Cert.Kernel22.main_arg8)) (m ((c.tc : Thread Cert.Kernel22.nD Cert.Kernel22.τ).loc Cert.Kernel22.main_arg9))) = (fun _ => 1#1)

def Pre_Kernel22Ideal [hPre_dn_w_in_device : Cert.Pre_dn_w_in_device.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_dn_w_in_device.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5)) (m ((c.tc : Thread Cert.Kernel22Ideal.nD Cert.Kernel22Ideal.τ).loc Cert.Kernel22Ideal.main_arg6)) (m ((c.tc : Thread Cert.Kernel22Ideal.nD Cert.Kernel22Ideal.τ).loc Cert.Kernel22Ideal.main_arg7)) (m ((c.tc : Thread Cert.Kernel22Ideal.nD Cert.Kernel22Ideal.τ).loc Cert.Kernel22Ideal.main_arg8)) (m ((c.tc : Thread Cert.Kernel22Ideal.nD Cert.Kernel22Ideal.τ).loc Cert.Kernel22Ideal.main_arg9))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_dn_w_in_device [hPre_dn_w_in_device : Cert.Pre_dn_w_in_device.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_dn_w_in_device.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5)) (m ((c.tc : Thread Cert.Reference22Ideal.nD Cert.Reference22Ideal.τ).loc Cert.Reference22Ideal.main_arg6)) (m ((c.tc : Thread Cert.Reference22Ideal.nD Cert.Reference22Ideal.τ).loc Cert.Reference22Ideal.main_arg7)) (m ((c.tc : Thread Cert.Reference22Ideal.nD Cert.Reference22Ideal.τ).loc Cert.Reference22Ideal.main_arg8)) (m ((c.tc : Thread Cert.Reference22Ideal.nD Cert.Reference22Ideal.τ).loc Cert.Reference22Ideal.main_arg9))) = (fun _ => 1#1)

def Pre_Kernel23 [hPre_cf_w_in_device : Cert.Pre_cf_w_in_device.Facts] (m : (ℓ : Loc Cert.Kernel23.nD Cert.Kernel23.τ Cert.Kernel23.sig) → Buf (Elt Bits) ℓ) : Prop :=
  ∀ c : Dev Cert.Kernel23.nD,
    (Cert.Pre_cf_w_in_device.fn (F := Bits) (m ((c.tc : Thread Cert.Kernel23.nD Cert.Kernel23.τ).loc Cert.Kernel23.main_arg0)) (m ((c.tc : Thread Cert.Kernel23.nD Cert.Kernel23.τ).loc Cert.Kernel23.main_arg1)) (m ((c.tc : Thread Cert.Kernel23.nD Cert.Kernel23.τ).loc Cert.Kernel23.main_arg2)) (m ((c.tc : Thread Cert.Kernel23.nD Cert.Kernel23.τ).loc Cert.Kernel23.main_arg3)) (m ((c.tc : Thread Cert.Kernel23.nD Cert.Kernel23.τ).loc Cert.Kernel23.main_arg4)) (m ((c.tc : Thread Cert.Kernel23.nD Cert.Kernel23.τ).loc Cert.Kernel23.main_arg5)) (m ((c.tc : Thread Cert.Kernel23.nD Cert.Kernel23.τ).loc Cert.Kernel23.main_arg6)) (m ((c.tc : Thread Cert.Kernel23.nD Cert.Kernel23.τ).loc Cert.Kernel23.main_arg7)) (m ((c.tc : Thread Cert.Kernel23.nD Cert.Kernel23.τ).loc Cert.Kernel23.main_arg8)) (m ((c.tc : Thread Cert.Kernel23.nD Cert.Kernel23.τ).loc Cert.Kernel23.main_arg9))) = (fun _ => 1#1)

def Pre_Kernel23Ideal [hPre_cf_w_in_device : Cert.Pre_cf_w_in_device.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_cf_w_in_device.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5)) (m ((c.tc : Thread Cert.Kernel23Ideal.nD Cert.Kernel23Ideal.τ).loc Cert.Kernel23Ideal.main_arg6)) (m ((c.tc : Thread Cert.Kernel23Ideal.nD Cert.Kernel23Ideal.τ).loc Cert.Kernel23Ideal.main_arg7)) (m ((c.tc : Thread Cert.Kernel23Ideal.nD Cert.Kernel23Ideal.τ).loc Cert.Kernel23Ideal.main_arg8)) (m ((c.tc : Thread Cert.Kernel23Ideal.nD Cert.Kernel23Ideal.τ).loc Cert.Kernel23Ideal.main_arg9))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_cf_w_in_device [hPre_cf_w_in_device : Cert.Pre_cf_w_in_device.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_cf_w_in_device.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5)) (m ((c.tc : Thread Cert.Reference23Ideal.nD Cert.Reference23Ideal.τ).loc Cert.Reference23Ideal.main_arg6)) (m ((c.tc : Thread Cert.Reference23Ideal.nD Cert.Reference23Ideal.τ).loc Cert.Reference23Ideal.main_arg7)) (m ((c.tc : Thread Cert.Reference23Ideal.nD Cert.Reference23Ideal.τ).loc Cert.Reference23Ideal.main_arg8)) (m ((c.tc : Thread Cert.Reference23Ideal.nD Cert.Reference23Ideal.τ).loc Cert.Reference23Ideal.main_arg9))) = (fun _ => 1#1)

def Pre_Kernel24 [hPre_ff_w1_device : Cert.Pre_ff_w1_device.Facts] (m : (ℓ : Loc Cert.Kernel24.nD Cert.Kernel24.τ Cert.Kernel24.sig) → Buf (Elt Bits) ℓ) : Prop :=
  ∀ c : Dev Cert.Kernel24.nD,
    (Cert.Pre_ff_w1_device.fn (F := Bits) (m ((c.tc : Thread Cert.Kernel24.nD Cert.Kernel24.τ).loc Cert.Kernel24.main_arg0)) (m ((c.tc : Thread Cert.Kernel24.nD Cert.Kernel24.τ).loc Cert.Kernel24.main_arg1)) (m ((c.tc : Thread Cert.Kernel24.nD Cert.Kernel24.τ).loc Cert.Kernel24.main_arg2)) (m ((c.tc : Thread Cert.Kernel24.nD Cert.Kernel24.τ).loc Cert.Kernel24.main_arg3)) (m ((c.tc : Thread Cert.Kernel24.nD Cert.Kernel24.τ).loc Cert.Kernel24.main_arg4)) (m ((c.tc : Thread Cert.Kernel24.nD Cert.Kernel24.τ).loc Cert.Kernel24.main_arg5)) (m ((c.tc : Thread Cert.Kernel24.nD Cert.Kernel24.τ).loc Cert.Kernel24.main_arg6)) (m ((c.tc : Thread Cert.Kernel24.nD Cert.Kernel24.τ).loc Cert.Kernel24.main_arg7)) (m ((c.tc : Thread Cert.Kernel24.nD Cert.Kernel24.τ).loc Cert.Kernel24.main_arg8)) (m ((c.tc : Thread Cert.Kernel24.nD Cert.Kernel24.τ).loc Cert.Kernel24.main_arg9))) = (fun _ => 1#1)

def Pre_Kernel24Ideal [hPre_ff_w1_device : Cert.Pre_ff_w1_device.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_ff_w1_device.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5)) (m ((c.tc : Thread Cert.Kernel24Ideal.nD Cert.Kernel24Ideal.τ).loc Cert.Kernel24Ideal.main_arg6)) (m ((c.tc : Thread Cert.Kernel24Ideal.nD Cert.Kernel24Ideal.τ).loc Cert.Kernel24Ideal.main_arg7)) (m ((c.tc : Thread Cert.Kernel24Ideal.nD Cert.Kernel24Ideal.τ).loc Cert.Kernel24Ideal.main_arg8)) (m ((c.tc : Thread Cert.Kernel24Ideal.nD Cert.Kernel24Ideal.τ).loc Cert.Kernel24Ideal.main_arg9))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_ff_w1_device [hPre_ff_w1_device : Cert.Pre_ff_w1_device.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_ff_w1_device.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4)) (m ((c.tc : Thread Cert.Reference24Ideal.nD Cert.Reference24Ideal.τ).loc Cert.Reference24Ideal.main_arg5)) (m ((c.tc : Thread Cert.Reference24Ideal.nD Cert.Reference24Ideal.τ).loc Cert.Reference24Ideal.main_arg6)) (m ((c.tc : Thread Cert.Reference24Ideal.nD Cert.Reference24Ideal.τ).loc Cert.Reference24Ideal.main_arg7)) (m ((c.tc : Thread Cert.Reference24Ideal.nD Cert.Reference24Ideal.τ).loc Cert.Reference24Ideal.main_arg8)) (m ((c.tc : Thread Cert.Reference24Ideal.nD Cert.Reference24Ideal.τ).loc Cert.Reference24Ideal.main_arg9))) = (fun _ => 1#1)

def Pre_Kernel25 [hPre_ff_w2_device : Cert.Pre_ff_w2_device.Facts] (m : (ℓ : Loc Cert.Kernel25.nD Cert.Kernel25.τ Cert.Kernel25.sig) → Buf (Elt Bits) ℓ) : Prop :=
  ∀ c : Dev Cert.Kernel25.nD,
    (Cert.Pre_ff_w2_device.fn (F := Bits) (m ((c.tc : Thread Cert.Kernel25.nD Cert.Kernel25.τ).loc Cert.Kernel25.main_arg0)) (m ((c.tc : Thread Cert.Kernel25.nD Cert.Kernel25.τ).loc Cert.Kernel25.main_arg1)) (m ((c.tc : Thread Cert.Kernel25.nD Cert.Kernel25.τ).loc Cert.Kernel25.main_arg2)) (m ((c.tc : Thread Cert.Kernel25.nD Cert.Kernel25.τ).loc Cert.Kernel25.main_arg3)) (m ((c.tc : Thread Cert.Kernel25.nD Cert.Kernel25.τ).loc Cert.Kernel25.main_arg4)) (m ((c.tc : Thread Cert.Kernel25.nD Cert.Kernel25.τ).loc Cert.Kernel25.main_arg5)) (m ((c.tc : Thread Cert.Kernel25.nD Cert.Kernel25.τ).loc Cert.Kernel25.main_arg6)) (m ((c.tc : Thread Cert.Kernel25.nD Cert.Kernel25.τ).loc Cert.Kernel25.main_arg7)) (m ((c.tc : Thread Cert.Kernel25.nD Cert.Kernel25.τ).loc Cert.Kernel25.main_arg8)) (m ((c.tc : Thread Cert.Kernel25.nD Cert.Kernel25.τ).loc Cert.Kernel25.main_arg9))) = (fun _ => 1#1)

def Pre_Kernel25Ideal [hPre_ff_w2_device : Cert.Pre_ff_w2_device.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_ff_w2_device.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8)) (m ((c.tc : Thread Cert.Kernel25Ideal.nD Cert.Kernel25Ideal.τ).loc Cert.Kernel25Ideal.main_arg9))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_ff_w2_device [hPre_ff_w2_device : Cert.Pre_ff_w2_device.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_ff_w2_device.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8)) (m ((c.tc : Thread Cert.Reference25Ideal.nD Cert.Reference25Ideal.τ).loc Cert.Reference25Ideal.main_arg9))) = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_below_infinity [hKernel5Ideal : Cert.Kernel5Ideal.Facts] [hPre_below_infinity : Cert.Pre_below_infinity.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_below_infinity m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_below_infinity [hReference5Ideal : Cert.Reference5Ideal.Facts] [hPre_below_infinity : Cert.Pre_below_infinity.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_below_infinity m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] [hPre_dn_w_out_device : Cert.Pre_dn_w_out_device.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8)
      ∧ r.2.mem ((c.tc : Thread Cert.Kernel21.nD Cert.Kernel21.τ).loc Cert.Kernel21.main_arg9) = m ((c.tc : Thread Cert.Kernel21.nD Cert.Kernel21.τ).loc Cert.Kernel21.main_arg9))
      ∧ r.2.sem = fun _ => 0)

def quiescent_Kernel21Ideal [hKernel21Ideal : Cert.Kernel21Ideal.Facts] [hPre_dn_w_out_device : Cert.Pre_dn_w_out_device.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
      ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8)
      ∧ r.2.mem ((c.tc : Thread Cert.Reference21Ideal.nD Cert.Reference21Ideal.τ).loc Cert.Reference21Ideal.main_arg9) = m ((c.tc : Thread Cert.Reference21Ideal.nD Cert.Reference21Ideal.τ).loc Cert.Reference21Ideal.main_arg9))
      ∧ r.2.sem = fun _ => 0)

def quiescent_Reference21Ideal_pre_dn_w_out_device [hReference21Ideal : Cert.Reference21Ideal.Facts] [hPre_dn_w_out_device : Cert.Pre_dn_w_out_device.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_dn_w_out_device m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8)
      ∧ r.2.mem ((c.tc : Thread Cert.Reference21Ideal.nD Cert.Reference21Ideal.τ).loc Cert.Reference21Ideal.main_arg9) = m ((c.tc : Thread Cert.Reference21Ideal.nD Cert.Reference21Ideal.τ).loc Cert.Reference21Ideal.main_arg9))
      ∧ r.2.sem = fun _ => 0)

def quiescent_Kernel22 [hKernel22 : Cert.Kernel22.Facts] [hPre_dn_w_in_device : Cert.Pre_dn_w_in_device.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9))
      ∧ r.2.sem = fun _ => 0)

def quiescent_Kernel22Ideal [hKernel22Ideal : Cert.Kernel22Ideal.Facts] [hPre_dn_w_in_device : Cert.Pre_dn_w_in_device.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9))
      ∧ r.2.sem = fun _ => 0)

def quiescent_Reference22Ideal_pre_dn_w_in_device [hReference22Ideal : Cert.Reference22Ideal.Facts] [hPre_dn_w_in_device : Cert.Pre_dn_w_in_device.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_dn_w_in_device m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9))
      ∧ r.2.sem = fun _ => 0)

def quiescent_Kernel23 [hKernel23 : Cert.Kernel23.Facts] [hPre_cf_w_in_device : Cert.Pre_cf_w_in_device.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8)
      ∧ r.2.mem ((c.tc : Thread Cert.Kernel23.nD Cert.Kernel23.τ).loc Cert.Kernel23.main_arg9) = m ((c.tc : Thread Cert.Kernel23.nD Cert.Kernel23.τ).loc Cert.Kernel23.main_arg9))
      ∧ r.2.sem = fun _ => 0)

def quiescent_Kernel23Ideal [hKernel23Ideal : Cert.Kernel23Ideal.Facts] [hPre_cf_w_in_device : Cert.Pre_cf_w_in_device.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
      ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8)
      ∧ r.2.mem ((c.tc : Thread Cert.Reference23Ideal.nD Cert.Reference23Ideal.τ).loc Cert.Reference23Ideal.main_arg9) = m ((c.tc : Thread Cert.Reference23Ideal.nD Cert.Reference23Ideal.τ).loc Cert.Reference23Ideal.main_arg9))
      ∧ r.2.sem = fun _ => 0)

def quiescent_Reference23Ideal_pre_cf_w_in_device [hReference23Ideal : Cert.Reference23Ideal.Facts] [hPre_cf_w_in_device : Cert.Pre_cf_w_in_device.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_cf_w_in_device m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8)
      ∧ r.2.mem ((c.tc : Thread Cert.Reference23Ideal.nD Cert.Reference23Ideal.τ).loc Cert.Reference23Ideal.main_arg9) = m ((c.tc : Thread Cert.Reference23Ideal.nD Cert.Reference23Ideal.τ).loc Cert.Reference23Ideal.main_arg9))
      ∧ r.2.sem = fun _ => 0)

def quiescent_Kernel24 [hKernel24 : Cert.Kernel24.Facts] [hPre_ff_w1_device : Cert.Pre_ff_w1_device.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9))
      ∧ r.2.sem = fun _ => 0)

def quiescent_Kernel24Ideal [hKernel24Ideal : Cert.Kernel24Ideal.Facts] [hPre_ff_w1_device : Cert.Pre_ff_w1_device.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9))
      ∧ r.2.sem = fun _ => 0)

def quiescent_Reference24Ideal_pre_ff_w1_device [hReference24Ideal : Cert.Reference24Ideal.Facts] [hPre_ff_w1_device : Cert.Pre_ff_w1_device.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_ff_w1_device m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9))
      ∧ r.2.sem = fun _ => 0)

def quiescent_Kernel25 [hKernel25 : Cert.Kernel25.Facts] [hPre_ff_w2_device : Cert.Pre_ff_w2_device.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8)
      ∧ r.2.mem ((c.tc : Thread Cert.Kernel25.nD Cert.Kernel25.τ).loc Cert.Kernel25.main_arg9) = m ((c.tc : Thread Cert.Kernel25.nD Cert.Kernel25.τ).loc Cert.Kernel25.main_arg9))
      ∧ r.2.sem = fun _ => 0)

def quiescent_Kernel25Ideal [hKernel25Ideal : Cert.Kernel25Ideal.Facts] [hPre_ff_w2_device : Cert.Pre_ff_w2_device.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
      ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9))
      ∧ r.2.sem = fun _ => 0)

def quiescent_Reference25Ideal_pre_ff_w2_device [hReference25Ideal : Cert.Reference25Ideal.Facts] [hPre_ff_w2_device : Cert.Pre_ff_w2_device.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_ff_w2_device m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_below_infinity [hKernel5Ideal : Cert.Kernel5Ideal.Facts] [hReference5Ideal : Cert.Reference5Ideal.Facts] [hPre_below_infinity : Cert.Pre_below_infinity.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_below_infinity m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg0) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v18) = v0 c
          ∧ r.2.mem ((c.tc : Thread Cert.Reference19Ideal.nD Cert.Reference19Ideal.τ).loc Cert.Reference19Ideal.main_v15) = v1 c
          ∧ r.2.mem ((c.tc : Thread Cert.Reference19Ideal.nD Cert.Reference19Ideal.τ).loc Cert.Reference19Ideal.main_v12) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v42) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal [hKernel21Ideal : Cert.Kernel21Ideal.Facts] [hReference21Ideal : Cert.Reference21Ideal.Facts] [hPre_dn_w_out_device : Cert.Pre_dn_w_out_device.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)
      ∧ m' ((c.tc : Thread Cert.Reference21Ideal.nD Cert.Reference21Ideal.τ).loc Cert.Reference21Ideal.main_arg9) = m ((c.tc : Thread Cert.Kernel21Ideal.nD Cert.Kernel21Ideal.τ).loc Cert.Kernel21Ideal.main_arg9)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
          ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v42) = v0 c
          ∧ r.2.mem ((c.tc : Thread Cert.Reference21Ideal.nD Cert.Reference21Ideal.τ).loc Cert.Reference21Ideal.main_v43) = v1 c
          ∧ r.2.mem ((c.tc : Thread Cert.Reference21Ideal.nD Cert.Reference21Ideal.τ).loc Cert.Reference21Ideal.main_v44) = v2 c
          ∧ r.2.mem ((c.tc : Thread Cert.Reference21Ideal.nD Cert.Reference21Ideal.τ).loc Cert.Reference21Ideal.main_v45) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8)
          ∧ r.2.mem ((c.tc : Thread Cert.Reference21Ideal.nD Cert.Reference21Ideal.τ).loc Cert.Reference21Ideal.main_arg9) = m' ((c.tc : Thread Cert.Reference21Ideal.nD Cert.Reference21Ideal.τ).loc Cert.Reference21Ideal.main_arg9))

def preserves_Kernel22_Kernel22Ideal : Prop :=
  True

def algebraic_Kernel22Ideal_Reference22Ideal [hKernel22Ideal : Cert.Kernel22Ideal.Facts] [hReference22Ideal : Cert.Reference22Ideal.Facts] [hPre_dn_w_in_device : Cert.Pre_dn_w_in_device.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v42) = v0 c
          ∧ r.2.mem ((c.tc : Thread Cert.Reference22Ideal.nD Cert.Reference22Ideal.τ).loc Cert.Reference22Ideal.main_v43) = v1 c
          ∧ r.2.mem ((c.tc : Thread Cert.Reference22Ideal.nD Cert.Reference22Ideal.τ).loc Cert.Reference22Ideal.main_v44) = v2 c
          ∧ r.2.mem ((c.tc : Thread Cert.Reference22Ideal.nD Cert.Reference22Ideal.τ).loc Cert.Reference22Ideal.main_v45) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9))

def preserves_Kernel23_Kernel23Ideal : Prop :=
  True

def algebraic_Kernel23Ideal_Reference23Ideal [hKernel23Ideal : Cert.Kernel23Ideal.Facts] [hReference23Ideal : Cert.Reference23Ideal.Facts] [hPre_cf_w_in_device : Cert.Pre_cf_w_in_device.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)
      ∧ m' ((c.tc : Thread Cert.Reference23Ideal.nD Cert.Reference23Ideal.τ).loc Cert.Reference23Ideal.main_arg9) = m ((c.tc : Thread Cert.Kernel23Ideal.nD Cert.Kernel23Ideal.τ).loc Cert.Kernel23Ideal.main_arg9)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
          ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v42) = v0 c
          ∧ r.2.mem ((c.tc : Thread Cert.Reference23Ideal.nD Cert.Reference23Ideal.τ).loc Cert.Reference23Ideal.main_v43) = v1 c
          ∧ r.2.mem ((c.tc : Thread Cert.Reference23Ideal.nD Cert.Reference23Ideal.τ).loc Cert.Reference23Ideal.main_v44) = v2 c
          ∧ r.2.mem ((c.tc : Thread Cert.Reference23Ideal.nD Cert.Reference23Ideal.τ).loc Cert.Reference23Ideal.main_v45) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8)
          ∧ r.2.mem ((c.tc : Thread Cert.Reference23Ideal.nD Cert.Reference23Ideal.τ).loc Cert.Reference23Ideal.main_arg9) = m' ((c.tc : Thread Cert.Reference23Ideal.nD Cert.Reference23Ideal.τ).loc Cert.Reference23Ideal.main_arg9))

def preserves_Kernel24_Kernel24Ideal : Prop :=
  True

def algebraic_Kernel24Ideal_Reference24Ideal [hKernel24Ideal : Cert.Kernel24Ideal.Facts] [hReference24Ideal : Cert.Reference24Ideal.Facts] [hPre_ff_w1_device : Cert.Pre_ff_w1_device.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v42) = v0 c
          ∧ r.2.mem ((c.tc : Thread Cert.Reference24Ideal.nD Cert.Reference24Ideal.τ).loc Cert.Reference24Ideal.main_v43) = v1 c
          ∧ r.2.mem ((c.tc : Thread Cert.Reference24Ideal.nD Cert.Reference24Ideal.τ).loc Cert.Reference24Ideal.main_v44) = v2 c
          ∧ r.2.mem ((c.tc : Thread Cert.Reference24Ideal.nD Cert.Reference24Ideal.τ).loc Cert.Reference24Ideal.main_v45) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9))

def preserves_Kernel25_Kernel25Ideal : Prop :=
  True

def algebraic_Kernel25Ideal_Reference25Ideal [hKernel25Ideal : Cert.Kernel25Ideal.Facts] [hReference25Ideal : Cert.Reference25Ideal.Facts] [hPre_ff_w2_device : Cert.Pre_ff_w2_device.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)
      ∧ m' ((c.tc : Thread Cert.Reference25Ideal.nD Cert.Reference25Ideal.τ).loc Cert.Reference25Ideal.main_arg9) = m ((c.tc : Thread Cert.Kernel25Ideal.nD Cert.Kernel25Ideal.τ).loc Cert.Kernel25Ideal.main_arg9)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
          ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v42) = v0 c
          ∧ r.2.mem ((c.tc : Thread Cert.Reference25Ideal.nD Cert.Reference25Ideal.τ).loc Cert.Reference25Ideal.main_v43) = v1 c
          ∧ r.2.mem ((c.tc : Thread Cert.Reference25Ideal.nD Cert.Reference25Ideal.τ).loc Cert.Reference25Ideal.main_v44) = v2 c
          ∧ r.2.mem ((c.tc : Thread Cert.Reference25Ideal.nD Cert.Reference25Ideal.τ).loc Cert.Reference25Ideal.main_v45) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8)
          ∧ r.2.mem ((c.tc : Thread Cert.Reference25Ideal.nD Cert.Reference25Ideal.τ).loc Cert.Reference25Ideal.main_arg9) = m' ((c.tc : Thread Cert.Reference25Ideal.nD Cert.Reference25Ideal.τ).loc Cert.Reference25Ideal.main_arg9))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_1)) (v1 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_1) = v0 c
          ∧ r.2.mem ((c.tc : Thread Cert.Kernel26Ideal.nD Cert.Kernel26Ideal.τ).loc Cert.Kernel26Ideal.main_v0_2) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v28) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)) →
    ∃ (v0 : (c : Dev Cert.Kernel27Ideal.nD) → Buf (Elt Ideal) ((c.tc : Thread Cert.Kernel27Ideal.nD Cert.Kernel27Ideal.τ).loc Cert.Kernel27Ideal.main_v0_4)) (v1 : (c : Dev Cert.Kernel27Ideal.nD) → Buf (Elt Ideal) ((c.tc : Thread Cert.Kernel27Ideal.nD Cert.Kernel27Ideal.τ).loc Cert.Kernel27Ideal.main_v0_5)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_4) = v0 c
          ∧ r.2.mem ((c.tc : Thread Cert.Kernel27Ideal.nD Cert.Kernel27Ideal.τ).loc Cert.Kernel27Ideal.main_v0_5) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v54) = v0 c
          ∧ r.2.mem ((c.tc : Thread Cert.Reference27Ideal.nD Cert.Reference27Ideal.τ).loc Cert.Reference27Ideal.main_v51) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_3) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v232) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_2) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v24) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_below_infinity : Cert.Pre_below_infinity.Facts) (hPre_dn_w_out_device : Cert.Pre_dn_w_out_device.Facts) (hPre_dn_w_in_device : Cert.Pre_dn_w_in_device.Facts) (hPre_cf_w_in_device : Cert.Pre_cf_w_in_device.Facts) (hPre_ff_w1_device : Cert.Pre_ff_w1_device.Facts) (hPre_ff_w2_device : Cert.Pre_ff_w2_device.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_below_infinity (hKernel5Ideal := hKernel5Ideal) (hPre_below_infinity := hPre_below_infinity)
    ∧ quiescent_Reference5Ideal (hReference5Ideal := hReference5Ideal)
    ∧ quiescent_Reference5Ideal_pre_below_infinity (hReference5Ideal := hReference5Ideal) (hPre_below_infinity := hPre_below_infinity)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21) (hPre_dn_w_out_device := hPre_dn_w_out_device)
    ∧ quiescent_Kernel21Ideal (hKernel21Ideal := hKernel21Ideal) (hPre_dn_w_out_device := hPre_dn_w_out_device)
    ∧ quiescent_Reference21Ideal (hReference21Ideal := hReference21Ideal)
    ∧ quiescent_Reference21Ideal_pre_dn_w_out_device (hReference21Ideal := hReference21Ideal) (hPre_dn_w_out_device := hPre_dn_w_out_device)
    ∧ quiescent_Kernel22 (hKernel22 := hKernel22) (hPre_dn_w_in_device := hPre_dn_w_in_device)
    ∧ quiescent_Kernel22Ideal (hKernel22Ideal := hKernel22Ideal) (hPre_dn_w_in_device := hPre_dn_w_in_device)
    ∧ quiescent_Reference22Ideal (hReference22Ideal := hReference22Ideal)
    ∧ quiescent_Reference22Ideal_pre_dn_w_in_device (hReference22Ideal := hReference22Ideal) (hPre_dn_w_in_device := hPre_dn_w_in_device)
    ∧ quiescent_Kernel23 (hKernel23 := hKernel23) (hPre_cf_w_in_device := hPre_cf_w_in_device)
    ∧ quiescent_Kernel23Ideal (hKernel23Ideal := hKernel23Ideal) (hPre_cf_w_in_device := hPre_cf_w_in_device)
    ∧ quiescent_Reference23Ideal (hReference23Ideal := hReference23Ideal)
    ∧ quiescent_Reference23Ideal_pre_cf_w_in_device (hReference23Ideal := hReference23Ideal) (hPre_cf_w_in_device := hPre_cf_w_in_device)
    ∧ quiescent_Kernel24 (hKernel24 := hKernel24) (hPre_ff_w1_device := hPre_ff_w1_device)
    ∧ quiescent_Kernel24Ideal (hKernel24Ideal := hKernel24Ideal) (hPre_ff_w1_device := hPre_ff_w1_device)
    ∧ quiescent_Reference24Ideal (hReference24Ideal := hReference24Ideal)
    ∧ quiescent_Reference24Ideal_pre_ff_w1_device (hReference24Ideal := hReference24Ideal) (hPre_ff_w1_device := hPre_ff_w1_device)
    ∧ quiescent_Kernel25 (hKernel25 := hKernel25) (hPre_ff_w2_device := hPre_ff_w2_device)
    ∧ quiescent_Kernel25Ideal (hKernel25Ideal := hKernel25Ideal) (hPre_ff_w2_device := hPre_ff_w2_device)
    ∧ quiescent_Reference25Ideal (hReference25Ideal := hReference25Ideal)
    ∧ quiescent_Reference25Ideal_pre_ff_w2_device (hReference25Ideal := hReference25Ideal) (hPre_ff_w2_device := hPre_ff_w2_device)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_below_infinity (hKernel5Ideal := hKernel5Ideal) (hReference5Ideal := hReference5Ideal) (hPre_below_infinity := hPre_below_infinity)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal) (hPre_dn_w_out_device := hPre_dn_w_out_device)
    ∧ preserves_Kernel22_Kernel22Ideal
    ∧ algebraic_Kernel22Ideal_Reference22Ideal (hKernel22Ideal := hKernel22Ideal) (hReference22Ideal := hReference22Ideal) (hPre_dn_w_in_device := hPre_dn_w_in_device)
    ∧ preserves_Kernel23_Kernel23Ideal
    ∧ algebraic_Kernel23Ideal_Reference23Ideal (hKernel23Ideal := hKernel23Ideal) (hReference23Ideal := hReference23Ideal) (hPre_cf_w_in_device := hPre_cf_w_in_device)
    ∧ preserves_Kernel24_Kernel24Ideal
    ∧ algebraic_Kernel24Ideal_Reference24Ideal (hKernel24Ideal := hKernel24Ideal) (hReference24Ideal := hReference24Ideal) (hPre_ff_w1_device := hPre_ff_w1_device)
    ∧ preserves_Kernel25_Kernel25Ideal
    ∧ algebraic_Kernel25Ideal_Reference25Ideal (hKernel25Ideal := hKernel25Ideal) (hReference25Ideal := hReference25Ideal) (hPre_ff_w2_device := hPre_ff_w2_device)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_below_infinity.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩

class Facts : Prop where
  bcast_S_S2048x4096 : S_.BroadcastsInDim S2048x4096 (![] : Fin 0 → Fin S2048x4096.rank)

variable [Facts]

def fn {F : FTy → Type} [FloatOps F] (main_arg0 : FVec F S2048x4096 .f32) (main_arg1 : FVec F S4096x1024 .bf16) (main_arg2 : FVec F S2048x1024 .bf16) : IVec S2048x4096 1 :=
  let main_cst : FVec F S_ .f32 := constant S_ .f32 0x7F800000#32
  let main_v0 : FVec F S2048x4096 .f32 := broadcastInDim S2048x4096 ![] bcast_S_S2048x4096 main_cst
  let main_v1 : IVec S2048x4096 1 := cmpf .olt main_arg0 main_v0
  main_v1
-- ==== Pre_cf_w_in_device.lean ====
abbrev S8x1024x256 : Shape := ⟨3, ![8, 1024, 256]⟩
abbrev S1 : Shape := ⟨1, ![1]⟩
abbrev S2x1024x256 : Shape := ⟨3, ![2, 1024, 256]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x256 .bf16) (main_arg1 : FVec F S8x1024x256 .bf16) (main_arg2 : IVec S1 32) (main_arg3 : FVec F S2x1024x256 .f32) (main_arg4 : FVec F S2x1024x256 .f32) (main_arg5 : FVec F S2x1024x256 .f32) (main_arg6 : FVec F S2x1024x256 .f32) (main_arg7 : FVec F S2x1024x256 .f32) (main_arg8 : FVec F S2x1024x256 .f32) (main_arg9 : FVec F S2x1024x256 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_dn_w_in_device.lean ====
abbrev S8x1024x514 : Shape := ⟨3, ![8, 1024, 514]⟩
abbrev S1 : Shape := ⟨1, ![1]⟩
abbrev S2x1024x514 : Shape := ⟨3, ![2, 1024, 514]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x514 .bf16) (main_arg1 : FVec F S8x1024x514 .bf16) (main_arg2 : IVec S1 32) (main_arg3 : FVec F S2x1024x514 .f32) (main_arg4 : FVec F S2x1024x514 .f32) (main_arg5 : FVec F S2x1024x514 .f32) (main_arg6 : FVec F S2x1024x514 .f32) (main_arg7 : FVec F S2x1024x514 .f32) (main_arg8 : FVec F S2x1024x514 .f32) (main_arg9 : FVec F S2x1024x514 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_dn_w_out_device.lean ====
abbrev S8x128x1024 : Shape := ⟨3, ![8, 128, 1024]⟩
abbrev S1 : Shape := ⟨1, ![1]⟩
abbrev S2x128x1024 : Shape := ⟨3, ![2, 128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x128x1024 .bf16) (main_arg1 : FVec F S8x128x1024 .bf16) (main_arg2 : IVec S1 32) (main_arg3 : FVec F S2x128x1024 .f32) (main_arg4 : FVec F S2x128x1024 .f32) (main_arg5 : FVec F S2x128x1024 .f32) (main_arg6 : FVec F S2x128x1024 .f32) (main_arg7 : FVec F S2x128x1024 .f32) (main_arg8 : FVec F S2x128x1024 .f32) (main_arg9 : FVec F S2x128x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_ff_w1_device.lean ====
abbrev S8x1024x512 : Shape := ⟨3, ![8, 1024, 512]⟩
abbrev S1 : Shape := ⟨1, ![1]⟩
abbrev S4x1024x512 : Shape := ⟨3, ![4, 1024, 512]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x512 .bf16) (main_arg1 : FVec F S8x1024x512 .bf16) (main_arg2 : IVec S1 32) (main_arg3 : FVec F S4x1024x512 .f32) (main_arg4 : FVec F S4x1024x512 .f32) (main_arg5 : FVec F S4x1024x512 .f32) (main_arg6 : FVec F S4x1024x512 .f32) (main_arg7 : FVec F S4x1024x512 .f32) (main_arg8 : FVec F S4x1024x512 .f32) (main_arg9 : FVec F S4x1024x512 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_ff_w2_device.lean ====
abbrev S8x512x1024 : Shape := ⟨3, ![8, 512, 1024]⟩
abbrev S1 : Shape := ⟨1, ![1]⟩
abbrev S4x512x1024 : Shape := ⟨3, ![4, 512, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x512x1024 .bf16) (main_arg1 : FVec F S8x512x1024 .bf16) (main_arg2 : IVec S1 32) (main_arg3 : FVec F S4x512x1024 .f32) (main_arg4 : FVec F S4x512x1024 .f32) (main_arg5 : FVec F S4x512x1024 .f32) (main_arg6 : FVec F S4x512x1024 .f32) (main_arg7 : FVec F S4x512x1024 .f32) (main_arg8 : FVec F S4x512x1024 .f32) (main_arg9 : FVec F S4x512x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Kernel.lean ====
abbrev S8x2048x128 : Shape := ⟨3, ![8, 2048, 128]⟩
abbrev S8x2048x64 : Shape := ⟨3, ![8, 2048, 64]⟩
abbrev S8x2048x1 : Shape := ⟨3, ![8, 2048, 1]⟩
abbrev S2048x1024 : Shape := ⟨2, ![2048, 1024]⟩
abbrev S32x8x128x128 : Shape := ⟨4, ![32, 8, 128, 128]⟩
abbrev S8x128x128 : Shape := ⟨3, ![8, 128, 128]⟩
abbrev S8x128x64 : Shape := ⟨3, ![8, 128, 64]⟩
abbrev S8x128x1 : Shape := ⟨3, ![8, 128, 1]⟩
abbrev S128x1024 : Shape := ⟨2, ![128, 1024]⟩
abbrev S2x8x128x128 : Shape := ⟨4, ![2, 8, 128, 128]⟩
abbrev S1x128x128 : Shape := ⟨3, ![1, 128, 128]⟩
abbrev S128x128 : Shape := ⟨2, ![128, 128]⟩
abbrev S1x1x128x128 : Shape := ⟨4, ![1, 1, 128, 128]⟩
abbrev S1x64x128 : Shape := ⟨3, ![1, 64, 128]⟩
abbrev S64x128 : Shape := ⟨2, ![64, 128]⟩
abbrev S1x64x1 : Shape := ⟨3, ![1, 64, 1]⟩
abbrev S64x1 : Shape := ⟨2, ![64, 1]⟩
abbrev S1x1 : Shape := ⟨2, ![1, 1]⟩
abbrev S1x64x64 : Shape := ⟨3, ![1, 64, 64]⟩
abbrev S64x64 : Shape := ⟨2, ![64, 64]⟩
abbrev S128 : Shape := ⟨1, ![128]⟩
abbrev S128x1 : Shape := ⟨2, ![128, 1]⟩
abbrev S1 : Shape := ⟨1, ![1]⟩

abbrev nBuf : Space → Nat
  | .hbm => 15
  | .vmem => 46
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x128, .f32⟩
  | .hbm, ⟨4, _⟩ => ⟨S8x2048x64, .f32⟩
  | .hbm, ⟨5, _⟩ => ⟨S8x2048x1, .f32⟩
  | .hbm, ⟨6, _⟩ => ⟨S2048x1024, .f32⟩
  | .hbm, ⟨7, _⟩ => ⟨S2048x1024, .f32⟩
  | .hbm, ⟨8, _⟩ => ⟨S32x8x128x128, .f32⟩
  | .hbm, ⟨9, _⟩ => ⟨S8x2048x128, .f32⟩
  | .hbm, ⟨10, _⟩ => ⟨S8x2048x128, .f32⟩
  | .hbm, ⟨11, _⟩ => ⟨S8x2048x64, .f32⟩
  | .hbm, ⟨12, _⟩ => ⟨S8x2048x128, .f32⟩
  | .hbm, ⟨13, _⟩ => ⟨S8x2048x128, .f32⟩
  | .hbm, ⟨14, _⟩ => ⟨S8x2048x1, .f32⟩
  | .local _ .vmem, ⟨0, _⟩ => ⟨S8x128x128, .f32⟩
  | .local _ .vmem, ⟨1, _⟩ => ⟨S8x128x128, .f32⟩
  | .local _ .vmem, ⟨2, _⟩ => ⟨S8x128x128, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .f32⟩
  | .local _ .vmem, ⟨6, _⟩ => ⟨S8x128x128, .f32⟩
  | .local _ .vmem, ⟨7, _⟩ => ⟨S8x128x128, .f32⟩
  | .local _ .vmem, ⟨8, _⟩ => ⟨S8x128x64, .f32⟩
  | .local _ .vmem, ⟨9, _⟩ => ⟨S8x128x64, .f32⟩
  | .local _ .vmem, ⟨10, _⟩ => ⟨S8x128x1, .f32⟩
  | .local _ .vmem, ⟨11, _⟩ => ⟨S8x128x1, .f32⟩
  | .local _ .vmem, ⟨12, _⟩ => ⟨S128x1024, .f32⟩
  | .local _ .vmem, ⟨13, _⟩ => ⟨S128x1024, .f32⟩
  | .local _ .vmem, ⟨14, _⟩ => ⟨S2x8x128x128, .f32⟩
  | .local _ .vmem, ⟨15, _⟩ => ⟨S2x8x128x128, .f32⟩
  | .local _ .vmem, ⟨16, _⟩ => ⟨S8x128x128, .f32⟩
  | .local _ .vmem, ⟨17, _⟩ => ⟨S8x128x128, .f32⟩
  | .local _ .vmem, ⟨18, _⟩ => ⟨S8x128x128, .f32⟩
  | .local _ .vmem, ⟨19, _⟩ => ⟨S8x128x128, .f32⟩
  | .local _ .vmem, ⟨20, _⟩ => ⟨S8x128x128, .f32⟩
  | .local _ .vmem, ⟨21, _⟩ => ⟨S8x128x128, .f32⟩
  | .local _ .vmem, ⟨22, _⟩ => ⟨S8x128x128, .f32⟩
  | .local _ .vmem, ⟨23, _⟩ => ⟨S8x128x128, .f32⟩
  | .local _ .vmem, ⟨24, _⟩ => ⟨S8x128x128, .f32⟩
  | .local _ .vmem, ⟨25, _⟩ => ⟨S8x128x64, .f32⟩
  | .local _ .vmem, ⟨26, _⟩ => ⟨S8x128x64, .f32⟩
  | .local _ .vmem, ⟨27, _⟩ => ⟨S8x128x1, .f32⟩
  | .local _ .vmem, ⟨28, _⟩ => ⟨S8x128x1, .f32⟩
  | .local _ .vmem, ⟨29, _⟩ => ⟨S2x8x128x128, .f32⟩
  | .local _ .vmem, ⟨30, _⟩ => ⟨S2x8x128x128, .f32⟩
  | .local _ .vmem, ⟨31, _⟩ => ⟨S128x1024, .f32⟩
  | .local _ .vmem, ⟨32, _⟩ => ⟨S128x1024, .f32⟩
  | .local _ .vmem, ⟨33, _⟩ => ⟨S8x128x128, .f32⟩
  | .local _ .vmem, ⟨34, _⟩ => ⟨S8x128x128, .f32⟩
  | .local _ .vmem, ⟨35, _⟩ => ⟨S8x128x128, .f32⟩
  | .local _ .vmem, ⟨36, _⟩ => ⟨S8x128x128, .f32⟩
  | .local _ .vmem, ⟨37, _⟩ => ⟨S8x128x64, .f32⟩
  | .local _ .vmem, ⟨38, _⟩ => ⟨S8x128x64, .f32⟩
  | .local _ .vmem, ⟨39, _⟩ => ⟨S8x128x128, .f32⟩
  | .local _ .vmem, ⟨40, _⟩ => ⟨S8x128x128, .f32⟩
  | .local _ .vmem, ⟨41, _⟩ => ⟨S8x128x128, .f32⟩
  | .local _ .vmem, ⟨42, _⟩ => ⟨S8x128x128, .f32⟩
  | .local _ .vmem, ⟨43, _⟩ => ⟨S8x128x1, .f32⟩
  | .local _ .vmem, ⟨44, _⟩ => ⟨S8x128x1, .f32⟩
  | .local _ .vmem, ⟨45, _⟩ => ⟨S8x128x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_2 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_3 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_4 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_5 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_6 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_7 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_8 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_9 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_10 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_11 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_12 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_13 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

abbrev stage1_0 : Fin 2 → Memref sig .tc .vmem S8x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x128x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x8x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x128x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x128x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8x128x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S8x128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S8x128x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S8x128x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== KernelIdeal.lean ====
abbrev S8x2048x128 : Shape := ⟨3, ![8, 2048, 128]⟩
abbrev S8x2048x64 : Shape := ⟨3, ![8, 2048, 64]⟩
abbrev S8x2048x1 : Shape := ⟨3, ![8, 2048, 1]⟩
abbrev S2048x1024 : Shape := ⟨2, ![2048, 1024]⟩
abbrev S32x8x128x128 : Shape := ⟨4, ![32, 8, 128, 128]⟩
abbrev S8x128x128 : Shape := ⟨3, ![8, 128, 128]⟩
abbrev S8x128x64 : Shape := ⟨3, ![8, 128, 64]⟩
abbrev S8x128x1 : Shape := ⟨3, ![8, 128, 1]⟩
abbrev S128x1024 : Shape := ⟨2, ![128, 1024]⟩
abbrev S2x8x128x128 : Shape := ⟨4, ![2, 8, 128, 128]⟩
abbrev S1x128x128 : Shape := ⟨3, ![1, 128, 128]⟩
abbrev S128x128 : Shape := ⟨2, ![128, 128]⟩
abbrev S1x1x128x128 : Shape := ⟨4, ![1, 1, 128, 128]⟩
abbrev S1x64x128 : Shape := ⟨3, ![1, 64, 128]⟩
abbrev S64x128 : Shape := ⟨2, ![64, 128]⟩
abbrev S1x64x1 : Shape := ⟨3, ![1, 64, 1]⟩
abbrev S64x1 : Shape := ⟨2, ![64, 1]⟩
abbrev S1x1 : Shape := ⟨2, ![1, 1]⟩
abbrev S1x64x64 : Shape := ⟨3, ![1, 64, 64]⟩
abbrev S64x64 : Shape := ⟨2, ![64, 64]⟩
abbrev S128 : Shape := ⟨1, ![128]⟩
abbrev S128x1 : Shape := ⟨2, ![128, 1]⟩
abbrev S1 : Shape := ⟨1, ![1]⟩

abbrev nBuf : Space → Nat
  | .hbm => 15
  | .vmem => 46
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x128, .f32⟩
  | .hbm, ⟨4, _⟩ => ⟨S8x2048x64, .f32⟩
  | .hbm, ⟨5, _⟩ => ⟨S8x2048x1, .f32⟩
  | .hbm, ⟨6, _⟩ => ⟨S2048x1024, .f32⟩
  | .hbm, ⟨7, _⟩ => ⟨S2048x1024, .f32⟩
  | .hbm, ⟨8, _⟩ => ⟨S32x8x128x128, .f32⟩
  | .hbm, ⟨9, _⟩ => ⟨S8x2048x128, .f32⟩
  | .hbm, ⟨10, _⟩ => ⟨S8x2048x128, .f32⟩
  | .hbm, ⟨11, _⟩ => ⟨S8x2048x64, .f32⟩
  | .hbm, ⟨12, _⟩ => ⟨S8x2048x128, .f32⟩
  | .hbm, ⟨13, _⟩ => ⟨S8x2048x128, .f32⟩
  | .hbm, ⟨14, _⟩ => ⟨S8x2048x1, .f32⟩
  | .local _ .vmem, ⟨0, _⟩ => ⟨S8x128x128, .f32⟩
  | .local _ .vmem, ⟨1, _⟩ => ⟨S8x128x128, .f32⟩
  | .local _ .vmem, ⟨2, _⟩ => ⟨S8x128x128, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .f32⟩
  | .local _ .vmem, ⟨6, _⟩ => ⟨S8x128x128, .f32⟩
  | .local _ .vmem, ⟨7, _⟩ => ⟨S8x128x128, .f32⟩
  | .local _ .vmem, ⟨8, _⟩ => ⟨S8x128x64, .f32⟩
  | .local _ .vmem, ⟨9, _⟩ => ⟨S8x128x64, .f32⟩
  | .local _ .vmem, ⟨10, _⟩ => ⟨S8x128x1, .f32⟩
  | .local _ .vmem, ⟨11, _⟩ => ⟨S8x128x1, .f32⟩
  | .local _ .vmem, ⟨12, _⟩ => ⟨S128x1024, .f32⟩
  | .local _ .vmem, ⟨13, _⟩ => ⟨S128x1024, .f32⟩
  | .local _ .vmem, ⟨14, _⟩ => ⟨S2x8x128x128, .f32⟩
  | .local _ .vmem, ⟨15, _⟩ => ⟨S2x8x128x128, .f32⟩
  | .local _ .vmem, ⟨16, _⟩ => ⟨S8x128x128, .f32⟩
  | .local _ .vmem, ⟨17, _⟩ => ⟨S8x128x128, .f32⟩
  | .local _ .vmem, ⟨18, _⟩ => ⟨S8x128x128, .f32⟩
  | .local _ .vmem, ⟨19, _⟩ => ⟨S8x128x128, .f32⟩
  | .local _ .vmem, ⟨20, _⟩ => ⟨S8x128x128, .f32⟩
  | .local _ .vmem, ⟨21, _⟩ => ⟨S8x128x128, .f32⟩
  | .local _ .vmem, ⟨22, _⟩ => ⟨S8x128x128, .f32⟩
  | .local _ .vmem, ⟨23, _⟩ => ⟨S8x128x128, .f32⟩
  | .local _ .vmem, ⟨24, _⟩ => ⟨S8x128x128, .f32⟩
  | .local _ .vmem, ⟨25, _⟩ => ⟨S8x128x64, .f32⟩
  | .local _ .vmem, ⟨26, _⟩ => ⟨S8x128x64, .f32⟩
  | .local _ .vmem, ⟨27, _⟩ => ⟨S8x128x1, .f32⟩
  | .local _ .vmem, ⟨28, _⟩ => ⟨S8x128x1, .f32⟩
  | .local _ .vmem, ⟨29, _⟩ => ⟨S2x8x128x128, .f32⟩
  | .local _ .vmem, ⟨30, _⟩ => ⟨S2x8x128x128, .f32⟩
  | .local _ .vmem, ⟨31, _⟩ => ⟨S128x1024, .f32⟩
  | .local _ .vmem, ⟨32, _⟩ => ⟨S128x1024, .f32⟩
  | .local _ .vmem, ⟨33, _⟩ => ⟨S8x128x128, .f32⟩
  | .local _ .vmem, ⟨34, _⟩ => ⟨S8x128x128, .f32⟩
  | .local _ .vmem, ⟨35, _⟩ => ⟨S8x128x128, .f32⟩
  | .local _ .vmem, ⟨36, _⟩ => ⟨S8x128x128, .f32⟩
  | .local _ .vmem, ⟨37, _⟩ => ⟨S8x128x64, .f32⟩
  | .local _ .vmem, ⟨38, _⟩ => ⟨S8x128x64, .f32⟩
  | .local _ .vmem, ⟨39, _⟩ => ⟨S8x128x128, .f32⟩
  | .local _ .vmem, ⟨40, _⟩ => ⟨S8x128x128, .f32⟩
  | .local _ .vmem, ⟨41, _⟩ => ⟨S8x128x128, .f32⟩
  | .local _ .vmem, ⟨42, _⟩ => ⟨S8x128x128, .f32⟩
  | .local _ .vmem, ⟨43, _⟩ => ⟨S8x128x1, .f32⟩
  | .local _ .vmem, ⟨44, _⟩ => ⟨S8x128x1, .f32⟩
  | .local _ .vmem, ⟨45, _⟩ => ⟨S8x128x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_2 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_3 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_4 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_5 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_6 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_7 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_8 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_9 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_10 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_11 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_12 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_13 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

abbrev stage1_0 : Fin 2 → Memref sig .tc .vmem S8x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x128x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x8x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x128x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x128x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8x128x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S8x128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S8x128x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S8x128x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== Kernel2.lean ====
abbrev S2048x1024 : Shape := ⟨2, ![2048, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S2048x4096 : Shape := ⟨2, ![2048, 4096]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S1024x8x512, .bf16⟩
  | .hbm, ⟨3, _⟩ => ⟨S8x1024x512, .bf16⟩
  | .hbm, ⟨4, _⟩ => ⟨S2048x4096, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .f32⟩
  | .hbm, ⟨3, _⟩ => ⟨S1024x4096, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel3.lean ====
abbrev S2048x4096 : Shape := ⟨2, ![2048, 4096]⟩
abbrev S4096x1024 : Shape := ⟨2, ![4096, 1024]⟩
abbrev S2048x1024 : Shape := ⟨2, ![2048, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x4096, .f32⟩
  | .hbm, ⟨3, _⟩ => ⟨S4096x1024, .f32⟩
  | .hbm, ⟨4, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S2048x4096 : Shape := ⟨2, ![2048, 4096]⟩
abbrev S2048x1024 : Shape := ⟨2, ![2048, 1024]⟩
abbrev S4096x1024 : Shape := ⟨2, ![4096, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x4096, .f32⟩
  | .hbm, ⟨3, _⟩ => ⟨S_, .f32⟩
  | .hbm, ⟨4, _⟩ => ⟨S4096x1024, .f32⟩
  | .hbm, ⟨5, _⟩ => ⟨S2048x1024, .f32⟩
  | .hbm, ⟨6, _⟩ => ⟨S2048x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S512x1024 : Shape := ⟨2, ![512, 1024]⟩
abbrev S2048x512 : Shape := ⟨2, ![2048, 512]⟩

abbrev nBuf : Space → Nat
  | .hbm => 9
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x1024, .bf16⟩
  | .hbm, ⟨2, _⟩ => ⟨S2048x1024, .bf16⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | .hbm, ⟨8, _⟩ => ⟨S2048x4096, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .bf16⟩
  | .hbm, ⟨2, _⟩ => ⟨S2048x1024, .bf16⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .i1⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x1024, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel6.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S2x512x512 : Shape := ⟨3, ![2, 512, 512]⟩
abbrev S512x1024 : Shape := ⟨2, ![512, 1024]⟩
abbrev S512x512 : Shape := ⟨2, ![512, 512]⟩
abbrev S1x512x512 : Shape := ⟨3, ![1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S2x512x512, .bf16⟩
  | .local _ .vmem, ⟨5, _⟩ => ⟨S2x512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S2048x1024, .f32⟩
  | .hbm, ⟨3, _⟩ => ⟨S_, .f32⟩
  | .hbm, ⟨4, _⟩ => ⟨S1024x4096, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S2048x4096 : Shape := ⟨2, ![2048, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S2048x1024 : Shape := ⟨2, ![2048, 1024]⟩
abbrev S8x512x512 : Shape := ⟨3, ![8, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S1024x8x512, .bf16⟩
  | .hbm, ⟨3, _⟩ => ⟨S8x1024x512, .bf16⟩
  | .hbm, ⟨4, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S8x512x512, .bf16⟩
  | .local _ .vmem, ⟨3, _⟩ => ⟨S8x512x512, .bf16⟩
  | .local _ .vmem, ⟨4, _⟩ => ⟨S1024x512, .f32⟩
  | .local _ .vmem, ⟨5, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x4096 : Shape := ⟨2, ![2048, 4096]⟩
abbrev S1024x4096 : Shape := ⟨2, ![1024, 4096]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S1024x4096, .f32⟩
  | .hbm, ⟨3, _⟩ => ⟨S_, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x1024 : Shape := ⟨2, ![2048, 1024]⟩
abbrev S1024x4224 : Shape := ⟨2, ![1024, 4224]⟩
abbrev S2048x4224 : Shape := ⟨2, ![2048, 4224]⟩
abbrev S1024x1408 : Shape := ⟨2, ![1024, 1408]⟩
abbrev S2048x1408 : Shape := ⟨2, ![2048, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x4224, .bf16⟩
  | .hbm, ⟨2, _⟩ => ⟨S2048x4224, .f32⟩
  | .local _ .vmem, ⟨0, _⟩ => ⟨S2048x1024, .bf16⟩
  | .local _ .vmem, ⟨1, _⟩ => ⟨S1024x1408, .bf16⟩
  | .local _ .vmem, ⟨2, _⟩ => ⟨S1024x1408, .bf16⟩
  | .local _ .vmem, ⟨3, _⟩ => ⟨S2048x1408, .f32⟩
  | .local _ .vmem, ⟨4, _⟩ => ⟨S2048x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S1024x4224 : Shape := ⟨2, ![1024, 4224]⟩
abbrev S2048x4224 : Shape := ⟨2, ![2048, 4224]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4224, .bf16⟩
  | .hbm, ⟨2, _⟩ => ⟨S2048x1024, .f32⟩
  | .hbm, ⟨3, _⟩ => ⟨S1024x4224, .f32⟩
  | .hbm, ⟨4, _⟩ => ⟨S2048x4224, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x1024 : Shape := ⟨2, ![2048, 1024]⟩
abbrev S2048x4224 : Shape := ⟨2, ![2048, 4224]⟩
abbrev S1024x4224 : Shape := ⟨2, ![1024, 4224]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x4224, .bf16⟩
  | .hbm, ⟨2, _⟩ => ⟨S1024x4224, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .bf16⟩
  | .local _ .vmem, ⟨5, _⟩ => ⟨S512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S2048x4224 : Shape := ⟨2, ![2048, 4224]⟩
abbrev S_ : Shape := ⟨0, ![]⟩
abbrev S1024x4224 : Shape := ⟨2, ![1024, 4224]⟩
abbrev S4224x1024 : Shape := ⟨2, ![4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4224, .bf16⟩
  | .hbm, ⟨2, _⟩ => ⟨S2048x1024, .f32⟩
  | .hbm, ⟨3, _⟩ => ⟨S_, .f32⟩
  | .hbm, ⟨4, _⟩ => ⟨S1024x4224, .f32⟩
  | .hbm, ⟨5, _⟩ => ⟨S2048x4224, .f32⟩
  | .hbm, ⟨6, _⟩ => ⟨S2048x4224, .f32⟩
  | .hbm, ⟨7, _⟩ => ⟨S4224x1024, .f32⟩
  | .hbm, ⟨8, _⟩ => ⟨S1024x4224, .f32⟩
  | .hbm, ⟨9, _⟩ => ⟨S1024x4224, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x4224 : Shape := ⟨2, ![2048, 4224]⟩
abbrev S1024x4224 : Shape := ⟨2, ![1024, 4224]⟩
abbrev S8x128 : Shape := ⟨2, ![8, 128]⟩
abbrev S2048x1024 : Shape := ⟨2, ![2048, 1024]⟩
abbrev S512x4224 : Shape := ⟨2, ![512, 4224]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x4224, .bf16⟩
  | .hbm, ⟨1, _⟩ => ⟨S1024x4224, .bf16⟩
  | .hbm, ⟨2, _⟩ => ⟨S8x128, .f32⟩
  | .hbm, ⟨3, _⟩ => ⟨S2048x1024, .f32⟩
  | .local _ .vmem, ⟨0, _⟩ => ⟨S1024x4224, .bf16⟩
  | .local _ .vmem, ⟨1, _⟩ => ⟨S1024x4224, .bf16⟩
  | .local _ .vmem, ⟨2, _⟩ => ⟨S512x4224, .bf16⟩
  | .local _ .vmem, ⟨3, _⟩ => ⟨S512x4224, .bf16⟩
  | .local _ .vmem, ⟨4, _⟩ => ⟨S1024x512, .f32⟩
  | .local _ .vmem, ⟨5, _⟩ => ⟨S1024x512, .f32⟩
  | _, _ => ⟨S2048x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x4224 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x4224 : Shape := ⟨2, ![2048, 4224]⟩
abbrev S1024x4224 : Shape := ⟨2, ![1024, 4224]⟩
abbrev S8x128 : Shape := ⟨2, ![8, 128]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x4224, .bf16⟩
  | .hbm, ⟨1, _⟩ => ⟨S1024x4224, .bf16⟩
  | .hbm, ⟨2, _⟩ => ⟨S8x128, .f32⟩
  | .hbm, ⟨3, _⟩ => ⟨S1024x4224, .f32⟩
  | .hbm, ⟨4, _⟩ => ⟨S_, .f32⟩
  | .hbm, ⟨5, _⟩ => ⟨S2048x1024, .f32⟩
  | .hbm, ⟨6, _⟩ => ⟨S2048x4224, .f32⟩
  | .hbm, ⟨7, _⟩ => ⟨S2048x4224, .f32⟩
  | .hbm, ⟨8, _⟩ => ⟨S2048x1024, .f32⟩
  | _, _ => ⟨S2048x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel14.lean ====
abbrev S2048x1024 : Shape := ⟨2, ![2048, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S2048x2048 : Shape := ⟨2, ![2048, 2048]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S1024x8x256, .bf16⟩
  | .hbm, ⟨3, _⟩ => ⟨S8x1024x256, .bf16⟩
  | .hbm, ⟨4, _⟩ => ⟨S2048x2048, .f32⟩
  | .local _ .vmem, ⟨0, _⟩ => ⟨S2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S2048x256, .f32⟩
  | .local _ .vmem, ⟨4, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2048x1024 : Shape := ⟨2, ![2048, 1024]⟩
abbrev S2048x2048 : Shape := ⟨2, ![2048, 2048]⟩
abbrev S8x1024x256 : Shape := ⟨3, ![8, 1024, 256]⟩
abbrev S2048x512 : Shape := ⟨2, ![2048, 512]⟩
abbrev S4x512x256 : Shape := ⟨3, ![4, 512, 256]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S8x1024x256, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S4x512x256, .bf16⟩
  | .local _ .vmem, ⟨5, _⟩ => ⟨S4x512x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S4x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S_, .f32⟩
  | .hbm, ⟨4, _⟩ => ⟨S1024x2048, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1024x8x256, .bf16⟩
  | .hbm, ⟨11, _⟩ => ⟨S8x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel16.lean ====
abbrev S2048x2048 : Shape := ⟨2, ![2048, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S2048x1024 : Shape := ⟨2, ![2048, 1024]⟩
abbrev S8x512x256 : Shape := ⟨3, ![8, 512, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S1024x8x256, .bf16⟩
  | .hbm, ⟨3, _⟩ => ⟨S8x1024x256, .bf16⟩
  | .hbm, ⟨4, _⟩ => ⟨S2048x1024, .f32⟩
  | .local _ .vmem, ⟨0, _⟩ => ⟨S2048x2048, .bf16⟩
  | .local _ .vmem, ⟨1, _⟩ => ⟨S8x512x256, .bf16⟩
  | .local _ .vmem, ⟨2, _⟩ => ⟨S8x512x256, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8x1024 : Shape := ⟨2, ![8, 1024]⟩
abbrev S4x8x768 : Shape := ⟨3, ![4, 8, 768]⟩
abbrev S4x1024x768 : Shape := ⟨3, ![4, 1024, 768]⟩
abbrev S1x8x256 : Shape := ⟨3, ![1, 8, 256]⟩
abbrev S1x1024x256 : Shape := ⟨3, ![1, 1024, 256]⟩
abbrev S8x256 : Shape := ⟨2, ![8, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .bf16⟩
  | .hbm, ⟨1, _⟩ => ⟨S4x8x768, .f32⟩
  | .hbm, ⟨2, _⟩ => ⟨S4x1024x768, .f32⟩
  | .local _ .vmem, ⟨0, _⟩ => ⟨S8x1024, .bf16⟩
  | .local _ .vmem, ⟨1, _⟩ => ⟨S1x8x256, .f32⟩
  | .local _ .vmem, ⟨2, _⟩ => ⟨S1x8x256, .f32⟩
  | .local _ .vmem, ⟨3, _⟩ => ⟨S1x1024x256, .f32⟩
  | .local _ .vmem, ⟨4, _⟩ => ⟨S1x1024x256, .f32⟩
  | _, _ => ⟨S8x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8x1024 : Shape := ⟨2, ![8, 1024]⟩
abbrev S4x8x768 : Shape := ⟨3, ![4, 8, 768]⟩
abbrev S_ : Shape := ⟨0, ![]⟩
abbrev S4x1024x768 : Shape := ⟨3, ![4, 1024, 768]⟩
abbrev S4x768x8 : Shape := ⟨3, ![4, 768, 8]⟩
abbrev S4x768x1024 : Shape := ⟨3, ![4, 768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8x1024, .bf16⟩
  | .hbm, ⟨1, _⟩ => ⟨S4x8x768, .f32⟩
  | .hbm, ⟨2, _⟩ => ⟨S8x1024, .f32⟩
  | .hbm, ⟨3, _⟩ => ⟨S_, .f32⟩
  | .hbm, ⟨4, _⟩ => ⟨S4x1024x768, .f32⟩
  | .hbm, ⟨5, _⟩ => ⟨S4x768x8, .f32⟩
  | .hbm, ⟨6, _⟩ => ⟨S4x8x768, .f32⟩
  | .hbm, ⟨7, _⟩ => ⟨S4x768x8, .f32⟩
  | .hbm, ⟨8, _⟩ => ⟨S4x768x1024, .f32⟩
  | .hbm, ⟨9, _⟩ => ⟨S4x1024x768, .f32⟩
  | _, _ => ⟨S8x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4x1024x768 : Shape := ⟨3, ![4, 1024, 768]⟩
abbrev S1x4x1024x768 : Shape := ⟨4, ![1, 4, 1024, 768]⟩
abbrev S1x1x256x768 : Shape := ⟨4, ![1, 1, 256, 768]⟩
abbrev S1x256x768 : Shape := ⟨3, ![1, 256, 768]⟩
abbrev S256x768 : Shape := ⟨2, ![256, 768]⟩

abbrev nBuf : Space → Nat
  | .hbm => 9
  | .vmem => 16
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S1x4x1024x768, .f32⟩
  | .hbm, ⟨5, _⟩ => ⟨S4x1024x768, .f32⟩
  | .hbm, ⟨6, _⟩ => ⟨S4x1024x768, .f32⟩
  | .hbm, ⟨7, _⟩ => ⟨S4x1024x768, .f32⟩
  | .hbm, ⟨8, _⟩ => ⟨S4x1024x768, .f32⟩
  | .local _ .vmem, ⟨0, _⟩ => ⟨S1x1x256x768, .f32⟩
  | .local _ .vmem, ⟨1, _⟩ => ⟨S1x1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S4x1024x768 : Shape := ⟨3, ![4, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2048x1024 : Shape := ⟨2, ![2048, 1024]⟩
abbrev S24x1x1024 : Shape := ⟨3, ![24, 1, 1024]⟩
abbrev S8x128 : Shape := ⟨2, ![8, 128]⟩
abbrev S1x1024 : Shape := ⟨2, ![1, 1024]⟩
abbrev S512x1024 : Shape := ⟨2, ![512, 1024]⟩
abbrev S1x1x1024 : Shape := ⟨3, ![1, 1, 1024]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S24x1x1024, .f32⟩
  | .hbm, ⟨4, _⟩ => ⟨S8x128, .f32⟩
  | .hbm, ⟨5, _⟩ => ⟨S2048x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_12 : BitVec 32 := 0#32
  let v19 : BitVec 1 := Scalar.cmpi .ne v18 c0_i32_12
  v19

def k0_cond2 (i : grid0.Coords) : BitVec 1 :=
  let arg0 : BitVec 32 := BitVec.ofNat 32 (i 0).val
  let c0_i32 : BitVec 32 := 0#32
  let v17 : BitVec 1 := Scalar.cmpi .eq arg0 c0_i32
  let v_true : BitVec 1 := 1#1
  let v20 : BitVec 1 := Scalar.xori v17 v_true
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference19Ideal.lean ====
abbrev S2048x1024 : Shape := ⟨2, ![2048, 1024]⟩
abbrev S24x1x1024 : Shape := ⟨3, ![24, 1, 1024]⟩
abbrev S8x128 : Shape := ⟨2, ![8, 128]⟩
abbrev S1x1x1024 : Shape := ⟨3, ![1, 1, 1024]⟩
abbrev S1x1024 : Shape := ⟨2, ![1, 1024]⟩
abbrev S_ : Shape := ⟨0, ![]⟩
abbrev S1024 : Shape := ⟨1, ![1024]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S24x1x1024, .f32⟩
  | .hbm, ⟨4, _⟩ => ⟨S8x128, .f32⟩
  | .hbm, ⟨5, _⟩ => ⟨S1x1x1024, .f32⟩
  | .hbm, ⟨6, _⟩ => ⟨S1x1024, .f32⟩
  | .hbm, ⟨7, _⟩ => ⟨S1x1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S2048x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel20.lean ====
abbrev S2048x1024 : Shape := ⟨2, ![2048, 1024]⟩
abbrev S24x1x1024 : Shape := ⟨3, ![24, 1, 1024]⟩
abbrev S8x1x1024 : Shape := ⟨3, ![8, 1, 1024]⟩
abbrev S1x128 : Shape := ⟨2, ![1, 128]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 12
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S24x1x1024, .f32⟩
  | .hbm, ⟨4, _⟩ => ⟨S8x1x1024, .f32⟩
  | .hbm, ⟨5, _⟩ => ⟨S8x1x1024, .f32⟩
  | .hbm, ⟨6, _⟩ => ⟨S2048x1024, .f32⟩
  | .hbm, ⟨7, _⟩ => ⟨S2048x1024, .bf16⟩
  | .hbm, ⟨8, _⟩ => ⟨S1x128, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v101 : BitVec 1 := Scalar.cmpi .eq arg0 c0_i32
  let v102 : BitVec 32 := Scalar.extui v101
  let c0_i32_44 : BitVec 32 := 0#32
  let v103 : BitVec 1 := Scalar.cmpi .ne v102 c0_i32_44
  v103

def k0_cond2 (i : grid0.Coords) : BitVec 1 :=
  let arg0 : BitVec 32 := BitVec.ofNat 32 (i 0).val
  let c0_i32 : BitVec 32 := 0#32
  let v101 : BitVec 1 := Scalar.cmpi .eq arg0 c0_i32
  let v_true : BitVec 1 := 1#1
  let v104 : BitVec 1 := Scalar.xori v101 v_true
  let v105 : BitVec 32 := Scalar.extui v104
  let c0_i32_45 : BitVec 32 := 0#32
  let v106 : BitVec 1 := Scalar.cmpi .ne v105 c0_i32_45
  v106

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c23_i32 : BitVec 32 := 23#32
  let c0_i32 : BitVec 32 := 0#32
  let c0_i32_0 : BitVec 32 := 0#32
  let c0_i32_1 : BitVec 32 := 0#32
  ![c23_i32.toNat, c0_i32.toNat, c0_i32_0.toNat]

def cc0_transform_4 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_5 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference20Ideal.lean ====
abbrev S2048x1024 : Shape := ⟨2, ![2048, 1024]⟩
abbrev S24x1x1024 : Shape := ⟨3, ![24, 1, 1024]⟩
abbrev S8x1x1024 : Shape := ⟨3, ![8, 1, 1024]⟩
abbrev S_ : Shape := ⟨0, ![]⟩
abbrev S1x1x1024 : Shape := ⟨3, ![1, 1, 1024]⟩
abbrev S1x1024 : Shape := ⟨2, ![1, 1024]⟩
abbrev S2048 : Shape := ⟨1, ![2048]⟩
abbrev S2048x1 : Shape := ⟨2, ![2048, 1]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S24x1x1024, .f32⟩
  | .hbm, ⟨4, _⟩ => ⟨S8x1x1024, .f32⟩
  | .hbm, ⟨5, _⟩ => ⟨S8x1x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S1x1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S1x1x1024, .f32⟩
  | .hbm, ⟨18, _⟩ => ⟨S1x1024, .f32⟩
  | .hbm, ⟨19, _⟩ => ⟨S1x1x1024, .f32⟩
  | .hbm, ⟨20, _⟩ => ⟨S1x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel21.lean ====
abbrev S8x128x1024 : Shape := ⟨3, ![8, 128, 1024]⟩
abbrev S1 : Shape := ⟨1, ![1]⟩
abbrev S2x128x1024 : Shape := ⟨3, ![2, 128, 1024]⟩
abbrev S8x128 : Shape := ⟨2, ![8, 128]⟩
abbrev S1x128x1024 : Shape := ⟨3, ![1, 128, 1024]⟩
abbrev S128x1024 : Shape := ⟨2, ![128, 1024]⟩

abbrev nBuf : Space → Nat
  | .hbm => 14
  | .vmem => 16
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .hbm, ⟨13, _⟩ => ⟨S8x128, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S8x128, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel21Ideal.lean ====
abbrev S8x128x1024 : Shape := ⟨3, ![8, 128, 1024]⟩
abbrev S1 : Shape := ⟨1, ![1]⟩
abbrev S2x128x1024 : Shape := ⟨3, ![2, 128, 1024]⟩
abbrev S8x128 : Shape := ⟨2, ![8, 128]⟩
abbrev S1x128x1024 : Shape := ⟨3, ![1, 128, 1024]⟩
abbrev S128x1024 : Shape := ⟨2, ![128, 1024]⟩

abbrev nBuf : Space → Nat
  | .hbm => 14
  | .vmem => 16
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .hbm, ⟨13, _⟩ => ⟨S8x128, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S8x128, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference21Ideal.lean ====
abbrev S8x128x1024 : Shape := ⟨3, ![8, 128, 1024]⟩
abbrev S1 : Shape := ⟨1, ![1]⟩
abbrev S2x128x1024 : Shape := ⟨3, ![2, 128, 1024]⟩
abbrev S8 : Shape := ⟨1, ![8]⟩
abbrev S8x1x1 : Shape := ⟨3, ![8, 1, 1]⟩
abbrev S_ : Shape := ⟨0, ![]⟩
abbrev S128x1024 : Shape := ⟨2, ![128, 1024]⟩
abbrev S2 : Shape := ⟨1, ![2]⟩
abbrev S2x1x1 : Shape := ⟨3, ![2, 1, 1]⟩
abbrev S1x128x1024 : Shape := ⟨3, ![1, 128, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S1, .i32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S8, .i32⟩
  | .hbm, ⟨11, _⟩ => ⟨S8x1x1, .i32⟩
  | .hbm, ⟨12, _⟩ => ⟨S_, .i32⟩
  | .hbm, ⟨13, _⟩ => ⟨S8x1x1, .i32⟩
  | .hbm, ⟨14, _⟩ => ⟨S8x1x1, .i1⟩
  | .hbm, ⟨15, _⟩ => ⟨S8x128x1024, .i1⟩
  | .hbm, ⟨16, _⟩ => ⟨S8x128x1024, .bf16⟩
  | .hbm, ⟨17, _⟩ => ⟨S8x128x1024, .f32⟩
  | .hbm, ⟨18, _⟩ => ⟨S_, .f32⟩
  | .hbm, ⟨19, _⟩ => ⟨S128x1024, .f32⟩
  | .hbm, ⟨20, _⟩ => ⟨S2, .i32⟩
  | .hbm, ⟨21, _⟩ => ⟨S2x1x1, .i32⟩
  | .hbm, ⟨22, _⟩ => ⟨S_, .i32⟩
  | .hbm, ⟨23, _⟩ => ⟨S2x1x1, .i32⟩
  | .hbm, ⟨24, _⟩ => ⟨S2x1x1, .i1⟩
  | .hbm, ⟨25, _⟩ => ⟨S1x128x1024, .f32⟩
  | .hbm, ⟨26, _⟩ => ⟨S128x1024, .f32⟩
  | .hbm, ⟨27, _⟩ => ⟨S1x128x1024, .f32⟩
  | .hbm, ⟨28, _⟩ => ⟨S128x1024, .f32⟩
  | .hbm, ⟨29, _⟩ => ⟨S1x128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | .hbm, ⟨49, _⟩ => ⟨S_, .f32⟩
  | .hbm, ⟨50, _⟩ => ⟨S128x1024, .f32⟩
  | .hbm, ⟨51, _⟩ => ⟨S128x1024, .f32⟩
  | .hbm, ⟨52, _⟩ => ⟨S128x1024, .f32⟩
  | .hbm, ⟨53, _⟩ => ⟨S_, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S_, .f32⟩
  | .hbm, ⟨58, _⟩ => ⟨S128x1024, .f32⟩
  | .hbm, ⟨59, _⟩ => ⟨S128x1024, .f32⟩
  | .hbm, ⟨60, _⟩ => ⟨S128x1024, .f32⟩
  | .hbm, ⟨61, _⟩ => ⟨S_, .f32⟩
  | .hbm, ⟨62, _⟩ => ⟨S128x1024, .f32⟩
  | .hbm, ⟨63, _⟩ => ⟨S128x1024, .f32⟩
  | .hbm, ⟨64, _⟩ => ⟨S2x128x1024, .i1⟩
  | .hbm, ⟨65, _⟩ => ⟨S2x128x1024, .f32⟩
  | .hbm, ⟨66, _⟩ => ⟨S2x128x1024, .f32⟩
  | .hbm, ⟨67, _⟩ => ⟨S2x128x1024, .i1⟩
  | .hbm, ⟨68, _⟩ => ⟨S2x128x1024, .f32⟩
  | .hbm, ⟨69, _⟩ => ⟨S2x128x1024, .f32⟩
  | .hbm, ⟨70, _⟩ => ⟨S2x128x1024, .i1⟩
  | .hbm, ⟨71, _⟩ => ⟨S2x128x1024, .f32⟩
  | .hbm, ⟨72, _⟩ => ⟨S2x128x1024, .f32⟩
  | .hbm, ⟨73, _⟩ => ⟨S2x128x1024, .i1⟩
  | .hbm, ⟨74, _⟩ => ⟨S2x128x1024, .f32⟩
  | .hbm, ⟨75, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_call1_v0 : Ref sig .tc := ⟨.hbm, 64, rfl⟩
abbrev main_call1_v1 : Ref sig .tc := ⟨.hbm, 65, rfl⟩
abbrev main_v42 : Ref sig .tc := ⟨.hbm, 66, rfl⟩
abbrev main_call2_v0 : Ref sig .tc := ⟨.hbm, 67, rfl⟩
abbrev main_call2_v1 : Ref sig .tc := ⟨.hbm, 68, rfl⟩
abbrev main_v43 : Ref sig .tc := ⟨.hbm, 69, rfl⟩
abbrev main_call3_v0 : Ref sig .tc := ⟨.hbm, 70, rfl⟩
abbrev main_call3_v1 : Ref sig .tc := ⟨.hbm, 71, rfl⟩
abbrev main_v44 : Ref sig .tc := ⟨.hbm, 72, rfl⟩
abbrev main_call4_v0 : Ref sig .tc := ⟨.hbm, 73, rfl⟩
abbrev main_call4_v1 : Ref sig .tc := ⟨.hbm, 74, rfl⟩
abbrev main_v45 : Ref sig .tc := ⟨.hbm, 75, rfl⟩

abbrev nD : Nat := 1
abbrev τ : Topo := Topo.v7x

variable {F : FTy → Type} [FloatOps F]
-- ==== Kernel22.lean ====
abbrev S8x1024x514 : Shape := ⟨3, ![8, 1024, 514]⟩
abbrev S1 : Shape := ⟨1, ![1]⟩
abbrev S2x1024x514 : Shape := ⟨3, ![2, 1024, 514]⟩
abbrev S8x128 : Shape := ⟨2, ![8, 128]⟩
abbrev S1x256x514 : Shape := ⟨3, ![1, 256, 514]⟩
abbrev S256x514 : Shape := ⟨2, ![256, 514]⟩

abbrev nBuf : Space → Nat
  | .hbm => 14
  | .vmem => 31
  | .smem => 1
  | _ => 0

abbrev bufTy : (tb : Table) → Fin (tcTables nBuf tb) → BufTy
  | .hbm, ⟨0, _⟩ => ⟨S8x1024x514, .bf16⟩
  | .hbm, ⟨1, _⟩ => ⟨S8x1024x514, .bf16⟩
  | .hbm, ⟨2, _⟩ => ⟨S2x1024x514, .f32⟩
  | .hbm, ⟨3, _⟩ => ⟨S2x1024x514, .f32⟩
  | .hbm, ⟨4, _⟩ => ⟨S2x1024x514, .f32⟩
  | .hbm, ⟨5, _⟩ => ⟨S2x1024x514, .f32⟩
  | .hbm, ⟨6, _⟩ => ⟨S2x1024x514, .f32⟩
  | .hbm, ⟨7, _⟩ => ⟨S2x1024x514, .f32⟩
  | .hbm, ⟨8, _⟩ => ⟨S2x1024x514, .f32⟩
  | .hbm, ⟨9, _⟩ => ⟨S2x1024x514, .f32⟩
  | .hbm, ⟨10, _⟩ => ⟨S2x1024x514, .f32⟩
  | .hbm, ⟨11, _⟩ => ⟨S2x1024x514, .f32⟩
  | .hbm, ⟨12, _⟩ => ⟨S2x1024x514, .f32⟩
  | .hbm, ⟨13, _⟩ => ⟨S8x128, .f32⟩
  | .local _ .vmem, ⟨0, _⟩ => ⟨S1x256x514, .bf16⟩
  | .local _ .vmem, ⟨1, _⟩ => ⟨S1x256x514, .bf16⟩
  | .local _ .vmem, ⟨2, _⟩ => ⟨S1x256x514, .bf16⟩
  | .local _ .vmem, ⟨3, _⟩ => ⟨S1x256x514, .bf16⟩
  | .local _ .vmem, ⟨4, _⟩ => ⟨S1x256x514, .bf16⟩
  | .local _ .vmem, ⟨5, _⟩ => ⟨S1x256x514, .bf16⟩
  | .local _ .vmem, ⟨6, _⟩ => ⟨S1x256x514, .bf16⟩
  | .local _ .vmem, ⟨7, _⟩ => ⟨S1x256x514, .bf16⟩
  | .local _ .vmem, ⟨8, _⟩ => ⟨S1x256x514, .bf16⟩
  | .local _ .vmem, ⟨9, _⟩ => ⟨S1x256x514, .bf16⟩
  | .local _ .vmem, ⟨10, _⟩ => ⟨S1x256x514, .bf16⟩
  | .local _ .vmem, ⟨11, _⟩ => ⟨S1x256x514, .bf16⟩
  | .local _ .vmem, ⟨12, _⟩ => ⟨S1x256x514, .bf16⟩
  | .local _ .vmem, ⟨13, _⟩ => ⟨S1x256x514, .bf16⟩
  | .local _ .vmem, ⟨14, _⟩ => ⟨S1x256x514, .bf16⟩
  | .local _ .vmem, ⟨15, _⟩ => ⟨S1x256x514, .bf16⟩
  | .local _ .vmem, ⟨16, _⟩ => ⟨S1x256x514, .f32⟩
  | .local _ .vmem, ⟨17, _⟩ => ⟨S1x256x514, .f32⟩
  | .local _ .vmem, ⟨18, _⟩ => ⟨S1x256x514, .f32⟩
  | .local _ .vmem, ⟨19, _⟩ => ⟨S1x256x514, .f32⟩
  | .local _ .vmem, ⟨20, _⟩ => ⟨S1x256x514, .f32⟩
  | .local _ .vmem, ⟨21, _⟩ => ⟨S1x256x514, .f32⟩
  | .local _ .vmem, ⟨22, _⟩ => ⟨S1x256x514, .f32⟩
  | .local _ .vmem, ⟨23, _⟩ => ⟨S1x256x514, .f32⟩
  | .local _ .vmem, ⟨24, _⟩ => ⟨S1x256x514, .f32⟩
  | .local _ .vmem, ⟨25, _⟩ => ⟨S1x256x514, .f32⟩
  | .local _ .vmem, ⟨26, _⟩ => ⟨S1x256x514, .f32⟩
  | .local _ .vmem, ⟨27, _⟩ => ⟨S1x256x514, .f32⟩
  | .local _ .vmem, ⟨28, _⟩ => ⟨S1x256x514, .f32⟩
  | .local _ .vmem, ⟨29, _⟩ => ⟨S1x256x514, .f32⟩
  | .local _ .vmem, ⟨30, _⟩ => ⟨S8x128, .f32⟩
  | .local _ .smem, ⟨0, _⟩ => ⟨S1, .i32⟩
  | _, _ => ⟨S8x1024x514, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x514 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x514 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x514 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x514 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x514 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x514 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x514 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x514 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x514 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x514 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x514 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x514 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x514 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x514 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x514 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel22Ideal.lean ====
abbrev S8x1024x514 : Shape := ⟨3, ![8, 1024, 514]⟩
abbrev S1 : Shape := ⟨1, ![1]⟩
abbrev S2x1024x514 : Shape := ⟨3, ![2, 1024, 514]⟩
abbrev S8x128 : Shape := ⟨2, ![8, 128]⟩
abbrev S1x256x514 : Shape := ⟨3, ![1, 256, 514]⟩
abbrev S256x514 : Shape := ⟨2, ![256, 514]⟩

abbrev nBuf : Space → Nat
  | .hbm => 14
  | .vmem => 31
  | .smem => 1
  | _ => 0

abbrev bufTy : (tb : Table) → Fin (tcTables nBuf tb) → BufTy
  | .hbm, ⟨0, _⟩ => ⟨S8x1024x514, .bf16⟩
  | .hbm, ⟨1, _⟩ => ⟨S8x1024x514, .bf16⟩
  | .hbm, ⟨2, _⟩ => ⟨S2x1024x514, .f32⟩
  | .hbm, ⟨3, _⟩ => ⟨S2x1024x514, .f32⟩
  | .hbm, ⟨4, _⟩ => ⟨S2x1024x514, .f32⟩
  | .hbm, ⟨5, _⟩ => ⟨S2x1024x514, .f32⟩
  | .hbm, ⟨6, _⟩ => ⟨S2x1024x514, .f32⟩
  | .hbm, ⟨7, _⟩ => ⟨S2x1024x514, .f32⟩
  | .hbm, ⟨8, _⟩ => ⟨S2x1024x514, .f32⟩
  | .hbm, ⟨9, _⟩ => ⟨S2x1024x514, .f32⟩
  | .hbm, ⟨10, _⟩ => ⟨S2x1024x514, .f32⟩
  | .hbm, ⟨11, _⟩ => ⟨S2x1024x514, .f32⟩
  | .hbm, ⟨12, _⟩ => ⟨S2x1024x514, .f32⟩
  | .hbm, ⟨13, _⟩ => ⟨S8x128, .f32⟩
  | .local _ .vmem, ⟨0, _⟩ => ⟨S1x256x514, .bf16⟩
  | .local _ .vmem, ⟨1, _⟩ => ⟨S1x256x514, .bf16⟩
  | .local _ .vmem, ⟨2, _⟩ => ⟨S1x256x514, .bf16⟩
  | .local _ .vmem, ⟨3, _⟩ => ⟨S1x256x514, .bf16⟩
  | .local _ .vmem, ⟨4, _⟩ => ⟨S1x256x514, .bf16⟩
  | .local _ .vmem, ⟨5, _⟩ => ⟨S1x256x514, .bf16⟩
  | .local _ .vmem, ⟨6, _⟩ => ⟨S1x256x514, .bf16⟩
  | .local _ .vmem, ⟨7, _⟩ => ⟨S1x256x514, .bf16⟩
  | .local _ .vmem, ⟨8, _⟩ => ⟨S1x256x514, .bf16⟩
  | .local _ .vmem, ⟨9, _⟩ => ⟨S1x256x514, .bf16⟩
  | .local _ .vmem, ⟨10, _⟩ => ⟨S1x256x514, .bf16⟩
  | .local _ .vmem, ⟨11, _⟩ => ⟨S1x256x514, .bf16⟩
  | .local _ .vmem, ⟨12, _⟩ => ⟨S1x256x514, .bf16⟩
  | .local _ .vmem, ⟨13, _⟩ => ⟨S1x256x514, .bf16⟩
  | .local _ .vmem, ⟨14, _⟩ => ⟨S1x256x514, .bf16⟩
  | .local _ .vmem, ⟨15, _⟩ => ⟨S1x256x514, .bf16⟩
  | .local _ .vmem, ⟨16, _⟩ => ⟨S1x256x514, .f32⟩
  | .local _ .vmem, ⟨17, _⟩ => ⟨S1x256x514, .f32⟩
  | .local _ .vmem, ⟨18, _⟩ => ⟨S1x256x514, .f32⟩
  | .local _ .vmem, ⟨19, _⟩ => ⟨S1x256x514, .f32⟩
  | .local _ .vmem, ⟨20, _⟩ => ⟨S1x256x514, .f32⟩
  | .local _ .vmem, ⟨21, _⟩ => ⟨S1x256x514, .f32⟩
  | .local _ .vmem, ⟨22, _⟩ => ⟨S1x256x514, .f32⟩
  | .local _ .vmem, ⟨23, _⟩ => ⟨S1x256x514, .f32⟩
  | .local _ .vmem, ⟨24, _⟩ => ⟨S1x256x514, .f32⟩
  | .local _ .vmem, ⟨25, _⟩ => ⟨S1x256x514, .f32⟩
  | .local _ .vmem, ⟨26, _⟩ => ⟨S1x256x514, .f32⟩
  | .local _ .vmem, ⟨27, _⟩ => ⟨S1x256x514, .f32⟩
  | .local _ .vmem, ⟨28, _⟩ => ⟨S1x256x514, .f32⟩
  | .local _ .vmem, ⟨29, _⟩ => ⟨S1x256x514, .f32⟩
  | .local _ .vmem, ⟨30, _⟩ => ⟨S8x128, .f32⟩
  | .local _ .smem, ⟨0, _⟩ => ⟨S1, .i32⟩
  | _, _ => ⟨S8x1024x514, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x514 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x514 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x514 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x514 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x514 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x514 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x514 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x514 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x514 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x514 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x514 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x514 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x514 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x514 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x514 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference22Ideal.lean ====
abbrev S8x1024x514 : Shape := ⟨3, ![8, 1024, 514]⟩
abbrev S1 : Shape := ⟨1, ![1]⟩
abbrev S2x1024x514 : Shape := ⟨3, ![2, 1024, 514]⟩
abbrev S8 : Shape := ⟨1, ![8]⟩
abbrev S8x1x1 : Shape := ⟨3, ![8, 1, 1]⟩
abbrev S_ : Shape := ⟨0, ![]⟩
abbrev S1024x514 : Shape := ⟨2, ![1024, 514]⟩
abbrev S2 : Shape := ⟨1, ![2]⟩
abbrev S2x1x1 : Shape := ⟨3, ![2, 1, 1]⟩
abbrev S1x1024x514 : Shape := ⟨3, ![1, 1024, 514]⟩

abbrev nBuf : Space → Nat
  | .hbm => 76
  | .vmem => 0
  | .smem => 0
  | _ => 0

abbrev bufTy : (tb : Table) → Fin (tcTables nBuf tb) → BufTy
  | .hbm, ⟨0, _⟩ => ⟨S8x1024x514, .bf16⟩
  | .hbm, ⟨1, _⟩ => ⟨S8x1024x514, .bf16⟩
  | .hbm, ⟨2, _⟩ => ⟨S1, .i32⟩
  | .hbm, ⟨3, _⟩ => ⟨S2x1024x514, .f32⟩
  | .hbm, ⟨4, _⟩ => ⟨S2x1024x514, .f32⟩
  | .hbm, ⟨5, _⟩ => ⟨S2x1024x514, .f32⟩
  | .hbm, ⟨6, _⟩ => ⟨S2x1024x514, .f32⟩
  | .hbm, ⟨7, _⟩ => ⟨S2x1024x514, .f32⟩
  | .hbm, ⟨8, _⟩ => ⟨S2x1024x514, .f32⟩
  | .hbm, ⟨9, _⟩ => ⟨S2x1024x514, .f32⟩
  | .hbm, ⟨10, _⟩ => ⟨S8, .i32⟩
  | .hbm, ⟨11, _⟩ => ⟨S8x1x1, .i32⟩
  | .hbm, ⟨12, _⟩ => ⟨S_, .i32⟩
  | .hbm, ⟨13, _⟩ => ⟨S8x1x1, .i32⟩
  | .hbm, ⟨14, _⟩ => ⟨S8x1x1, .i1⟩
  | .hbm, ⟨15, _⟩ => ⟨S8x1024x514, .i1⟩
  | .hbm, ⟨16, _⟩ => ⟨S8x1024x514, .bf16⟩
  | .hbm, ⟨17, _⟩ => ⟨S8x1024x514, .f32⟩
  | .hbm, ⟨18, _⟩ => ⟨S_, .f32⟩
  | .hbm, ⟨19, _⟩ => ⟨S1024x514, .f32⟩
  | .hbm, ⟨20, _⟩ => ⟨S2, .i32⟩
  | .hbm, ⟨21, _⟩ => ⟨S2x1x1, .i32⟩
  | .hbm, ⟨22, _⟩ => ⟨S_, .i32⟩
  | .hbm, ⟨23, _⟩ => ⟨S2x1x1, .i32⟩
  | .hbm, ⟨24, _⟩ => ⟨S2x1x1, .i1⟩
  | .hbm, ⟨25, _⟩ => ⟨S1x1024x514, .f32⟩
  | .hbm, ⟨26, _⟩ => ⟨S1024x514, .f32⟩
  | .hbm, ⟨27, _⟩ => ⟨S1x1024x514, .f32⟩
  | .hbm, ⟨28, _⟩ => ⟨S1024x514, .f32⟩
  | .hbm, ⟨29, _⟩ => ⟨S1x1024x514, .f32⟩
  | .hbm, ⟨30, _⟩ => ⟨S1024x514, .f32⟩
  | .hbm, ⟨31, _⟩ => ⟨S_, .f32⟩
  | .hbm, ⟨32, _⟩ => ⟨S1024x514, .f32⟩
  | .hbm, ⟨33, _⟩ => ⟨S1024x514, .f32⟩
  | .hbm, ⟨34, _⟩ => ⟨S_, .f32⟩
  | .hbm, ⟨35, _⟩ => ⟨S1024x514, .f32⟩
  | .hbm, ⟨36, _⟩ => ⟨S1024x514, .f32⟩
  | .hbm, ⟨37, _⟩ => ⟨S1024x514, .f32⟩
  | .hbm, ⟨38, _⟩ => ⟨S_, .f32⟩
  | .hbm, ⟨39, _⟩ => ⟨S1024x514, .f32⟩
  | .hbm, ⟨40, _⟩ => ⟨S1024x514, .f32⟩
  | .hbm, ⟨41, _⟩ => ⟨S1024x514, .f32⟩
  | .hbm, ⟨42, _⟩ => ⟨S_, .f32⟩
  | .hbm, ⟨43, _⟩ => ⟨S1024x514, .f32⟩
  | .hbm, ⟨44, _⟩ => ⟨S1024x514, .f32⟩
  | .hbm, ⟨45, _⟩ => ⟨S1024x514, .f32⟩
  | .hbm, ⟨46, _⟩ => ⟨S_, .f32⟩
  | .hbm, ⟨47, _⟩ => ⟨S1024x514, .f32⟩
  | .hbm, ⟨48, _⟩ => ⟨S1024x514, .f32⟩
  | .hbm, ⟨49, _⟩ => ⟨S_, .f32⟩
  | .hbm, ⟨50, _⟩ => ⟨S1024x514, .f32⟩
  | .hbm, ⟨51, _⟩ => ⟨S1024x514, .f32⟩
  | .hbm, ⟨52, _⟩ => ⟨S1024x514, .f32⟩
  | .hbm, ⟨53, _⟩ => ⟨S_, .f32⟩
  | .hbm, ⟨54, _⟩ => ⟨S1024x514, .f32⟩
  | .hbm, ⟨55, _⟩ => ⟨S1024x514, .f32⟩
  | .hbm, ⟨56, _⟩ => ⟨S1024x514, .f32⟩
  | .hbm, ⟨57, _⟩ => ⟨S_, .f32⟩
  | .hbm, ⟨58, _⟩ => ⟨S1024x514, .f32⟩
  | .hbm, ⟨59, _⟩ => ⟨S1024x514, .f32⟩
  | .hbm, ⟨60, _⟩ => ⟨S1024x514, .f32⟩
  | .hbm, ⟨61, _⟩ => ⟨S_, .f32⟩
  | .hbm, ⟨62, _⟩ => ⟨S1024x514, .f32⟩
  | .hbm, ⟨63, _⟩ => ⟨S1024x514, .f32⟩
  | .hbm, ⟨64, _⟩ => ⟨S2x1024x514, .i1⟩
  | .hbm, ⟨65, _⟩ => ⟨S2x1024x514, .f32⟩
  | .hbm, ⟨66, _⟩ => ⟨S2x1024x514, .f32⟩
  | .hbm, ⟨67, _⟩ => ⟨S2x1024x514, .i1⟩
  | .hbm, ⟨68, _⟩ => ⟨S2x1024x514, .f32⟩
  | .hbm, ⟨69, _⟩ => ⟨S2x1024x514, .f32⟩
  | .hbm, ⟨70, _⟩ => ⟨S2x1024x514, .i1⟩
  | .hbm, ⟨71, _⟩ => ⟨S2x1024x514, .f32⟩
  | .hbm, ⟨72, _⟩ => ⟨S2x1024x514, .f32⟩
  | .hbm, ⟨73, _⟩ => ⟨S2x1024x514, .i1⟩
  | .hbm, ⟨74, _⟩ => ⟨S2x1024x514, .f32⟩
  | .hbm, ⟨75, _⟩ => ⟨S2x1024x514, .f32⟩
  | _, _ => ⟨S8x1024x514, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_call1_v0 : Ref sig .tc := ⟨.hbm, 64, rfl⟩
abbrev main_call1_v1 : Ref sig .tc := ⟨.hbm, 65, rfl⟩
abbrev main_v42 : Ref sig .tc := ⟨.hbm, 66, rfl⟩
abbrev main_call2_v0 : Ref sig .tc := ⟨.hbm, 67, rfl⟩
abbrev main_call2_v1 : Ref sig .tc := ⟨.hbm, 68, rfl⟩
abbrev main_v43 : Ref sig .tc := ⟨.hbm, 69, rfl⟩
abbrev main_call3_v0 : Ref sig .tc := ⟨.hbm, 70, rfl⟩
abbrev main_call3_v1 : Ref sig .tc := ⟨.hbm, 71, rfl⟩
abbrev main_v44 : Ref sig .tc := ⟨.hbm, 72, rfl⟩
abbrev main_call4_v0 : Ref sig .tc := ⟨.hbm, 73, rfl⟩
abbrev main_call4_v1 : Ref sig .tc := ⟨.hbm, 74, rfl⟩
abbrev main_v45 : Ref sig .tc := ⟨.hbm, 75, rfl⟩

abbrev nD : Nat := 1
abbrev τ : Topo := Topo.v7x

variable {F : FTy → Type} [FloatOps F]
-- ==== Kernel23.lean ====
abbrev S8x1024x256 : Shape := ⟨3, ![8, 1024, 256]⟩
abbrev S1 : Shape := ⟨1, ![1]⟩
abbrev S2x1024x256 : Shape := ⟨3, ![2, 1024, 256]⟩
abbrev S8x128 : Shape := ⟨2, ![8, 128]⟩
abbrev S1x256x256 : Shape := ⟨3, ![1, 256, 256]⟩
abbrev S256x256 : Shape := ⟨2, ![256, 256]⟩

abbrev nBuf : Space → Nat
  | .hbm => 14
  | .vmem => 31
  | .smem => 1
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .hbm, ⟨12, _⟩ => ⟨S2x1024x256, .f32⟩
  | .hbm, ⟨13, _⟩ => ⟨S8x128, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S1x256x256, .f32⟩
  | .local _ .vmem, ⟨25, _⟩ => ⟨S1x256x256, .f32⟩
  | .local _ .vmem, ⟨26, _⟩ => ⟨S1x256x256, .f32⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .vmem, ⟨30, _⟩ => ⟨S8x128, .f32⟩
  | .local _ .smem, ⟨0, _⟩ => ⟨S1, .i32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel23Ideal.lean ====
abbrev S8x1024x256 : Shape := ⟨3, ![8, 1024, 256]⟩
abbrev S1 : Shape := ⟨1, ![1]⟩
abbrev S2x1024x256 : Shape := ⟨3, ![2, 1024, 256]⟩
abbrev S8x128 : Shape := ⟨2, ![8, 128]⟩
abbrev S1x256x256 : Shape := ⟨3, ![1, 256, 256]⟩
abbrev S256x256 : Shape := ⟨2, ![256, 256]⟩

abbrev nBuf : Space → Nat
  | .hbm => 14
  | .vmem => 31
  | .smem => 1
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .hbm, ⟨12, _⟩ => ⟨S2x1024x256, .f32⟩
  | .hbm, ⟨13, _⟩ => ⟨S8x128, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S1x256x256, .f32⟩
  | .local _ .vmem, ⟨25, _⟩ => ⟨S1x256x256, .f32⟩
  | .local _ .vmem, ⟨26, _⟩ => ⟨S1x256x256, .f32⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .vmem, ⟨30, _⟩ => ⟨S8x128, .f32⟩
  | .local _ .smem, ⟨0, _⟩ => ⟨S1, .i32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference23Ideal.lean ====
abbrev S8x1024x256 : Shape := ⟨3, ![8, 1024, 256]⟩
abbrev S1 : Shape := ⟨1, ![1]⟩
abbrev S2x1024x256 : Shape := ⟨3, ![2, 1024, 256]⟩
abbrev S8 : Shape := ⟨1, ![8]⟩
abbrev S8x1x1 : Shape := ⟨3, ![8, 1, 1]⟩
abbrev S_ : Shape := ⟨0, ![]⟩
abbrev S1024x256 : Shape := ⟨2, ![1024, 256]⟩
abbrev S2 : Shape := ⟨1, ![2]⟩
abbrev S2x1x1 : Shape := ⟨3, ![2, 1, 1]⟩
abbrev S1x1024x256 : Shape := ⟨3, ![1, 1024, 256]⟩

abbrev nBuf : Space → Nat
  | .hbm => 76
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S1, .i32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S8, .i32⟩
  | .hbm, ⟨11, _⟩ => ⟨S8x1x1, .i32⟩
  | .hbm, ⟨12, _⟩ => ⟨S_, .i32⟩
  | .hbm, ⟨13, _⟩ => ⟨S8x1x1, .i32⟩
  | .hbm, ⟨14, _⟩ => ⟨S8x1x1, .i1⟩
  | .hbm, ⟨15, _⟩ => ⟨S8x1024x256, .i1⟩
  | .hbm, ⟨16, _⟩ => ⟨S8x1024x256, .bf16⟩
  | .hbm, ⟨17, _⟩ => ⟨S8x1024x256, .f32⟩
  | .hbm, ⟨18, _⟩ => ⟨S_, .f32⟩
  | .hbm, ⟨19, _⟩ => ⟨S1024x256, .f32⟩
  | .hbm, ⟨20, _⟩ => ⟨S2, .i32⟩
  | .hbm, ⟨21, _⟩ => ⟨S2x1x1, .i32⟩
  | .hbm, ⟨22, _⟩ => ⟨S_, .i32⟩
  | .hbm, ⟨23, _⟩ => ⟨S2x1x1, .i32⟩
  | .hbm, ⟨24, _⟩ => ⟨S2x1x1, .i1⟩
  | .hbm, ⟨25, _⟩ => ⟨S1x1024x256, .f32⟩
  | .hbm, ⟨26, _⟩ => ⟨S1024x256, .f32⟩
  | .hbm, ⟨27, _⟩ => ⟨S1x1024x256, .f32⟩
  | .hbm, ⟨28, _⟩ => ⟨S1024x256, .f32⟩
  | .hbm, ⟨29, _⟩ => ⟨S1x1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S_, .f32⟩
  | .hbm, ⟨47, _⟩ => ⟨S1024x256, .f32⟩
  | .hbm, ⟨48, _⟩ => ⟨S1024x256, .f32⟩
  | .hbm, ⟨49, _⟩ => ⟨S_, .f32⟩
  | .hbm, ⟨50, _⟩ => ⟨S1024x256, .f32⟩
  | .hbm, ⟨51, _⟩ => ⟨S1024x256, .f32⟩
  | .hbm, ⟨52, _⟩ => ⟨S1024x256, .f32⟩
  | .hbm, ⟨53, _⟩ => ⟨S_, .f32⟩
  | .hbm, ⟨54, _⟩ => ⟨S1024x256, .f32⟩
  | .hbm, ⟨55, _⟩ => ⟨S1024x256, .f32⟩
  | .hbm, ⟨56, _⟩ => ⟨S1024x256, .f32⟩
  | .hbm, ⟨57, _⟩ => ⟨S_, .f32⟩
  | .hbm, ⟨58, _⟩ => ⟨S1024x256, .f32⟩
  | .hbm, ⟨59, _⟩ => ⟨S1024x256, .f32⟩
  | .hbm, ⟨60, _⟩ => ⟨S1024x256, .f32⟩
  | .hbm, ⟨61, _⟩ => ⟨S_, .f32⟩
  | .hbm, ⟨62, _⟩ => ⟨S1024x256, .f32⟩
  | .hbm, ⟨63, _⟩ => ⟨S1024x256, .f32⟩
  | .hbm, ⟨64, _⟩ => ⟨S2x1024x256, .i1⟩
  | .hbm, ⟨65, _⟩ => ⟨S2x1024x256, .f32⟩
  | .hbm, ⟨66, _⟩ => ⟨S2x1024x256, .f32⟩
  | .hbm, ⟨67, _⟩ => ⟨S2x1024x256, .i1⟩
  | .hbm, ⟨68, _⟩ => ⟨S2x1024x256, .f32⟩
  | .hbm, ⟨69, _⟩ => ⟨S2x1024x256, .f32⟩
  | .hbm, ⟨70, _⟩ => ⟨S2x1024x256, .i1⟩
  | .hbm, ⟨71, _⟩ => ⟨S2x1024x256, .f32⟩
  | .hbm, ⟨72, _⟩ => ⟨S2x1024x256, .f32⟩
  | .hbm, ⟨73, _⟩ => ⟨S2x1024x256, .i1⟩
  | .hbm, ⟨74, _⟩ => ⟨S2x1024x256, .f32⟩
  | .hbm, ⟨75, _⟩ => ⟨S2x1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_call1_v0 : Ref sig .tc := ⟨.hbm, 64, rfl⟩
abbrev main_call1_v1 : Ref sig .tc := ⟨.hbm, 65, rfl⟩
abbrev main_v42 : Ref sig .tc := ⟨.hbm, 66, rfl⟩
abbrev main_call2_v0 : Ref sig .tc := ⟨.hbm, 67, rfl⟩
abbrev main_call2_v1 : Ref sig .tc := ⟨.hbm, 68, rfl⟩
abbrev main_v43 : Ref sig .tc := ⟨.hbm, 69, rfl⟩
abbrev main_call3_v0 : Ref sig .tc := ⟨.hbm, 70, rfl⟩
abbrev main_call3_v1 : Ref sig .tc := ⟨.hbm, 71, rfl⟩
abbrev main_v44 : Ref sig .tc := ⟨.hbm, 72, rfl⟩
abbrev main_call4_v0 : Ref sig .tc := ⟨.hbm, 73, rfl⟩
abbrev main_call4_v1 : Ref sig .tc := ⟨.hbm, 74, rfl⟩
abbrev main_v45 : Ref sig .tc := ⟨.hbm, 75, rfl⟩

abbrev nD : Nat := 1
abbrev τ : Topo := Topo.v7x

variable {F : FTy → Type} [FloatOps F]
-- ==== Kernel24.lean ====
abbrev S8x1024x512 : Shape := ⟨3, ![8, 1024, 512]⟩
abbrev S1 : Shape := ⟨1, ![1]⟩
abbrev S4x1024x512 : Shape := ⟨3, ![4, 1024, 512]⟩
abbrev S8x128 : Shape := ⟨2, ![8, 128]⟩
abbrev S1x256x512 : Shape := ⟨3, ![1, 256, 512]⟩
abbrev S256x512 : Shape := ⟨2, ![256, 512]⟩

abbrev nBuf : Space → Nat
  | .hbm => 14
  | .vmem => 31
  | .smem => 1
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .hbm, ⟨12, _⟩ => ⟨S4x1024x512, .f32⟩
  | .hbm, ⟨13, _⟩ => ⟨S8x128, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x512, .f32⟩
  | .local _ .vmem, ⟨27, _⟩ => ⟨S1x256x512, .f32⟩
  | .local _ .vmem, ⟨28, _⟩ => ⟨S1x256x512, .f32⟩
  | .local _ .vmem, ⟨29, _⟩ => ⟨S1x256x512, .f32⟩
  | .local _ .vmem, ⟨30, _⟩ => ⟨S8x128, .f32⟩
  | .local _ .smem, ⟨0, _⟩ => ⟨S1, .i32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel24Ideal.lean ====
abbrev S8x1024x512 : Shape := ⟨3, ![8, 1024, 512]⟩
abbrev S1 : Shape := ⟨1, ![1]⟩
abbrev S4x1024x512 : Shape := ⟨3, ![4, 1024, 512]⟩
abbrev S8x128 : Shape := ⟨2, ![8, 128]⟩
abbrev S1x256x512 : Shape := ⟨3, ![1, 256, 512]⟩
abbrev S256x512 : Shape := ⟨2, ![256, 512]⟩

abbrev nBuf : Space → Nat
  | .hbm => 14
  | .vmem => 31
  | .smem => 1
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .hbm, ⟨12, _⟩ => ⟨S4x1024x512, .f32⟩
  | .hbm, ⟨13, _⟩ => ⟨S8x128, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x512, .f32⟩
  | .local _ .vmem, ⟨27, _⟩ => ⟨S1x256x512, .f32⟩
  | .local _ .vmem, ⟨28, _⟩ => ⟨S1x256x512, .f32⟩
  | .local _ .vmem, ⟨29, _⟩ => ⟨S1x256x512, .f32⟩
  | .local _ .vmem, ⟨30, _⟩ => ⟨S8x128, .f32⟩
  | .local _ .smem, ⟨0, _⟩ => ⟨S1, .i32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference24Ideal.lean ====
abbrev S8x1024x512 : Shape := ⟨3, ![8, 1024, 512]⟩
abbrev S1 : Shape := ⟨1, ![1]⟩
abbrev S4x1024x512 : Shape := ⟨3, ![4, 1024, 512]⟩
abbrev S8 : Shape := ⟨1, ![8]⟩
abbrev S8x1x1 : Shape := ⟨3, ![8, 1, 1]⟩
abbrev S_ : Shape := ⟨0, ![]⟩
abbrev S1024x512 : Shape := ⟨2, ![1024, 512]⟩
abbrev S4 : Shape := ⟨1, ![4]⟩
abbrev S4x1x1 : Shape := ⟨3, ![4, 1, 1]⟩
abbrev S1x1024x512 : Shape := ⟨3, ![1, 1024, 512]⟩

abbrev nBuf : Space → Nat
  | .hbm => 76
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S1, .i32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S8, .i32⟩
  | .hbm, ⟨11, _⟩ => ⟨S8x1x1, .i32⟩
  | .hbm, ⟨12, _⟩ => ⟨S_, .i32⟩
  | .hbm, ⟨13, _⟩ => ⟨S8x1x1, .i32⟩
  | .hbm, ⟨14, _⟩ => ⟨S8x1x1, .i1⟩
  | .hbm, ⟨15, _⟩ => ⟨S8x1024x512, .i1⟩
  | .hbm, ⟨16, _⟩ => ⟨S8x1024x512, .bf16⟩
  | .hbm, ⟨17, _⟩ => ⟨S8x1024x512, .f32⟩
  | .hbm, ⟨18, _⟩ => ⟨S_, .f32⟩
  | .hbm, ⟨19, _⟩ => ⟨S1024x512, .f32⟩
  | .hbm, ⟨20, _⟩ => ⟨S4, .i32⟩
  | .hbm, ⟨21, _⟩ => ⟨S4x1x1, .i32⟩
  | .hbm, ⟨22, _⟩ => ⟨S_, .i32⟩
  | .hbm, ⟨23, _⟩ => ⟨S4x1x1, .i32⟩
  | .hbm, ⟨24, _⟩ => ⟨S4x1x1, .i1⟩
  | .hbm, ⟨25, _⟩ => ⟨S1x1024x512, .f32⟩
  | .hbm, ⟨26, _⟩ => ⟨S1024x512, .f32⟩
  | .hbm, ⟨27, _⟩ => ⟨S1x1024x512, .f32⟩
  | .hbm, ⟨28, _⟩ => ⟨S1024x512, .f32⟩
  | .hbm, ⟨29, _⟩ => ⟨S1x1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S_, .f32⟩
  | .hbm, ⟨47, _⟩ => ⟨S1024x512, .f32⟩
  | .hbm, ⟨48, _⟩ => ⟨S1024x512, .f32⟩
  | .hbm, ⟨49, _⟩ => ⟨S_, .f32⟩
  | .hbm, ⟨50, _⟩ => ⟨S1024x512, .f32⟩
  | .hbm, ⟨51, _⟩ => ⟨S1024x512, .f32⟩
  | .hbm, ⟨52, _⟩ => ⟨S1024x512, .f32⟩
  | .hbm, ⟨53, _⟩ => ⟨S_, .f32⟩
  | .hbm, ⟨54, _⟩ => ⟨S1024x512, .f32⟩
  | .hbm, ⟨55, _⟩ => ⟨S1024x512, .f32⟩
  | .hbm, ⟨56, _⟩ => ⟨S1024x512, .f32⟩
  | .hbm, ⟨57, _⟩ => ⟨S_, .f32⟩
  | .hbm, ⟨58, _⟩ => ⟨S1024x512, .f32⟩
  | .hbm, ⟨59, _⟩ => ⟨S1024x512, .f32⟩
  | .hbm, ⟨60, _⟩ => ⟨S1024x512, .f32⟩
  | .hbm, ⟨61, _⟩ => ⟨S_, .f32⟩
  | .hbm, ⟨62, _⟩ => ⟨S1024x512, .f32⟩
  | .hbm, ⟨63, _⟩ => ⟨S1024x512, .f32⟩
  | .hbm, ⟨64, _⟩ => ⟨S4x1024x512, .i1⟩
  | .hbm, ⟨65, _⟩ => ⟨S4x1024x512, .f32⟩
  | .hbm, ⟨66, _⟩ => ⟨S4x1024x512, .f32⟩
  | .hbm, ⟨67, _⟩ => ⟨S4x1024x512, .i1⟩
  | .hbm, ⟨68, _⟩ => ⟨S4x1024x512, .f32⟩
  | .hbm, ⟨69, _⟩ => ⟨S4x1024x512, .f32⟩
  | .hbm, ⟨70, _⟩ => ⟨S4x1024x512, .i1⟩
  | .hbm, ⟨71, _⟩ => ⟨S4x1024x512, .f32⟩
  | .hbm, ⟨72, _⟩ => ⟨S4x1024x512, .f32⟩
  | .hbm, ⟨73, _⟩ => ⟨S4x1024x512, .i1⟩
  | .hbm, ⟨74, _⟩ => ⟨S4x1024x512, .f32⟩
  | .hbm, ⟨75, _⟩ => ⟨S4x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_call1_v0 : Ref sig .tc := ⟨.hbm, 64, rfl⟩
abbrev main_call1_v1 : Ref sig .tc := ⟨.hbm, 65, rfl⟩
abbrev main_v42 : Ref sig .tc := ⟨.hbm, 66, rfl⟩
abbrev main_call2_v0 : Ref sig .tc := ⟨.hbm, 67, rfl⟩
abbrev main_call2_v1 : Ref sig .tc := ⟨.hbm, 68, rfl⟩
abbrev main_v43 : Ref sig .tc := ⟨.hbm, 69, rfl⟩
abbrev main_call3_v0 : Ref sig .tc := ⟨.hbm, 70, rfl⟩
abbrev main_call3_v1 : Ref sig .tc := ⟨.hbm, 71, rfl⟩
abbrev main_v44 : Ref sig .tc := ⟨.hbm, 72, rfl⟩
abbrev main_call4_v0 : Ref sig .tc := ⟨.hbm, 73, rfl⟩
abbrev main_call4_v1 : Ref sig .tc := ⟨.hbm, 74, rfl⟩
abbrev main_v45 : Ref sig .tc := ⟨.hbm, 75, rfl⟩

abbrev nD : Nat := 1
abbrev τ : Topo := Topo.v7x

variable {F : FTy → Type} [FloatOps F]
-- ==== Kernel25.lean ====
abbrev S8x512x1024 : Shape := ⟨3, ![8, 512, 1024]⟩
abbrev S1 : Shape := ⟨1, ![1]⟩
abbrev S4x512x1024 : Shape := ⟨3, ![4, 512, 1024]⟩
abbrev S8x128 : Shape := ⟨2, ![8, 128]⟩
abbrev S1x256x1024 : Shape := ⟨3, ![1, 256, 1024]⟩
abbrev S256x1024 : Shape := ⟨2, ![256, 1024]⟩

abbrev nBuf : Space → Nat
  | .hbm => 14
  | .vmem => 31
  | .smem => 1
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S4x512x1024, .f32⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S4x512x1024, .f32⟩
  | .hbm, ⟨12, _⟩ => ⟨S4x512x1024, .f32⟩
  | .hbm, ⟨13, _⟩ => ⟨S8x128, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S8x128, .f32⟩
  | .local _ .smem, ⟨0, _⟩ => ⟨S1, .i32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.xori v0 c4_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c5_i32 : BitVec 32 := 5#32
  let v1 : BitVec 32 := Scalar.xori v0 c5_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c6_i32 : BitVec 32 := 6#32
  let v1 : BitVec 32 := Scalar.xori v0 c6_i32
  let c0_i32 : BitVec 32 := 0#32
  let c0_i32_0 : BitVec 32 := 0#32
  ![v1.toNat, arg0.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.xori v0 c7_i32
  let c0_i32 : BitVec 32 := 0#32
  let c0_i32_0 : BitVec 32 := 0#32
  ![v1.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference25Ideal.lean ====
abbrev S8x512x1024 : Shape := ⟨3, ![8, 512, 1024]⟩
abbrev S1 : Shape := ⟨1, ![1]⟩
abbrev S4x512x1024 : Shape := ⟨3, ![4, 512, 1024]⟩
abbrev S8 : Shape := ⟨1, ![8]⟩
abbrev S8x1x1 : Shape := ⟨3, ![8, 1, 1]⟩
abbrev S_ : Shape := ⟨0, ![]⟩
abbrev S512x1024 : Shape := ⟨2, ![512, 1024]⟩
abbrev S4 : Shape := ⟨1, ![4]⟩
abbrev S4x1x1 : Shape := ⟨3, ![4, 1, 1]⟩
abbrev S1x512x1024 : Shape := ⟨3, ![1, 512, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S1, .i32⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S8, .i32⟩
  | .hbm, ⟨11, _⟩ => ⟨S8x1x1, .i32⟩
  | .hbm, ⟨12, _⟩ => ⟨S_, .i32⟩
  | .hbm, ⟨13, _⟩ => ⟨S8x1x1, .i32⟩
  | .hbm, ⟨14, _⟩ => ⟨S8x1x1, .i1⟩
  | .hbm, ⟨15, _⟩ => ⟨S8x512x1024, .i1⟩
  | .hbm, ⟨16, _⟩ => ⟨S8x512x1024, .bf16⟩
  | .hbm, ⟨17, _⟩ => ⟨S8x512x1024, .f32⟩
  | .hbm, ⟨18, _⟩ => ⟨S_, .f32⟩
  | .hbm, ⟨19, _⟩ => ⟨S512x1024, .f32⟩
  | .hbm, ⟨20, _⟩ => ⟨S4, .i32⟩
  | .hbm, ⟨21, _⟩ => ⟨S4x1x1, .i32⟩
  | .hbm, ⟨22, _⟩ => ⟨S_, .i32⟩
  | .hbm, ⟨23, _⟩ => ⟨S4x1x1, .i32⟩
  | .hbm, ⟨24, _⟩ => ⟨S4x1x1, .i1⟩
  | .hbm, ⟨25, _⟩ => ⟨S1x512x1024, .f32⟩
  | .hbm, ⟨26, _⟩ => ⟨S512x1024, .f32⟩
  | .hbm, ⟨27, _⟩ => ⟨S1x512x1024, .f32⟩
  | .hbm, ⟨28, _⟩ => ⟨S512x1024, .f32⟩
  | .hbm, ⟨29, _⟩ => ⟨S1x512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S_, .f32⟩
  | .hbm, ⟨47, _⟩ => ⟨S512x1024, .f32⟩
  | .hbm, ⟨48, _⟩ => ⟨S512x1024, .f32⟩
  | .hbm, ⟨49, _⟩ => ⟨S_, .f32⟩
  | .hbm, ⟨50, _⟩ => ⟨S512x1024, .f32⟩
  | .hbm, ⟨51, _⟩ => ⟨S512x1024, .f32⟩
  | .hbm, ⟨52, _⟩ => ⟨S512x1024, .f32⟩
  | .hbm, ⟨53, _⟩ => ⟨S_, .f32⟩
  | .hbm, ⟨54, _⟩ => ⟨S512x1024, .f32⟩
  | .hbm, ⟨55, _⟩ => ⟨S512x1024, .f32⟩
  | .hbm, ⟨56, _⟩ => ⟨S512x1024, .f32⟩
  | .hbm, ⟨57, _⟩ => ⟨S_, .f32⟩
  | .hbm, ⟨58, _⟩ => ⟨S512x1024, .f32⟩
  | .hbm, ⟨59, _⟩ => ⟨S512x1024, .f32⟩
  | .hbm, ⟨60, _⟩ => ⟨S512x1024, .f32⟩
  | .hbm, ⟨61, _⟩ => ⟨S_, .f32⟩
  | .hbm, ⟨62, _⟩ => ⟨S512x1024, .f32⟩
  | .hbm, ⟨63, _⟩ => ⟨S512x1024, .f32⟩
  | .hbm, ⟨64, _⟩ => ⟨S4x512x1024, .i1⟩
  | .hbm, ⟨65, _⟩ => ⟨S4x512x1024, .f32⟩
  | .hbm, ⟨66, _⟩ => ⟨S4x512x1024, .f32⟩
  | .hbm, ⟨67, _⟩ => ⟨S4x512x1024, .i1⟩
  | .hbm, ⟨68, _⟩ => ⟨S4x512x1024, .f32⟩
  | .hbm, ⟨69, _⟩ => ⟨S4x512x1024, .f32⟩
  | .hbm, ⟨70, _⟩ => ⟨S4x512x1024, .i1⟩
  | .hbm, ⟨71, _⟩ => ⟨S4x512x1024, .f32⟩
  | .hbm, ⟨72, _⟩ => ⟨S4x512x1024, .f32⟩
  | .hbm, ⟨73, _⟩ => ⟨S4x512x1024, .i1⟩
  | .hbm, ⟨74, _⟩ => ⟨S4x512x1024, .f32⟩
  | .hbm, ⟨75, _⟩ => ⟨S4x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_call1_v0 : Ref sig .tc := ⟨.hbm, 64, rfl⟩
abbrev main_call1_v1 : Ref sig .tc := ⟨.hbm, 65, rfl⟩
abbrev main_v42 : Ref sig .tc := ⟨.hbm, 66, rfl⟩
abbrev main_call2_v0 : Ref sig .tc := ⟨.hbm, 67, rfl⟩
abbrev main_call2_v1 : Ref sig .tc := ⟨.hbm, 68, rfl⟩
abbrev main_v43 : Ref sig .tc := ⟨.hbm, 69, rfl⟩
abbrev main_call3_v0 : Ref sig .tc := ⟨.hbm, 70, rfl⟩
abbrev main_call3_v1 : Ref sig .tc := ⟨.hbm, 71, rfl⟩
abbrev main_v44 : Ref sig .tc := ⟨.hbm, 72, rfl⟩
abbrev main_call4_v0 : Ref sig .tc := ⟨.hbm, 73, rfl⟩
abbrev main_call4_v1 : Ref sig .tc := ⟨.hbm, 74, rfl⟩
abbrev main_v45 : Ref sig .tc := ⟨.hbm, 75, rfl⟩

abbrev nD : Nat := 1
abbrev τ : Topo := Topo.v7x

variable {F : FTy → Type} [FloatOps F]
-- ==== Kernel26.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v75 : BitVec 1 := Scalar.cmpi .eq arg0 c0_i32
  let v76 : BitVec 32 := Scalar.extui v75
  let c0_i32_27 : BitVec 32 := 0#32
  let v77 : BitVec 1 := Scalar.cmpi .ne v76 c0_i32_27
  v77

def k0_cond2 (i : grid0.Coords) : BitVec 1 :=
  let arg0 : BitVec 32 := BitVec.ofNat 32 (i 0).val
  let c0_i32 : BitVec 32 := 0#32
  let v75 : BitVec 1 := Scalar.cmpi .eq arg0 c0_i32
  let v_true : BitVec 1 := 1#1
  let v78 : BitVec 1 := Scalar.xori v75 v_true
  let v79 : BitVec 32 := Scalar.extui v78
  let c0_i32_28 : BitVec 32 := 0#32
  let v80 : BitVec 1 := Scalar.cmpi .ne v79 c0_i32_28
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference26Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v22_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v22_1 : Ref sig .tc := ⟨.hbm, 42, rfl⟩
abbrev main_v22_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩

abbrev nD : Nat := 1
abbrev τ : Topo := Topo.v7x

variable {F : FTy → Type} [FloatOps F]
-- ==== Kernel27.lean ====
abbrev S2048x1024 : Shape := ⟨2, ![2048, 1024]⟩
abbrev S24x1x1024 : Shape := ⟨3, ![24, 1, 1024]⟩
abbrev S8x1x1024 : Shape := ⟨3, ![8, 1, 1024]⟩
abbrev S1x128 : Shape := ⟨2, ![1, 128]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 12
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S24x1x1024, .f32⟩
  | .hbm, ⟨4, _⟩ => ⟨S8x1x1024, .f32⟩
  | .hbm, ⟨5, _⟩ => ⟨S8x1x1024, .f32⟩
  | .hbm, ⟨6, _⟩ => ⟨S2048x1024, .f32⟩
  | .hbm, ⟨7, _⟩ => ⟨S2048x1024, .bf16⟩
  | .hbm, ⟨8, _⟩ => ⟨S1x128, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v101 : BitVec 1 := Scalar.cmpi .eq arg0 c0_i32
  let v102 : BitVec 32 := Scalar.extui v101
  let c0_i32_44 : BitVec 32 := 0#32
  let v103 : BitVec 1 := Scalar.cmpi .ne v102 c0_i32_44
  v103

def k0_cond2 (i : grid0.Coords) : BitVec 1 :=
  let arg0 : BitVec 32 := BitVec.ofNat 32 (i 0).val
  let c0_i32 : BitVec 32 := 0#32
  let v101 : BitVec 1 := Scalar.cmpi .eq arg0 c0_i32
  let v_true : BitVec 1 := 1#1
  let v104 : BitVec 1 := Scalar.xori v101 v_true
  let v105 : BitVec 32 := Scalar.extui v104
  let c0_i32_45 : BitVec 32 := 0#32
  let v106 : BitVec 1 := Scalar.cmpi .ne v105 c0_i32_45
  v106

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c23_i32 : BitVec 32 := 23#32
  let c0_i32 : BitVec 32 := 0#32
  let c0_i32_0 : BitVec 32 := 0#32
  let c0_i32_1 : BitVec 32 := 0#32
  ![c23_i32.toNat, c0_i32.toNat, c0_i32_0.toNat]

def cc0_transform_4 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_5 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference27Ideal.lean ====
abbrev S2048x1024 : Shape := ⟨2, ![2048, 1024]⟩
abbrev S24x1x1024 : Shape := ⟨3, ![24, 1, 1024]⟩
abbrev S8x1x1024 : Shape := ⟨3, ![8, 1, 1024]⟩
abbrev S1x1x1024 : Shape := ⟨3, ![1, 1, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S24x1x1024, .f32⟩
  | .hbm, ⟨4, _⟩ => ⟨S8x1x1024, .f32⟩
  | .hbm, ⟨5, _⟩ => ⟨S8x1x1024, .f32⟩
  | .hbm, ⟨6, _⟩ => ⟨S1x1x1024, .f32⟩
  | .hbm, ⟨7, _⟩ => ⟨S1x1024, .f32⟩
  | .hbm, ⟨8, _⟩ => ⟨S1x1x1024, .f32⟩
  | .hbm, ⟨9, _⟩ => ⟨S1x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S1x1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S2048, .f32⟩
  | .hbm, ⟨66, _⟩ => ⟨S_, .f32⟩
  | .hbm, ⟨67, _⟩ => ⟨S2048, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S2048x1024, .f32⟩
  | .hbm, ⟨75, _⟩ => ⟨S_, .f32⟩
  | .hbm, ⟨76, _⟩ => ⟨S1024, .f32⟩
  | .hbm, ⟨77, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_cst_11 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Kernel28.lean ====
abbrev S2048x2048 : Shape := ⟨2, ![2048, 2048]⟩
abbrev S31x1024 : Shape := ⟨2, ![31, 1024]⟩
abbrev S2048x1024 : Shape := ⟨2, ![2048, 1024]⟩
abbrev S1x1024 : Shape := ⟨2, ![1, 1024]⟩
abbrev S2048x128 : Shape := ⟨2, ![2048, 128]⟩
abbrev S31x128 : Shape := ⟨2, ![31, 128]⟩
abbrev S1x128 : Shape := ⟨2, ![1, 128]⟩
abbrev S2080x128 : Shape := ⟨2, ![2080, 128]⟩
abbrev S32x128 : Shape := ⟨2, ![32, 128]⟩
abbrev S128 : Shape := ⟨1, ![128]⟩
abbrev S288x128 : Shape := ⟨2, ![288, 128]⟩
abbrev S256x128 : Shape := ⟨2, ![256, 128]⟩

abbrev nBuf : Space → Nat
  | .hbm => 7
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S31x1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .hbm, ⟨5, _⟩ => ⟨S31x1024, .f32⟩
  | .hbm, ⟨6, _⟩ => ⟨S1x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S31x128, .f32⟩
  | .local _ .vmem, ⟨5, _⟩ => ⟨S31x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S31x128, .f32⟩
  | .local _ .vmem, ⟨13, _⟩ => ⟨S31x128, .f32⟩
  | .local _ .vmem, ⟨14, _⟩ => ⟨S1x128, .f32⟩
  | .local _ .vmem, ⟨15, _⟩ => ⟨S1x128, .f32⟩
  | .local _ .vmem, ⟨16, _⟩ => ⟨S2080x128, .f32⟩
  | .local _ .vmem, ⟨17, _⟩ => ⟨S2080x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v25 : BitVec 32 := Scalar.addi c0_i32 c8_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v29 : BitVec 32 := Scalar.muli arg11 c256_i32
  v29
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v29 : BitVec 32 := Scalar.muli arg11 c256_i32
  let v30 : BitVec 32 := v29
  let v31 : Index := Scalar.indexCast v30
  let c0_27 : Index := 0#32
  ![v31.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v29 : BitVec 32 := Scalar.muli arg11 c256_i32
  let v30 : BitVec 32 := v29
  let v91 : Index := Scalar.indexCast v30
  let c0_28 : Index := 0#32
  ![v91.toNat, 0]
@[reducible] def k0_t2_loop : Scf.Loop 32 :=
  let c0_i32_23 : BitVec 32 := 0#32
  let c8_i32_24 : BitVec 32 := 8#32
  let v28 : BitVec 32 := Scalar.addi c0_i32_23 c8_i32_24
  let c1_i32_25 : BitVec 32 := 1#32
  ⟨c0_i32_23, v28, c1_i32_25⟩
def k0_mult2 (k0_t2 : Fin k0_t2_loop.trips) : BitVec 32 :=
  let c0_i32_23 : BitVec 32 := 0#32
  let c1_i32_25 : BitVec 32 := 1#32
  let arg11 : BitVec 32 := Scf.iv c0_i32_23 c1_i32_25 k0_t2
  let c256_i32 : BitVec 32 := 256#32
  let v29 : BitVec 32 := Scalar.muli arg11 c256_i32
  v29
def k0_off3 (k0_t2 : Fin k0_t2_loop.trips) : Fin 2 → Nat :=
  let c0_i32_23 : BitVec 32 := 0#32
  let c1_i32_25 : BitVec 32 := 1#32
  let arg11 : BitVec 32 := Scf.iv c0_i32_23 c1_i32_25 k0_t2
  let c256_i32 : BitVec 32 := 256#32
  let v29 : BitVec 32 := Scalar.muli arg11 c256_i32
  let v30 : BitVec 32 := v29
  let v31 : Index := Scalar.indexCast v30
  let c0_27 : Index := 0#32
  ![v31.toNat, 0]
def k0_off4 (k0_t2 : Fin k0_t2_loop.trips) : Fin 2 → Nat :=
  let c0_i32_23 : BitVec 32 := 0#32
  let c1_i32_25 : BitVec 32 := 1#32
  let arg11 : BitVec 32 := Scf.iv c0_i32_23 c1_i32_25 k0_t2
  let c256_i32 : BitVec 32 := 256#32
  let v29 : BitVec 32 := Scalar.muli arg11 c256_i32
  let v30 : BitVec 32 := v29
  let v214 : Index := Scalar.indexCast v30
  let c0_28 : Index := 0#32
  ![v214.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S2048x2048 : Shape := ⟨2, ![2048, 2048]⟩
abbrev S31x1024 : Shape := ⟨2, ![31, 1024]⟩
abbrev S2048x1024 : Shape := ⟨2, ![2048, 1024]⟩
abbrev S_ : Shape := ⟨0, ![]⟩
abbrev S1x1024 : Shape := ⟨2, ![1, 1024]⟩
abbrev S2078x1024 : Shape := ⟨2, ![2078, 1024]⟩
abbrev S1024 : Shape := ⟨1, ![1024]⟩

abbrev nBuf : Space → Nat
  | .hbm => 243
  | .vmem => 0
  | .smem => 0
  | _ => 0

abbrev hbmTy0_0 (i : Nat) : BufTy := match i % 128 with
  | 0 => ⟨S2048x2048, .f32⟩
  | 1 => ⟨S31x1024, .f32⟩
  | 2 => ⟨S2048x1024, .f32⟩
  | 3 => ⟨S2048x1024, .f32⟩
  | 4 => ⟨S2048x1024, .f32⟩
  | 5 => ⟨S2048x1024, .f32⟩
  | 6 => ⟨S2048x1024, .f32⟩
  | 7 => ⟨S_, .f32⟩
  | 8 => ⟨S2048x1024, .f32⟩
  | 9 => ⟨S2048x1024, .f32⟩
  | 10 => ⟨S_, .f32⟩
  | 11 => ⟨S2048x1024, .f32⟩
  | 12 => ⟨S2048x1024, .f32⟩
  | 13 => ⟨S2048x1024, .f32⟩
  | 14 => ⟨S_, .f32⟩
  | 15 => ⟨S1x1024, .f32⟩
  | 16 => ⟨S_, .i32⟩
  | 17 => ⟨S_, .f32⟩
  | 18 => ⟨S2078x1024, .f32⟩
  | 19 => ⟨S2048x1024, .f32⟩
  | 20 => ⟨S1x1024, .f32⟩
  | 21 => ⟨S1024, .f32⟩
  | 22 => ⟨S1x1024, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | 28 => ⟨S2048x1024, .f32⟩
  | 29 => ⟨S1x1024, .f32⟩
  | 30 => ⟨S1024, .f32⟩
  | 31 => ⟨S1x1024, .f32⟩
  | 32 => ⟨S2048x1024, .f32⟩
  | 33 => ⟨S2048x1024, .f32⟩
  | 34 => ⟨S2048x1024, .f32⟩
  | 35 => ⟨S2048x1024, .f32⟩
  | 36 => ⟨S1x1024, .f32⟩
  | 37 => ⟨S1024, .f32⟩
  | 38 => ⟨S1x1024, .f32⟩
  | 39 => ⟨S2048x1024, .f32⟩
  | 40 => ⟨S2048x1024, .f32⟩
  | 41 => ⟨S2048x1024, .f32⟩
  | 42 => ⟨S2048x1024, .f32⟩
  | 43 => ⟨S1x1024, .f32⟩
  | 44 => ⟨S1024, .f32⟩
  | 45 => ⟨S1x1024, .f32⟩
  | 46 => ⟨S2048x1024, .f32⟩
  | 47 => ⟨S2048x1024, .f32⟩
  | 48 => ⟨S2048x1024, .f32⟩
  | 49 => ⟨S2048x1024, .f32⟩
  | 50 => ⟨S1x1024, .f32⟩
  | 51 => ⟨S1024, .f32⟩
  | 52 => ⟨S1x1024, .f32⟩
  | 53 => ⟨S2048x1024, .f32⟩
  | 54 => ⟨S2048x1024, .f32⟩
  | 55 => ⟨S2048x1024, .f32⟩
  | 56 => ⟨S2048x1024, .f32⟩
  | 57 => ⟨S1x1024, .f32⟩
  | 58 => ⟨S1024, .f32⟩
  | 59 => ⟨S1x1024, .f32⟩
  | 60 => ⟨S2048x1024, .f32⟩
  | 61 => ⟨S2048x1024, .f32⟩
  | 62 => ⟨S2048x1024, .f32⟩
  | 63 => ⟨S2048x1024, .f32⟩
  | 64 => ⟨S1x1024, .f32⟩
  | 65 => ⟨S1024, .f32⟩
  | 66 => ⟨S1x1024, .f32⟩
  | 67 => ⟨S2048x1024, .f32⟩
  | 68 => ⟨S2048x1024, .f32⟩
  | 69 => ⟨S2048x1024, .f32⟩
  | 70 => ⟨S2048x1024, .f32⟩
  | 71 => ⟨S1x1024, .f32⟩
  | 72 => ⟨S1024, .f32⟩
  | 73 => ⟨S1x1024, .f32⟩
  | 74 => ⟨S2048x1024, .f32⟩
  | 75 => ⟨S2048x1024, .f32⟩
  | 76 => ⟨S2048x1024, .f32⟩
  | 77 => ⟨S2048x1024, .f32⟩
  | 78 => ⟨S1x1024, .f32⟩
  | 79 => ⟨S1024, .f32⟩
  | 80 => ⟨S1x1024, .f32⟩
  | 81 => ⟨S2048x1024, .f32⟩
  | 82 => ⟨S2048x1024, .f32⟩
  | 83 => ⟨S2048x1024, .f32⟩
  | 84 => ⟨S2048x1024, .f32⟩
  | 85 => ⟨S1x1024, .f32⟩
  | 86 => ⟨S1024, .f32⟩
  | 87 => ⟨S1x1024, .f32⟩
  | 88 => ⟨S2048x1024, .f32⟩
  | 89 => ⟨S2048x1024, .f32⟩
  | 90 => ⟨S2048x1024, .f32⟩
  | 91 => ⟨S2048x1024, .f32⟩
  | 92 => ⟨S1x1024, .f32⟩
  | 93 => ⟨S1024, .f32⟩
  | 94 => ⟨S1x1024, .f32⟩
  | 95 => ⟨S2048x1024, .f32⟩
  | 96 => ⟨S2048x1024, .f32⟩
  | 97 => ⟨S2048x1024, .f32⟩
  | 98 => ⟨S2048x1024, .f32⟩
  | 99 => ⟨S1x1024, .f32⟩
  | 100 => ⟨S1024, .f32⟩
  | 101 => ⟨S1x1024, .f32⟩
  | 102 => ⟨S2048x1024, .f32⟩
  | 103 => ⟨S2048x1024, .f32⟩
  | 104 => ⟨S2048x1024, .f32⟩
  | 105 => ⟨S2048x1024, .f32⟩
  | 106 => ⟨S1x1024, .f32⟩
  | 107 => ⟨S1024, .f32⟩
  | 108 => ⟨S1x1024, .f32⟩
  | 109 => ⟨S2048x1024, .f32⟩
  | 110 => ⟨S2048x1024, .f32⟩
  | 111 => ⟨S2048x1024, .f32⟩
  | 112 => ⟨S2048x1024, .f32⟩
  | 113 => ⟨S1x1024, .f32⟩
  | 114 => ⟨S1024, .f32⟩
  | 115 => ⟨S1x1024, .f32⟩
  | 116 => ⟨S2048x1024, .f32⟩
  | 117 => ⟨S2048x1024, .f32⟩
  | 118 => ⟨S2048x1024, .f32⟩
  | 119 => ⟨S2048x1024, .f32⟩
  | 120 => ⟨S1x1024, .f32⟩
  | 121 => ⟨S1024, .f32⟩
  | 122 => ⟨S1x1024, .f32⟩
  | 123 => ⟨S2048x1024, .f32⟩
  | 124 => ⟨S2048x1024, .f32⟩
  | 125 => ⟨S2048x1024, .f32⟩
  | 126 => ⟨S2048x1024, .f32⟩
  | 127 => ⟨S1x1024, .f32⟩
  | _ => ⟨S2048x2048, .f32⟩

abbrev hbmTy0_1 (i : Nat) : BufTy := match i % 128 with
  | 0 => ⟨S1024, .f32⟩
  | 1 => ⟨S1x1024, .f32⟩
  | 2 => ⟨S2048x1024, .f32⟩
  | 3 => ⟨S2048x1024, .f32⟩
  | 4 => ⟨S2048x1024, .f32⟩
  | 5 => ⟨S2048x1024, .f32⟩
  | 6 => ⟨S1x1024, .f32⟩
  | 7 => ⟨S1024, .f32⟩
  | 8 => ⟨S1x1024, .f32⟩
  | 9 => ⟨S2048x1024, .f32⟩
  | 10 => ⟨S2048x1024, .f32⟩
  | 11 => ⟨S2048x1024, .f32⟩
  | 12 => ⟨S2048x1024, .f32⟩
  | 13 => ⟨S1x1024, .f32⟩
  | 14 => ⟨S1024, .f32⟩
  | 15 => ⟨S1x1024, .f32⟩
  | 16 => ⟨S2048x1024, .f32⟩
  | 17 => ⟨S2048x1024, .f32⟩
  | 18 => ⟨S2048x1024, .f32⟩
  | 19 => ⟨S2048x1024, .f32⟩
  | 20 => ⟨S1x1024, .f32⟩
  | 21 => ⟨S1024, .f32⟩
  | 22 => ⟨S1x1024, .f32⟩
  | 23 => ⟨S2048x1024, .f32⟩
  | 24 => ⟨S2048x1024, .f32⟩
  | 25 => ⟨S2048x1024, .f32⟩
  | 26 => ⟨S2048x1024, .f32⟩
  | 27 => ⟨S1x1024, .f32⟩
  | 28 => ⟨S1024, .f32⟩
  | 29 => ⟨S1x1024, .f32⟩
  | 30 => ⟨S2048x1024, .f32⟩
  | 31 => ⟨S2048x1024, .f32⟩
  | 32 => ⟨S2048x1024, .f32⟩
  | 33 => ⟨S2048x1024, .f32⟩
  | 34 => ⟨S1x1024, .f32⟩
  | 35 => ⟨S1024, .f32⟩
  | 36 => ⟨S1x1024, .f32⟩
  | 37 => ⟨S2048x1024, .f32⟩
  | 38 => ⟨S2048x1024, .f32⟩
  | 39 => ⟨S2048x1024, .f32⟩
  | 40 => ⟨S2048x1024, .f32⟩
  | 41 => ⟨S1x1024, .f32⟩
  | 42 => ⟨S1024, .f32⟩
  | 43 => ⟨S1x1024, .f32⟩
  | 44 => ⟨S2048x1024, .f32⟩
  | 45 => ⟨S2048x1024, .f32⟩
  | 46 => ⟨S2048x1024, .f32⟩
  | 47 => ⟨S2048x1024, .f32⟩
  | 48 => ⟨S1x1024, .f32⟩
  | 49 => ⟨S1024, .f32⟩
  | 50 => ⟨S1x1024, .f32⟩
  | 51 => ⟨S2048x1024, .f32⟩
  | 52 => ⟨S2048x1024, .f32⟩
  | 53 => ⟨S2048x1024, .f32⟩
  | 54 => ⟨S2048x1024, .f32⟩
  | 55 => ⟨S1x1024, .f32⟩
  | 56 => ⟨S1024, .f32⟩
  | 57 => ⟨S1x1024, .f32⟩
  | 58 => ⟨S2048x1024, .f32⟩
  | 59 => ⟨S2048x1024, .f32⟩
  | 60 => ⟨S2048x1024, .f32⟩
  | 61 => ⟨S2048x1024, .f32⟩
  | 62 => ⟨S1x1024, .f32⟩
  | 63 => ⟨S1024, .f32⟩
  | 64 => ⟨S1x1024, .f32⟩
  | 65 => ⟨S2048x1024, .f32⟩
  | 66 => ⟨S2048x1024, .f32⟩
  | 67 => ⟨S2048x1024, .f32⟩
  | 68 => ⟨S2048x1024, .f32⟩
  | 69 => ⟨S1x1024, .f32⟩
  | 70 => ⟨S1024, .f32⟩
  | 71 => ⟨S1x1024, .f32⟩
  | 72 => ⟨S2048x1024, .f32⟩
  | 73 => ⟨S2048x1024, .f32⟩
  | 74 => ⟨S2048x1024, .f32⟩
  | 75 => ⟨S2048x1024, .f32⟩
  | 76 => ⟨S1x1024, .f32⟩
  | 77 => ⟨S1024, .f32⟩
  | 78 => ⟨S1x1024, .f32⟩
  | 79 => ⟨S2048x1024, .f32⟩
  | 80 => ⟨S2048x1024, .f32⟩
  | 81 => ⟨S2048x1024, .f32⟩
  | 82 => ⟨S2048x1024, .f32⟩
  | 83 => ⟨S1x1024, .f32⟩
  | 84 => ⟨S1024, .f32⟩
  | 85 => ⟨S1x1024, .f32⟩
  | 86 => ⟨S2048x1024, .f32⟩
  | 87 => ⟨S2048x1024, .f32⟩
  | 88 => ⟨S2048x1024, .f32⟩
  | 89 => ⟨S2048x1024, .f32⟩
  | 90 => ⟨S1x1024, .f32⟩
  | 91 => ⟨S1024, .f32⟩
  | 92 => ⟨S1x1024, .f32⟩
  | 93 => ⟨S2048x1024, .f32⟩
  | 94 => ⟨S2048x1024, .f32⟩
  | 95 => ⟨S2048x1024, .f32⟩
  | 96 => ⟨S2048x1024, .f32⟩
  | 97 => ⟨S1x1024, .f32⟩
  | 98 => ⟨S1024, .f32⟩
  | 99 => ⟨S1x1024, .f32⟩
  | 100 => ⟨S2048x1024, .f32⟩
  | 101 => ⟨S2048x1024, .f32⟩
  | 102 => ⟨S2048x1024, .f32⟩
  | 103 => ⟨S2048x1024, .f32⟩
  | 104 => ⟨S1x1024, .f32⟩
  | 105 => ⟨S1024, .f32⟩
  | 106 => ⟨S1x1024, .f32⟩
  | 107 => ⟨S2048x1024, .f32⟩
  | 108 => ⟨S2048x1024, .f32⟩
  | 109 => ⟨S2048x1024, .f32⟩
  | 110 => ⟨S2048x1024, .f32⟩
  | 111 => ⟨S2048x1024, .f32⟩
  | 112 => ⟨S_, .f32⟩
  | 113 => ⟨S1024, .f32⟩
  | 114 => ⟨S1x1024, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_3 : Ref sig .tc := ⟨.hbm, 240, rfl⟩
abbrev main_v231 : Ref sig .tc := ⟨.hbm, 241, rfl⟩
abbrev main_v232 : Ref sig .tc := ⟨.hbm, 242, rfl⟩

abbrev nD : Nat := 1
abbrev τ : Topo := Topo.v7x

variable {F : FTy → Type} [FloatOps F]
-- ==== Kernel29.lean ====
abbrev S2048x1024 : Shape := ⟨2, ![2048, 1024]⟩
abbrev S2048x4224 : Shape := ⟨2, ![2048, 4224]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x4224, .f32⟩
  | .hbm, ⟨2, _⟩ => ⟨S2048x1024, .f32⟩
  | .hbm, ⟨3, _⟩ => ⟨S1x128, .f32⟩
  | .hbm, ⟨4, _⟩ => ⟨S2048x1024, .f32⟩
  | .hbm, ⟨5, _⟩ => ⟨S2048x1024, .bf16⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v410 : BitVec 1 := Scalar.cmpi .eq arg0 c0_i32
  let v411 : BitVec 32 := Scalar.extui v410
  let c0_i32_83 : BitVec 32 := 0#32
  let v412 : BitVec 1 := Scalar.cmpi .ne v411 c0_i32_83
  v412

def k0_cond2 (i : grid0.Coords) : BitVec 1 :=
  let arg0 : BitVec 32 := BitVec.ofNat 32 (i 0).val
  let c0_i32 : BitVec 32 := 0#32
  let v410 : BitVec 1 := Scalar.cmpi .eq arg0 c0_i32
  let v_true : BitVec 1 := 1#1
  let v413 : BitVec 1 := Scalar.xori v410 v_true
  let v414 : BitVec 32 := Scalar.extui v413
  let c0_i32_84 : BitVec 32 := 0#32
  let v415 : BitVec 1 := Scalar.cmpi .ne v414 c0_i32_84
  v415

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference29Ideal.lean ====
abbrev S2048x1024 : Shape := ⟨2, ![2048, 1024]⟩
abbrev S2048x4224 : Shape := ⟨2, ![2048, 4224]⟩
abbrev S1x128 : Shape := ⟨2, ![1, 128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S128 : Shape := ⟨1, ![128]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4224, .f32⟩
  | .hbm, ⟨2, _⟩ => ⟨S2048x1024, .f32⟩
  | .hbm, ⟨3, _⟩ => ⟨S1x128, .f32⟩
  | .hbm, ⟨4, _⟩ => ⟨S2048x1024, .f32⟩
  | .hbm, ⟨5, _⟩ => ⟨S2048x8x128, .f32⟩
  | .hbm, ⟨6, _⟩ => ⟨S2048x8x128, .f32⟩
  | .hbm, ⟨7, _⟩ => ⟨S2048x8x128, .f32⟩
  | .hbm, ⟨8, _⟩ => ⟨S_, .f32⟩
  | .hbm, ⟨9, _⟩ => ⟨S2048x8, .f32⟩
  | .hbm, ⟨10, _⟩ => ⟨S2048x8x1, .f32⟩
  | .hbm, ⟨11, _⟩ => ⟨S_, .f32⟩
  | .hbm, ⟨12, _⟩ => ⟨S2048x8x1, .f32⟩
  | .hbm, ⟨13, _⟩ => ⟨S2048x8x1, .f32⟩
  | .hbm, ⟨14, _⟩ => ⟨S_, .f32⟩
  | .hbm, ⟨15, _⟩ => ⟨S2048x8x1, .f32⟩
  | .hbm, ⟨16, _⟩ => ⟨S2048x8x1, .f32⟩
  | .hbm, ⟨17, _⟩ => ⟨S2048x8x1, .f32⟩
  | .hbm, ⟨18, _⟩ => ⟨S2048x8x128, .f32⟩
  | .hbm, ⟨19, _⟩ => ⟨S2048x8x128, .f32⟩
  | .hbm, ⟨20, _⟩ => ⟨S1x1x128, .f32⟩
  | .hbm, ⟨21, _⟩ => ⟨S2048x8x128, .f32⟩
  | .hbm, ⟨22, _⟩ => ⟨S2048x8x128, .f32⟩
  | .hbm, ⟨23, _⟩ => ⟨S2048x8x128, .f32⟩
  | .hbm, ⟨24, _⟩ => ⟨S2048x8x128, .f32⟩
  | .hbm, ⟨25, _⟩ => ⟨S_, .f32⟩
  | .hbm, ⟨26, _⟩ => ⟨S2048x8x128, .f32⟩
  | .hbm, ⟨27, _⟩ => ⟨S2048x8x128, .f32⟩
  | .hbm, ⟨28, _⟩ => ⟨S_, .f32⟩
  | .hbm, ⟨29, _⟩ => ⟨S2048x8x128, .f32⟩
  | .hbm, ⟨30, _⟩ => ⟨S2048x8x128, .f32⟩
  | .hbm, ⟨31, _⟩ => ⟨S2048x8x128, .f32⟩
  | .hbm, ⟨32, _⟩ => ⟨S2048x8x128, .f32⟩
  | .hbm, ⟨33, _⟩ => ⟨S2048x8x128, .f32⟩
  | .hbm, ⟨34, _⟩ => ⟨S2048x8x128, .f32⟩
  | .hbm, ⟨35, _⟩ => ⟨S2048x8x128, .f32⟩
  | .hbm, ⟨36, _⟩ => ⟨S_, .f32⟩
  | .hbm, ⟨37, _⟩ => ⟨S128, .f32⟩
  | .hbm, ⟨38, _⟩ => ⟨S1x1x128, .f32⟩
  | .hbm, ⟨39, _⟩ => ⟨S_, .f32⟩
  | .hbm, ⟨40, _⟩ => ⟨S128, .f32⟩
  | .hbm, ⟨41, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Proof.Fwd.Shared.lean ====
/- The forward recurrence's call (dn_scan): what the runs of its body share — the windows' blocks, the branch condition over the points, the memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Fwd

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 6, through which its contents are stated (`View.read_writes_of_cover`: the
    choice does not matter). -/
abbrev VO0_6 : View sig .tc .vmem S128x1024 .f32 := (Memref.whole cc0_stg6_0 : Memref sig .tc .vmem S128x1024 .f32).view
/-- One staging buffer of output window 7, through which its contents are stated (`View.read_writes_of_cover`: the
    choice does not matter). -/
abbrev VO0_7 : View sig .tc .vmem S2x8x128x128 .f32 := (Memref.whole cc0_stg7_0 : Memref sig .tc .vmem S2x8x128x128 .f32).view
/-- Each window's current staging memref at point `t`, spelled as the pipeline passes it (`bodyAt0`), and its wholeness. -/
abbrev ms0_0 (t : Fin cfg0.N) : Memref sig .tc .vmem S8x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x8x128x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S8x128x128 .f32 := Memref.whole cc0_scratch0
/-- The scratch `arg9` the kernel carries between points, as a view: what it holds is stated through it. -/
abbrev VS0_0 : View sig .tc .vmem S8x128x128 .f32 := scM0_0.view

/-- The other scoped buffers of the core, untouched by the call's body. -/
abbrev Rest (c : Dev nD) : sProp 𝕄 := Pipeline.scopedRestBut (Ix := Unit) (Name := ℕ) (U := UR sig nD τ) (Lvl := ℕ) (Val := Elt F) spec0 c [cc0_scratch0]

/-- What the region is entered with beside its windows: the scratch at some contents, the other scoped buffers, and the generator register. -/
theorem PhiA0_eq (c : Dev nD) :
    (Pipeline.ΦA spec0 c : sProp 𝕄)
      = iprop(iprop((∃ d, owns (c : Thread nD τ) scM0_0 fullShare d) ∗ Rest (F := F) c) ∗ (∃ r, prngReg c r)) := by
  unfold Pipeline.ΦA; rw [Pipeline.scopedRest_split_of_list spec0 c [cc0_scratch0] (by decide) (by decide)]; simp only [scM0_0, owns_whole]; try rfl

end Cert.KernelIdeal.Fwd

end
-- ==== Proof.Fwd.RunA.lean ====
/- The forward recurrence's call (dn_scan): its body's run at the first grid point. -/
module

public import proofs.«01_k».proof.Proof.Fwd.Shared

@[expose] public section

-- membership in a rectangle of production extents (`View.cover_of_tiled`): the elaborator's structural look
-- recurses once per coordinate of the long axes
set_option maxRecDepth 16384

noncomputable section

namespace Cert.KernelIdeal.Fwd

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1184000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S128x1024 .f32) (harg7 : arg7.IsWhole) (arg8 : Memref sig .tc .vmem S2x8x128x128 .f32) (harg8 : arg8.IsWhole) (arg9 : Memref sig .tc .vmem S8x128x128 .f32) (harg9 : arg9.IsWhole) (hc0 : cond0_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) :
    Σ' (L6 : List (View.Piece (Elt F) S128x1024 .f32)), Σ' (L7 : List (View.Piece (Elt F) S2x8x128x128 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_dn_scan i arg1 harg1 arg2 harg2 arg3 harg3 arg4 harg4 arg5 harg5 arg6 harg6 arg7 harg7 arg8 harg8 arg9 harg9) K } := by
  refine ⟨?_, ?_, ?_, fun E K => ?run⟩
  case run =>
    simp only [cc0_dn_scan_eq_skeleton]; unfold cc0_dn_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Fwd

end
-- ==== Proof.Fwd.RunB.lean ====
/- The forward recurrence's call (dn_scan): its body's run at every later grid point. -/
module

public import proofs.«01_k».proof.Proof.Fwd.RunA

@[expose] public section

-- membership in a rectangle of production extents (`View.cover_of_tiled`): the elaborator's structural look
-- recurses once per coordinate of the long axes
set_option maxRecDepth 16384

noncomputable section

namespace Cert.KernelIdeal.Fwd

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1172000 in
/-- What the body's stores leave in each output's staging memref, as pieces (last first) IN CASE B (`scf.if` 0 not taken: points 1, 2, … 15: 15 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S128x1024 .f32) (harg7 : arg7.IsWhole) (arg8 : Memref sig .tc .vmem S2x8x128x128 .f32) (harg8 : arg8.IsWhole) (arg9 : Memref sig .tc .vmem S8x128x128 .f32) (harg9 : arg9.IsWhole) (hc0 : ¬cond0_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (xs0 : Vec F S8x128x128 .f32) :
    Σ' (L6 : List (View.Piece (Elt F) S128x1024 .f32)), Σ' (L7 : List (View.Piece (Elt F) S2x8x128x128 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_dn_scan i arg1 harg1 arg2 harg2 arg3 harg3 arg4 harg4 arg5 harg5 arg6 harg6 arg7 harg7 arg8 harg8 arg9 harg9) K } := by
  refine ⟨?_, ?_, ?_, fun E K => ?run⟩
  case run =>
    simp only [cc0_dn_scan_eq_skeleton]; unfold cc0_dn_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Fwd

end
-- ==== Proof.Fwd.Frame.lean ====
/- The forward recurrence's call (dn_scan): what its outputs and its carried scratch hold point by point, the proof data and the body obligation. -/
module

public import proofs.«01_k».proof.Proof.Fwd.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Fwd

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 6 tile its block (16 stores of `S64x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S128x1024 .f32) (harg7 : arg7.IsWhole) (arg8 : Memref sig .tc .vmem S2x8x128x128 .f32) (harg8 : arg8.IsWhole) (arg9 : Memref sig .tc .vmem S8x128x128 .f32) (harg9 : arg9.IsWhole) (hc0 : cond0_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (y : S128x1024.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).1 S64x128.size (by sl_kernel_rfl) y

/-- What case A leaves in output 6's staging buffer: its pieces read back over junk. -/
def out0_A_6 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S128x1024 .f32) (harg7 : arg7.IsWhole) (arg8 : Memref sig .tc .vmem S2x8x128x128 .f32) (harg8 : arg8.IsWhole) (arg9 : Memref sig .tc .vmem S8x128x128 .f32) (harg9 : arg9.IsWhole) (hc0 : cond0_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) : Vec F S128x1024 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

/-- Case A's pieces for output 7 tile its block (16 stores of `S1x1x128x128`, checked by the kernel's evaluation: Lib/Ring.lean `Piece.tiledL`, linear in the pieces, through a loop's `@[irreducible]` trip theorem too), so they cover it. -/
theorem cover0_A_7 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S128x1024 .f32) (harg7 : arg7.IsWhole) (arg8 : Memref sig .tc .vmem S2x8x128x128 .f32) (harg8 : arg8.IsWhole) (arg9 : Memref sig .tc .vmem S8x128x128 .f32) (harg9 : arg9.IsWhole) (hc0 : cond0_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (y : S2x8x128x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.1 S1x1x128x128.size (by sl_kernel_rfl) y

/-- What case A leaves in output 7's staging buffer: its pieces read back over junk. -/
def out0_A_7 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S128x1024 .f32) (harg7 : arg7.IsWhole) (arg8 : Memref sig .tc .vmem S2x8x128x128 .f32) (harg8 : arg8.IsWhole) (arg9 : Memref sig .tc .vmem S8x128x128 .f32) (harg9 : arg9.IsWhole) (hc0 : cond0_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) : Vec F S2x8x128x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

/-- Case A's pieces for scratch `arg9`, which the kernel carries between points, cover it: one of them a store of the WHOLE buffer (Lib/Ring.lean `sl_whole_mem`). -/
theorem scover0_A_0 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S128x1024 .f32) (harg7 : arg7.IsWhole) (arg8 : Memref sig .tc .vmem S2x8x128x128 .f32) (harg8 : arg8.IsWhole) (arg9 : Memref sig .tc .vmem S8x128x128 .f32) (harg9 : arg9.IsWhole) (hc0 : cond0_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (y : S8x128x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_wholeMem (kernelRun0_A c i arg1 harg1 arg2 harg2 arg3 harg3 arg4 harg4 arg5 harg5 arg6 harg6 arg7 harg7 arg8 harg8 arg9 harg9 hc0 x0 x1 x2 x3 x4 x5).2.2.1 (by sl_whole_mem) y

/-- What case A leaves in scratch `arg9`: its pieces read back over junk. -/
def sout0_A_0 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S128x1024 .f32) (harg7 : arg7.IsWhole) (arg8 : Memref sig .tc .vmem S2x8x128x128 .f32) (harg8 : arg8.IsWhole) (arg9 : Memref sig .tc .vmem S8x128x128 .f32) (harg9 : arg9.IsWhole) (hc0 : cond0_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) : Vec F S8x128x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4 x5).2.2.1)

/-- Case B's pieces for output 6 tile its block (16 stores of `S64x128`, checked by the kernel's evaluation: Lib/Ring.lean `Piece.tiledL`, linear in the pieces, through a loop's `@[irreducible]` trip theorem too), so they cover it. -/
theorem cover0_B_6 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S128x1024 .f32) (harg7 : arg7.IsWhole) (arg8 : Memref sig .tc .vmem S2x8x128x128 .f32) (harg8 : arg8.IsWhole) (arg9 : Memref sig .tc .vmem S8x128x128 .f32) (harg9 : arg9.IsWhole) (hc0 : ¬cond0_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (xs0 : Vec F S8x128x128 .f32) (y : S128x1024.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).1 S64x128.size (by sl_kernel_rfl) y

/-- What case B leaves in output 6's staging buffer: its pieces read back over junk. -/
def out0_B_6 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S128x1024 .f32) (harg7 : arg7.IsWhole) (arg8 : Memref sig .tc .vmem S2x8x128x128 .f32) (harg8 : arg8.IsWhole) (arg9 : Memref sig .tc .vmem S8x128x128 .f32) (harg9 : arg9.IsWhole) (hc0 : ¬cond0_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (xs0 : Vec F S8x128x128 .f32) : Vec F S128x1024 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xs0).1)

/-- Case B's pieces for output 7 tile its block (16 stores of `S1x1x128x128`, checked by the kernel's evaluation: Lib/Ring.lean `Piece.tiledL`, linear in the pieces, through a loop's `@[irreducible]` trip theorem too), so they cover it. -/
theorem cover0_B_7 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S128x1024 .f32) (harg7 : arg7.IsWhole) (arg8 : Memref sig .tc .vmem S2x8x128x128 .f32) (harg8 : arg8.IsWhole) (arg9 : Memref sig .tc .vmem S8x128x128 .f32) (harg9 : arg9.IsWhole) (hc0 : ¬cond0_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (xs0 : Vec F S8x128x128 .f32) (y : S2x8x128x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).2.1 S1x1x128x128.size (by sl_kernel_rfl) y

/-- What case B leaves in output 7's staging buffer: its pieces read back over junk. -/
def out0_B_7 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S128x1024 .f32) (harg7 : arg7.IsWhole) (arg8 : Memref sig .tc .vmem S2x8x128x128 .f32) (harg8 : arg8.IsWhole) (arg9 : Memref sig .tc .vmem S8x128x128 .f32) (harg9 : arg9.IsWhole) (hc0 : ¬cond0_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (xs0 : Vec F S8x128x128 .f32) : Vec F S2x8x128x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xs0).2.1)

/-- Case B's pieces for scratch `arg9`, which the kernel carries between points, cover it: 16 pieces of `S1x128x128` tiling it (Lib/Ring.lean `Piece.tiledL`). -/
theorem scover0_B_0 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S128x1024 .f32) (harg7 : arg7.IsWhole) (arg8 : Memref sig .tc .vmem S2x8x128x128 .f32) (harg8 : arg8.IsWhole) (arg9 : Memref sig .tc .vmem S8x128x128 .f32) (harg9 : arg9.IsWhole) (hc0 : ¬cond0_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (xs0 : Vec F S8x128x128 .f32) (y : S8x128x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).2.2.1 S1x128x128.size (by sl_kernel_rfl) y

/-- What case B leaves in scratch `arg9`: its pieces read back over junk. -/
def sout0_B_0 (c : Dev nD) (i : grid0.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S128x1024 .f32) (harg7 : arg7.IsWhole) (arg8 : Memref sig .tc .vmem S2x8x128x128 .f32) (harg8 : arg8.IsWhole) (arg9 : Memref sig .tc .vmem S8x128x128 .f32) (harg9 : arg9.IsWhole) (hc0 : ¬cond0_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (xs0 : Vec F S8x128x128 .f32) : Vec F S8x128x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 x0 x1 x2 x3 x4 x5 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x1024 .f32 × Vec F S2x8x128x128 .f32 × Vec F S8x128x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 16 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2)

/-- `outsAt0` at a point of case A: that case's contents. -/
theorem outsAt0_A (c : Dev nD) (t : Fin cfg0.N) (h0 : t.val % 16 = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2) ∗ Rest (F := F) c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ Rest (F := F) c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = (outsAt0 V c t.val t.isLt).1 := by dsimp only [dat]
theorem after0_7 (c : Dev nD) (t : Fin cfg0.N) : (dat V c).after 7 t = (outsAt0 V c t.val t.isLt).2.1 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t)
    ∗ owns (c : Thread nD τ) (ms0_6 t) fullShare ((dat V c).after 6 t)
    ∗ owns (c : Thread nD τ) (ms0_7 t) fullShare ((dat V c).after 7 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat V c).owesAt () t.succ = (dat V c).owesAt () t.castSucc from rfl,
    after0_0, after0_1, after0_2, after0_3, after0_4, after0_5, after0_6, after0_7]
  rw [show (dat V c).Φ t.succ = PhiS V c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc V c t, PhiS_zero V c _ _ hz, PhiA0_eq]
      rw [outsAt0_A V c t h0]
      unfold out0_A_6 out0_A_7 sout0_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk V c 0 t) (iblk V c 1 t) (iblk V c 2 t) (iblk V c 3 t) (iblk V c 4 t) (iblk V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc V c t, PhiS_pos V c _ _ hz]
      rw [outsAt0_B V c t h0]
      unfold out0_B_6 out0_B_7 sout0_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- The same after the last point. -/
theorem hout (c : Dev nD) : (dat V c).Φ (Fin.last cfg0.N) ⊢ Pipeline.ΦA spec0 c :=
  Phi_out V c _ (by rw [Fin.val_last]; have : cfg0.N = 16 := N_0; omega)

end Cert.KernelIdeal.Fwd

end
-- ==== Proof.Bwd.Shared.lean ====
/- The backward recurrence's call (dn_scan_bwd): what the runs of its body share — the windows' blocks, the branch condition over the points, the memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Bwd

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond1_0, e0]
    word_cmp
   : ∀ t : Fin grid1.N, cond1_0 (grid1.coords t) ↔ t.val % 16 = 0)

/-! ## The kernel body on any staging memrefs: a subtype the run finds -/

/-- One staging buffer of output window 8, through which its contents are stated (`View.read_writes_of_cover`: the
    choice does not matter). -/
abbrev VO1_8 : View sig .tc .vmem S8x128x128 .f32 := (Memref.whole cc1_stg8_0 : Memref sig .tc .vmem S8x128x128 .f32).view
/-- One staging buffer of output window 9, through which its contents are stated (`View.read_writes_of_cover`: the
    choice does not matter). -/
abbrev VO1_9 : View sig .tc .vmem S8x128x128 .f32 := (Memref.whole cc1_stg9_0 : Memref sig .tc .vmem S8x128x128 .f32).view
/-- One staging buffer of output window 10, through which its contents are stated (`View.read_writes_of_cover`: the
    choice does not matter). -/
abbrev VO1_10 : View sig .tc .vmem S8x128x64 .f32 := (Memref.whole cc1_stg10_0 : Memref sig .tc .vmem S8x128x64 .f32).view
/-- One staging buffer of output window 11, through which its contents are stated (`View.read_writes_of_cover`: the
    choice does not matter). -/
abbrev VO1_11 : View sig .tc .vmem S8x128x128 .f32 := (Memref.whole cc1_stg11_0 : Memref sig .tc .vmem S8x128x128 .f32).view
/-- One staging buffer of output window 12, through which its contents are stated (`View.read_writes_of_cover`: the
    choice does not matter). -/
abbrev VO1_12 : View sig .tc .vmem S8x128x128 .f32 := (Memref.whole cc1_stg12_0 : Memref sig .tc .vmem S8x128x128 .f32).view
/-- One staging buffer of output window 13, through which its contents are stated (`View.read_writes_of_cover`: the
    choice does not matter). -/
abbrev VO1_13 : View sig .tc .vmem S8x128x1 .f32 := (Memref.whole cc1_stg13_0 : Memref sig .tc .vmem S8x128x1 .f32).view
/-- Each window's current staging memref at point `t`, spelled as the pipeline passes it (`bodyAt1`), and its wholeness. -/
abbrev ms1_0 (t : Fin cfg1.N) : Memref sig .tc .vmem S8x128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x128x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x8x128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x128x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S8x128x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S8x128x64 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S8x128x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S8x128x128 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S8x128x1 .f32 := win1_13.stage (cfg1.slots t 13)
abbrev hs1_13 (t : Fin cfg1.N) : (ms1_13 t).IsWhole := hstage1_13 ((cfg1.slots t 13).cast nbuf1_13)
/-- The scratch operands: whole scoped buffers of the kernel's own, passed beside the windows. -/
abbrev scM1_0 : Memref sig .tc .vmem S8x128x128 .f32 := Memref.whole cc1_scratch0
/-- The scratch `arg15` the kernel carries between points, as a view: what it holds is stated through it. -/
abbrev VS1_0 : View sig .tc .vmem S8x128x128 .f32 := scM1_0.view

/-- The other scoped buffers of the core, untouched by the call's body. -/
abbrev Rest (c : Dev nD) : sProp 𝕄 := Pipeline.scopedRestBut (Ix := Unit) (Name := ℕ) (U := UR sig nD τ) (Lvl := ℕ) (Val := Elt F) spec1 c [cc1_scratch0]

/-- What the region is entered with beside its windows: the scratch at some contents, the other scoped buffers, and the generator register. -/
theorem PhiA1_eq (c : Dev nD) :
    (Pipeline.ΦA spec1 c : sProp 𝕄)
      = iprop(iprop((∃ d, owns (c : Thread nD τ) scM1_0 fullShare d) ∗ Rest (F := F) c) ∗ (∃ r, prngReg c r)) := by
  unfold Pipeline.ΦA; rw [Pipeline.scopedRest_split_of_list spec1 c [cc1_scratch0] (by decide) (by decide)]; simp only [scM1_0, owns_whole]; try rfl

end Cert.KernelIdeal.Bwd

end
-- ==== Proof.Bwd.RunA.lean ====
/- The backward recurrence's call (dn_scan_bwd): its body's run at the first grid point. -/
module

public import proofs.«01_k».proof.Proof.Bwd.Shared

@[expose] public section

-- membership in a rectangle of production extents (`View.cover_of_tiled`): the elaborator's structural look
-- recurses once per coordinate of the long axes
set_option maxRecDepth 16384

noncomputable section

namespace Cert.KernelIdeal.Bwd

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 2440000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) :
    Σ' (L8 : List (View.Piece (Elt F) S8x128x128 .f32)), Σ' (L9 : List (View.Piece (Elt F) S8x128x128 .f32)), Σ' (L10 : List (View.Piece (Elt F) S8x128x64 .f32)), Σ' (L11 : List (View.Piece (Elt F) S8x128x128 .f32)), Σ' (L12 : List (View.Piece (Elt F) S8x128x128 .f32)), Σ' (L13 : List (View.Piece (Elt F) S8x128x1 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1_dn_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_dn_scan_bwd_eq_skeleton]; unfold cc1_dn_scan_bwd_skel
    simp only [k1_part43_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Bwd

end
-- ==== Proof.Bwd.RunB.lean ====
/- The backward recurrence's call (dn_scan_bwd): its body's run at every later grid point. -/
module

public import proofs.«01_k».proof.Proof.Bwd.RunA

@[expose] public section

-- membership in a rectangle of production extents (`View.cover_of_tiled`): the elaborator's structural look
-- recurses once per coordinate of the long axes
set_option maxRecDepth 16384

noncomputable section

namespace Cert.KernelIdeal.Bwd

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 2428000 in
/-- What the body's stores leave in each output's staging memref, as pieces (last first) IN CASE B (`scf.if` 0 not taken: points 1, 2, … 15: 15 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) :
    Σ' (L8 : List (View.Piece (Elt F) S8x128x128 .f32)), Σ' (L9 : List (View.Piece (Elt F) S8x128x128 .f32)), Σ' (L10 : List (View.Piece (Elt F) S8x128x64 .f32)), Σ' (L11 : List (View.Piece (Elt F) S8x128x128 .f32)), Σ' (L12 : List (View.Piece (Elt F) S8x128x128 .f32)), Σ' (L13 : List (View.Piece (Elt F) S8x128x1 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1_dn_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_dn_scan_bwd_eq_skeleton]; unfold cc1_dn_scan_bwd_skel
    simp only [k1_part43_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg15.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Bwd

end
-- ==== Proof.Bwd.Frame.lean ====
/- The backward recurrence's call (dn_scan_bwd): what its outputs and its carried scratch hold point by point, the proof data and the body obligation. -/
module

public import proofs.«01_k».proof.Proof.Bwd.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Bwd

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 8 tile its block (16 stores of `S1x64x128`, checked by the kernel's evaluation: Lib/Ring.lean `Piece.tiledL`, linear in the pieces, through a loop's `@[irreducible]` trip theorem too), so they cover it. -/
theorem cover1_A_8 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (y : S8x128x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 S1x64x128.size (by sl_kernel_rfl) y

/-- What case A leaves in output 8's staging buffer: its pieces read back over junk. -/
def out1_A_8 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) : Vec F S8x128x128 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)

/-- Case A's pieces for output 9 tile its block (16 stores of `S1x64x128`, checked by the kernel's evaluation: Lib/Ring.lean `Piece.tiledL`, linear in the pieces, through a loop's `@[irreducible]` trip theorem too), so they cover it. -/
theorem cover1_A_9 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (y : S8x128x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 S1x64x128.size (by sl_kernel_rfl) y

/-- What case A leaves in output 9's staging buffer: its pieces read back over junk. -/
def out1_A_9 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) : Vec F S8x128x128 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1)

/-- Case A's pieces for output 10 tile its block (16 stores of `S1x64x64`, checked by the kernel's evaluation: Lib/Ring.lean `Piece.tiledL`, linear in the pieces, through a loop's `@[irreducible]` trip theorem too), so they cover it. -/
theorem cover1_A_10 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (y : S8x128x64.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 S1x64x64.size (by sl_kernel_rfl) y

/-- What case A leaves in output 10's staging buffer: its pieces read back over junk. -/
def out1_A_10 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) : Vec F S8x128x64 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1)

/-- Case A's pieces for output 11 tile its block (16 stores of `S1x64x128`, checked by the kernel's evaluation: Lib/Ring.lean `Piece.tiledL`, linear in the pieces, through a loop's `@[irreducible]` trip theorem too), so they cover it. -/
theorem cover1_A_11 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (y : S8x128x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 S1x64x128.size (by sl_kernel_rfl) y

/-- What case A leaves in output 11's staging buffer: its pieces read back over junk. -/
def out1_A_11 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) : Vec F S8x128x128 .f32 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1)

/-- Case A's pieces for output 12 tile its block (16 stores of `S1x64x128`, checked by the kernel's evaluation: Lib/Ring.lean `Piece.tiledL`, linear in the pieces, through a loop's `@[irreducible]` trip theorem too), so they cover it. -/
theorem cover1_A_12 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (y : S8x128x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1 S1x64x128.size (by sl_kernel_rfl) y

/-- What case A leaves in output 12's staging buffer: its pieces read back over junk. -/
def out1_A_12 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) : Vec F S8x128x128 .f32 :=
  VO1_12.read (Elt F) (VO1_12.writes (Elt F) VO1_12.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1)

/-- Case A's pieces for output 13 tile its block (16 stores of `S1x64x1`, checked by the kernel's evaluation: Lib/Ring.lean `Piece.tiledL`, linear in the pieces, through a loop's `@[irreducible]` trip theorem too), so they cover it. -/
theorem cover1_A_13 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (y : S8x128x1.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1 S1x64x1.size (by sl_kernel_rfl) y

/-- What case A leaves in output 13's staging buffer: its pieces read back over junk. -/
def out1_A_13 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) : Vec F S8x128x1 .f32 :=
  VO1_13.read (Elt F) (VO1_13.writes (Elt F) VO1_13.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1)

/-- Case A's pieces for scratch `arg15`, which the kernel carries between points, cover it: one of them a store of the WHOLE buffer (Lib/Ring.lean `sl_whole_mem`). -/
theorem scover1_A_0 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (y : S8x128x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1, y ∈ pc.1.set :=
  View.cover_of_wholeMem (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1 (by sl_whole_mem) y

/-- What case A leaves in scratch `arg15`: its pieces read back over junk. -/
def sout1_A_0 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) : Vec F S8x128x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1)

/-- Case B's pieces for output 8 tile its block (16 stores of `S1x64x128`, checked by the kernel's evaluation: Lib/Ring.lean `Piece.tiledL`, linear in the pieces, through a loop's `@[irreducible]` trip theorem too), so they cover it. -/
theorem cover1_B_8 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) (y : S8x128x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1 S1x64x128.size (by sl_kernel_rfl) y

/-- What case B leaves in output 8's staging buffer: its pieces read back over junk. -/
def out1_B_8 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) : Vec F S8x128x128 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1)

/-- Case B's pieces for output 9 tile its block (16 stores of `S1x64x128`, checked by the kernel's evaluation: Lib/Ring.lean `Piece.tiledL`, linear in the pieces, through a loop's `@[irreducible]` trip theorem too), so they cover it. -/
theorem cover1_B_9 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) (y : S8x128x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1 S1x64x128.size (by sl_kernel_rfl) y

/-- What case B leaves in output 9's staging buffer: its pieces read back over junk. -/
def out1_B_9 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) : Vec F S8x128x128 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1)

/-- Case B's pieces for output 10 tile its block (16 stores of `S1x64x64`, checked by the kernel's evaluation: Lib/Ring.lean `Piece.tiledL`, linear in the pieces, through a loop's `@[irreducible]` trip theorem too), so they cover it. -/
theorem cover1_B_10 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) (y : S8x128x64.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1 S1x64x64.size (by sl_kernel_rfl) y

/-- What case B leaves in output 10's staging buffer: its pieces read back over junk. -/
def out1_B_10 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) : Vec F S8x128x64 .f32 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1)

/-- Case B's pieces for output 11 tile its block (16 stores of `S1x64x128`, checked by the kernel's evaluation: Lib/Ring.lean `Piece.tiledL`, linear in the pieces, through a loop's `@[irreducible]` trip theorem too), so they cover it. -/
theorem cover1_B_11 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) (y : S8x128x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1 S1x64x128.size (by sl_kernel_rfl) y

/-- What case B leaves in output 11's staging buffer: its pieces read back over junk. -/
def out1_B_11 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) : Vec F S8x128x128 .f32 :=
  VO1_11.read (Elt F) (VO1_11.writes (Elt F) VO1_11.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1)

/-- Case B's pieces for output 12 tile its block (16 stores of `S1x64x128`, checked by the kernel's evaluation: Lib/Ring.lean `Piece.tiledL`, linear in the pieces, through a loop's `@[irreducible]` trip theorem too), so they cover it. -/
theorem cover1_B_12 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) (y : S8x128x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1 S1x64x128.size (by sl_kernel_rfl) y

/-- What case B leaves in output 12's staging buffer: its pieces read back over junk. -/
def out1_B_12 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) : Vec F S8x128x128 .f32 :=
  VO1_12.read (Elt F) (VO1_12.writes (Elt F) VO1_12.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1)

/-- Case B's pieces for output 13 tile its block (16 stores of `S1x64x1`, checked by the kernel's evaluation: Lib/Ring.lean `Piece.tiledL`, linear in the pieces, through a loop's `@[irreducible]` trip theorem too), so they cover it. -/
theorem cover1_B_13 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) (y : S8x128x1.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1 S1x64x1.size (by sl_kernel_rfl) y

/-- What case B leaves in output 13's staging buffer: its pieces read back over junk. -/
def out1_B_13 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) : Vec F S8x128x1 .f32 :=
  VO1_13.read (Elt F) (VO1_13.writes (Elt F) VO1_13.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1)

/-- Case B's pieces for scratch `arg15`, which the kernel carries between points, cover it: 16 pieces of `S1x128x128` tiling it (Lib/Ring.lean `Piece.tiledL`). -/
theorem scover1_B_0 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) (y : S8x128x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1 S1x128x128.size (by sl_kernel_rfl) y

/-- What case B leaves in scratch `arg15`: its pieces read back over junk. -/
def sout1_B_0 (c : Dev nD) (i : grid1.Coords) (arg1 : Memref sig .tc .vmem S8x128x128 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S8x128x128 .f32) (harg4 : arg4.IsWhole) (arg5 : Memref sig .tc .vmem S8x128x64 .f32) (harg5 : arg5.IsWhole) (arg6 : Memref sig .tc .vmem S8x128x1 .f32) (harg6 : arg6.IsWhole) (arg7 : Memref sig .tc .vmem S2x8x128x128 .f32) (harg7 : arg7.IsWhole) (arg8 : Memref sig .tc .vmem S128x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x64 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S8x128x1 .f32) (harg14 : arg14.IsWhole) (arg15 : Memref sig .tc .vmem S8x128x128 .f32) (harg15 : arg15.IsWhole) (hc0 : ¬cond1_0 i)
    (x0 : Vec F S8x128x128 .f32) (x1 : Vec F S8x128x128 .f32) (x2 : Vec F S8x128x128 .f32) (x3 : Vec F S8x128x128 .f32) (x4 : Vec F S8x128x64 .f32) (x5 : Vec F S8x128x1 .f32) (x6 : Vec F S2x8x128x128 .f32) (x7 : Vec F S128x1024 .f32) (xs0 : Vec F S8x128x128 .f32) : Vec F S8x128x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S8x128x128 .f32 × Vec F S8x128x128 .f32 × Vec F S8x128x64 .f32 × Vec F S8x128x128 .f32 × Vec F S8x128x128 .f32 × Vec F S8x128x1 .f32 × Vec F S8x128x128 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out1_A_13 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩))
  | n + 1, hn =>
    if h0 : (n + 1) % 16 = 0 then
      (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out1_A_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out1_A_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩))
    else
      (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt1 c n (Nat.lt_of_succ_lt hn)).2.2.2.2.2.2, out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt1 c n (Nat.lt_of_succ_lt hn)).2.2.2.2.2.2, out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt1 c n (Nat.lt_of_succ_lt hn)).2.2.2.2.2.2, out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt1 c n (Nat.lt_of_succ_lt hn)).2.2.2.2.2.2, out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt1 c n (Nat.lt_of_succ_lt hn)).2.2.2.2.2.2, out1_B_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt1 c n (Nat.lt_of_succ_lt hn)).2.2.2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt1 c n (Nat.lt_of_succ_lt hn)).2.2.2.2.2.2)

/-- `outsAt1` at a point of case A: that case's contents. -/
theorem outsAt1_A (c : Dev nD) (t : Fin cfg1.N) (h0 : t.val % 16 = 0) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 16 = 0) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2.2.2.2.2.2, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2.2.2.2.2.2, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2.2.2.2.2.2, out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2.2.2.2.2.2, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2.2.2.2.2.2, out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2.2.2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) (outsAt1 V c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2.2.2.2.2) ∗ Rest (F := F) c) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2.2.2.2.2.2) ∗ Rest (F := F) c) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2.2.2.2.2.2) ∗ Rest (F := F) c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt1 V c t.val t.isLt).1
    | ⟨9, _⟩ => (outsAt1 V c t.val t.isLt).2.1
    | ⟨10, _⟩ => (outsAt1 V c t.val t.isLt).2.2.1
    | ⟨11, _⟩ => (outsAt1 V c t.val t.isLt).2.2.2.1
    | ⟨12, _⟩ => (outsAt1 V c t.val t.isLt).2.2.2.2.1
    | ⟨13, _⟩ => (outsAt1 V c t.val t.isLt).2.2.2.2.2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = iblk V c 7 t := by dsimp only [dat]
theorem after1_8 (c : Dev nD) (t : Fin cfg1.N) : (dat V c).after 8 t = (outsAt1 V c t.val t.isLt).1 := by dsimp only [dat]
theorem after1_9 (c : Dev nD) (t : Fin cfg1.N) : (dat V c).after 9 t = (outsAt1 V c t.val t.isLt).2.1 := by dsimp only [dat]
theorem after1_10 (c : Dev nD) (t : Fin cfg1.N) : (dat V c).after 10 t = (outsAt1 V c t.val t.isLt).2.2.1 := by dsimp only [dat]
theorem after1_11 (c : Dev nD) (t : Fin cfg1.N) : (dat V c).after 11 t = (outsAt1 V c t.val t.isLt).2.2.2.1 := by dsimp only [dat]
theorem after1_12 (c : Dev nD) (t : Fin cfg1.N) : (dat V c).after 12 t = (outsAt1 V c t.val t.isLt).2.2.2.2.1 := by dsimp only [dat]
theorem after1_13 (c : Dev nD) (t : Fin cfg1.N) : (dat V c).after 13 t = (outsAt1 V c t.val t.isLt).2.2.2.2.2.1 := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d
theorem before1_6 (c : Dev nD) (t : Fin cfg1.N) (d) : (dat V c).before 6 t d = iblk V c 6 t :=
  before1_6_of V (dat V c) (A_eq V c 6) (after1_6 V c) t d
theorem before1_7 (c : Dev nD) (t : Fin cfg1.N) (d) : (dat V c).before 7 t d = iblk V c 7 t :=
  before1_7_of V (dat V c) (A_eq V c 7) (after1_7 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d))
    ∗ (∃ d, owns (c : Thread nD τ) (ms1_10 t) fullShare ((dat V c).before 10 t d))
    ∗ (∃ d, owns (c : Thread nD τ) (ms1_11 t) fullShare ((dat V c).before 11 t d))
    ∗ (∃ d, owns (c : Thread nD τ) (ms1_12 t) fullShare ((dat V c).before 12 t d))
    ∗ (∃ d, owns (c : Thread nD τ) (ms1_13 t) fullShare ((dat V c).before 13 t d)))

/-- and what it returns. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t)
    ∗ owns (c : Thread nD τ) (ms1_7 t) fullShare ((dat V c).after 7 t)
    ∗ owns (c : Thread nD τ) (ms1_8 t) fullShare ((dat V c).after 8 t)
    ∗ owns (c : Thread nD τ) (ms1_9 t) fullShare ((dat V c).after 9 t)
    ∗ owns (c : Thread nD τ) (ms1_10 t) fullShare ((dat V c).after 10 t)
    ∗ owns (c : Thread nD τ) (ms1_11 t) fullShare ((dat V c).after 11 t)
    ∗ owns (c : Thread nD τ) (ms1_12 t) fullShare ((dat V c).after 12 t)
    ∗ owns (c : Thread nD τ) (ms1_13 t) fullShare ((dat V c).after 13 t))

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7]
  rw [show (dat V c).owesAt () t.succ = (dat V c).owesAt () t.castSucc from rfl,
    after1_0, after1_1, after1_2, after1_3, after1_4, after1_5, after1_6, after1_7, after1_8, after1_9, after1_10, after1_11, after1_12, after1_13]
  rw [show (dat V c).Φ t.succ = PhiS V c (t.val + 1) t.isLt from rfl, PhiS_succ]
  have hN : t.val < 16 := lt_of_lt_of_eq t.isLt (show cfg1.N = 16 from N_1)
  by_cases h0 : t.val % 16 = 0
  · by_cases hz : t.val = 0
    · rw [PhiS_castSucc V c t, PhiS_zero V c _ _ hz, PhiA1_eq]
      rw [outsAt1_A V c t h0]
      unfold out1_A_8 out1_A_9 out1_A_10 out1_A_11 out1_A_12 out1_A_13 sout1_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun1_A c (grid1.coords t) _ _ _ _ _ _ _ _ _ _ _ _ _ _ _ _ _ _ _ _ _ _ _ _ _ _ _ _ _ _ ((hcond1_0 t).mpr h0) (iblk V c 0 t) (iblk V c 1 t) (iblk V c 2 t) (iblk V c 3 t) (iblk V c 4 t) (iblk V c 5 t) (iblk V c 6 t) (iblk V c 7 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover1_A_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_A_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_A_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_A_12 c _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover1_A_13 c _ _ _ _ _ _ _ _ _ _ _ _ _ _ _ _ _ _ _ _ _ _ _ _ _ _ _ _ _ _ _ _ _ _ _ _ _ _ _ _)
    · exfalso; have hN : t.val < 16 := lt_of_lt_of_eq t.isLt (show cfg1.N = 16 from N_1); omega
  · by_cases hz : t.val = 0
    · exfalso; have hN : t.val < 16 := lt_of_lt_of_eq t.isLt (show cfg1.N = 16 from N_1); omega
    · rw [PhiS_castSucc V c t, PhiS_pos V c _ _ hz]
      rw [outsAt1_B V c t h0]
      unfold out1_B_8 out1_B_9 out1_B_10 out1_B_11 out1_B_12 out1_B_13 sout1_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun1_B c (grid1.coords t) _ _ _ _ _ _ _ _ _ _ _ _ _ _ _ _ _ _ _ _ _ _ _ _ _ _ _ _ _ _ (fun h => h0 ((hcond1_0 t).mp h)) (iblk V c 0 t) (iblk V c 1 t) (iblk V c 2 t) (iblk V c 3 t) (iblk V c 4 t) (iblk V c 5 t) (iblk V c 6 t) (iblk V c 7 t) _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover1_B_8 c _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_B_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_B_10 c _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_B_11 c _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_B_12 c _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover1_B_13 c _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

/-- The same after the last point. -/
theorem hout (c : Dev nD) : (dat V c).Φ (Fin.last cfg1.N) ⊢ Pipeline.ΦA spec1 c :=
  Phi_out V c _ (by rw [Fin.val_last]; have : cfg1.N = 16 := N_1; omega)

end Cert.KernelIdeal.Bwd

end
-- ==== Proof.Run.lean ====
/- The whole program's run: the forward recurrence's call, then the backward recurrence's, each entered from every buffer
   at what the item before left. The end: every buffer of a TensorCore holds what the two regions' proof data say, every
   semaphore counter is at zero. -/
module

public import proofs.«01_k».proof.Proof.Fwd.Frame
public import proofs.«01_k».proof.Proof.Bwd.Frame
public import Idealize.ShloMosaic.Lib.Pipeline.Regions
public import Idealize.ShloMosaic.Lib.Pipeline.RegionArraysS
public import Idealize.ShloMosaic.Lib.Pipeline.FrameTail

@[expose] public section

set_option maxRecDepth 16384

noncomputable section

namespace Cert.KernelIdeal.Run

open Cert.KernelIdeal Cert.KernelIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg afterRegion)

variable {F : FTy → Type} [FloatOps F]

local notation "𝕄" => MT nD τ sig Unit (Elt F) ℕ (UR sig nD τ) ℕ

variable (m : (ℓ : Loc nD τ sig) → Buf (Elt F) ℓ)

/-! ## The buffers' contents between the two calls -/

/-- A core's buffers at launch. -/
def W0 (c : Dev nD) : Valuation τ sig (Elt F) := fun b => m (c, b)
/-- The same, by reference. -/
def R0 (c : Dev nD) (b : Ref sig .tc) : Buf (Elt F) ((c : Thread nD τ).loc b) := W0 m c (Proc.devRef .tc b)
/-- A core's buffers after the forward call. -/
def W1 (c : Dev nD) : Valuation τ sig (Elt F) := afterRegion (Fwd.dat (R0 m) c) (W0 m c)
/-- The same, by reference. -/
def R1 (c : Dev nD) (b : Ref sig .tc) : Buf (Elt F) ((c : Thread nD τ).loc b) := W1 m c (Proc.devRef .tc b)
/-- A core's buffers after the backward call. -/
def W2 (c : Dev nD) : Valuation τ sig (Elt F) := afterRegion (Bwd.dat (R1 m) c) (W1 m c)

/-! ## The two calls as segments -/

/-- The calls prefetch no table. -/
abbrev adm : (p : Fin 2) → (pcfgs (F := F) p).Adm := fun p => (cfgs p).toPCfg_adm

/-- Each call's proof data, at the contents it is entered with. -/
def pdats : (p : Fin 2) → (c : Dev nD) → Dat τ (Elt F) Unit ℕ (UR sig nD τ) ℕ (Pipeline.pin (pcfgs (F := F)) adm p) c
  | 0 => Fwd.dat (R0 m)
  | 1 => Bwd.dat (R1 m)

/-- The staging waits' one index is assigned at every cell of a TensorCore. -/
def lev : GSem nD τ sig → Finset Unit := fun g => if g.1.2 = .tc then {()} else ∅
abbrev lv : GSem nD τ sig → Unit → ℕ := fun _ _ => 0

/-- What rides beside the buffers: what the core owes (nothing) and its generator register. -/
abbrev E (c : Dev nD) : sProp 𝕄 :=
  iprop((∃ Wd, owes (c : Thread nD τ) (0 : CellTallies nD τ sig Unit) Wd) ∗ (∃ r, prngReg c r) ∗ BIBase.emp)

theorem cut (p : Fin 2) : Pipeline.LevelCut (nD := nD) (τ := τ) (pcfgs (F := F)) adm () lev lv p (fun _ => 0) (fun _ => 0) where
  hι c w s := by simp [lev]
  hιb c w s := le_refl _
  hD c g i h := absurd h (lt_irrefl _)

set_option backward.isDefEq.respectTransparency.types false in
/-- The forward call. -/
def reg0 : RegionSeg (pcfgs (F := F)) adm (pdats m) () defs₀ Variants.none lev lv 0 :=
  RegionSeg.ofHeldIn (pcfgs (F := F)) adm (pdats m) () defs₀ Variants.none lev lv 0 (fun _ => 0) (Pipeline.ucRefs τ sig)
    (fun c => iprop(∃ r, prngReg c r)) (fun c => iprop(∃ r, prngReg c r)) launch0.toP rfl
    (fun c => (Fwd.body_obligation (R0 m) c).loose) (fun _ _ => rfl) (fun _ => rfl)
    (fun c => (pdats m 0 c).share_full fun _ => rfl) (fun c => Fwd.hin (R0 m) c) (fun c => Fwd.hout (R0 m) c)
    (fun _ => 0) (cut 0) (fun _ => BIBase.emp) (W0 m) (fun _ _ => rfl)

set_option backward.isDefEq.respectTransparency.types false in
/-- The backward call. -/
def reg1 : RegionSeg (pcfgs (F := F)) adm (pdats m) () defs₀ Variants.none lev lv 1 :=
  RegionSeg.ofHeldIn (pcfgs (F := F)) adm (pdats m) () defs₀ Variants.none lev lv 1 (fun _ => 0) (Pipeline.ucRefs τ sig)
    (fun c => iprop(∃ r, prngReg c r)) (fun c => iprop(∃ r, prngReg c r)) launch1.toP rfl
    (fun c => (Bwd.body_obligation (R1 m) c).loose) (fun _ _ => rfl) (fun _ => rfl)
    (fun c => (pdats m 1 c).share_full fun _ => rfl) (fun c => Bwd.hin (R1 m) c) (fun c => Bwd.hout (R1 m) c)
    (fun _ => 0) (cut 1) (fun _ => BIBase.emp) (W1 m) (fun _ _ => rfl)

/-- @main as the list of the two. -/
abbrev segs (_ : Dev nD) : List (Seg (pcfgs (F := F)) adm (pdats m) () defs₀ Variants.none lev lv) :=
  [.region (reg0 m), .region (reg1 m)]

theorem arrs_sub (p : Fin 2) : Pipeline.arrRefs (τ := τ) ((pcfgs (F := F)) p).spec ⊆ Pipeline.ucRefs τ sig :=
  Pipeline.arrRefs_sub_ucRefs _ (match p with | 0 => launch0.win.arr_unscoped | 1 => launch1.win.arr_unscoped)

set_option backward.isDefEq.respectTransparency.types false in
/-- The forward call's entry. -/
theorem pre0 (c : Dev nD) :
    iprop(StableHlo.held (c.tc : Thread nD τ) (Pipeline.ucRefs τ sig) (W0 m c) ∗ E c) ⊢ (reg0 m).pre c := by
  unfold reg0
  exact RegionSeg.ofHeldIn_pre (D := fun _ => 0) (X := fun c => iprop(∃ r, prngReg c r)) (R := fun _ => BIBase.emp) (W := W0 m)
    (arrs_sub 0) c

set_option backward.isDefEq.respectTransparency.types false in
/-- The forward call's exit. -/
theorem post0 (c : Dev nD) :
    (reg0 m).post c ⊢ iprop(StableHlo.held (c.tc : Thread nD τ) (Pipeline.ucRefs τ sig) (W1 m c) ∗ E c) := by
  unfold reg0 W1; exact RegionSeg.ofHeldIn_post (arrs_sub 0) c

set_option backward.isDefEq.respectTransparency.types false in
/-- The backward call's entry. -/
theorem pre1 (c : Dev nD) :
    iprop(StableHlo.held (c.tc : Thread nD τ) (Pipeline.ucRefs τ sig) (W1 m c) ∗ E c) ⊢ (reg1 m).pre c := by
  unfold reg1
  exact RegionSeg.ofHeldIn_pre (D := fun _ => 0) (X := fun c => iprop(∃ r, prngReg c r)) (R := fun _ => BIBase.emp) (W := W1 m)
    (arrs_sub 1) c

set_option backward.isDefEq.respectTransparency.types false in
/-- The backward call's exit. -/
theorem post1 (c : Dev nD) :
    (reg1 m).post c ⊢ iprop(StableHlo.held (c.tc : Thread nD τ) (Pipeline.ucRefs τ sig) (W2 m c) ∗ E c) := by
  unfold reg1 W2; exact RegionSeg.ofHeldIn_post (arrs_sub 1) c

/-- No semaphore of the program is unscoped. -/
theorem all_scoped : ∀ sm : SemLoc sig, sm.isScoped .tc = true := by decide

set_option backward.isDefEq.respectTransparency.types false in
/-- THE RUN. From any memory with zero counters every weakly fair execution of @main terminates, every buffer of a
    TensorCore then holds `W2`, every semaphore counter is at zero. -/
theorem run_main (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = W2 m c b) ∧ r.2.sem = fun _ => 0) := by
  refine Pipeline.θ_run_regions_kit_dev_sems (pcfgs (F := F)) adm (pdats m) () cellOf_inj emb₁ defs₀ Variants.none lev lv m ρ main
    (segs m)
    (fun c Q => by
      rewrite [main_chain c, Seg.run_eq_chain,
        show (segs m c).map Seg.prog = [
          Prog.lift (.customCall (Pipeline.entry 0) ()),
          Prog.lift (.customCall (Pipeline.entry 1) ()) ] from rfl]
      dsimp (config := { failIfUnchanged := false }) only
      exact .rfl)
    (fun c => by simp only [segs, Seg.pipes_region, Seg.pipes_nil]; decide) (O₀ := 0)
    (hL := fun g hg => by simp [lev, hg]) (G := fun _ => iprop(emp))
    (u₀ := initOf (Pipeline.cells cfgs cellOf_inj) (Pipeline.launchToks cfgs cellOf_inj)) (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (W0 m c) ∗ E c))
    (Tₙ := fun c => StableHlo.held (c.tc : Thread nD τ) (Pipeline.ucRefs τ sig) (W2 m c))
    (hch := fun c => ⟨pre0 m c, (post0 m c).trans (pre1 m c), (post1 m c).trans (by
        iintro ⟨Hh, HO, -, -⟩
        isplitl [Hh] <;> iassumption)⟩)
    (hinit := by
      refine Pipeline.initEach lev lv fun c => ?_
      rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c.tc : Thread nD τ).1, b) = W2 m c b)
    (hfin := fun c s' => by
      unfold StableHlo.held
      iintro ⟨Hh, HSI⟩
      ihave Hr := (pointsTo_read_all (Pipeline.ucRefs τ sig) (fun b => ((c.tc : Thread nD τ).1, b)) (W2 m c) s') $$ [Hh HSI]
      · isplitl [Hh] <;> iassumption
      imodintro; iexact Hr)
    (hQ := fun _ h hz => ⟨h, funext fun g => hz g (.inr (all_scoped g.2))⟩)

end Cert.KernelIdeal.Run

end
-- ==== Proof.Frames.lean ====
/- The frames of the recurrence's two calls, on the device and at exact arithmetic: one run of both
   (`Cert.KernelIdeal.Run.run_main`), read at the arguments. -/
module

public import proofs.«01_k».proof.Defs
public import proofs.«01_k».proof.Proof.Gen.Kernel
public import proofs.«01_k».proof.Proof.Run

@[expose] public section

set_option maxRecDepth 16384

noncomputable section

namespace Cert.KernelIdeal.Run

open Cert.KernelIdeal Cert.KernelIdeal.Gen Idealize.ShloMosaic Idealize.ShloMosaic.TcCoe Idealize.SL.Sem
open Idealize.ShloMosaic.Pipeline (ucRefs afterRegion afterRegion_keeps arrRef)

variable {F : FTy → Type} [FloatOps F]
variable (m : (ℓ : Loc nD τ sig) → Buf (Elt F) ℓ)

/-- A buffer that neither call writes ends as launched. -/
theorem kept (c : Dev nD) (b : Ref sig .tc) (h0 : ∀ w, arrRef cfg0.spec w = b → (cfg0.win w).isOut = false)
    (h1 : ∀ w, arrRef cfg1.spec w = b → (cfg1.win w).isOut = false) : W2 m c (Proc.devRef .tc b) = m ((c : Thread nD τ).loc b) :=
  (afterRegion_keeps _ _ launch1.win.arr_inj (fun w => Bwd.A_eq (R1 m) c w) b h1).trans
    (afterRegion_keeps _ _ launch0.win.arr_inj (fun w => Fwd.A_eq (R0 m) c w) b h0)

/-- Both calls run, every argument ends as launched and every counter at zero, over `F`. -/
def Quiet (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem quiet : Quiet F := fun m ρ _ =>
  (θ_run defs _ _).mono (fun r h => by
    have k : ∀ (c : Dev nD) (b : Ref sig .tc) (_ : Proc.devRef .tc b ∈ ucRefs τ sig)
        (_ : ∀ w, arrRef cfg0.spec w = b → (cfg0.win w).isOut = false) (_ : ∀ w, arrRef cfg1.spec w = b → (cfg1.win w).isOut = false),
        r.2.mem ((c.tc : Thread nD τ).loc b) = m ((c.tc : Thread nD τ).loc b) :=
      fun c b hb h0 h1 => (h.1 c _ hb).trans (kept m c b h0 h1)
    exact ⟨fun c => ⟨k c _ (by decide) (by decide) (by decide), k c _ (by decide) (by decide) (by decide), k c _ (by decide) (by decide) (by decide),
      k c _ (by decide) (by decide) (by decide), k c _ (by decide) (by decide) (by decide), k c _ (by decide) (by decide) (by decide),
      k c _ (by decide) (by decide) (by decide)⟩, h.2⟩) (run_main m ρ)

end Cert.KernelIdeal.Run

namespace Cert.Proof

open Idealize.ShloMosaic Idealize.SL.Sem Cert.Kernel.Gen Cert.KernelIdeal.Gen

/-- The recurrence's frame on the device: the run of its idealization, whose text is the same. -/
theorem frame_kernel : Cert.quiescent_Kernel :=
  have e : Cert.KernelIdeal.Run.Quiet Bits = Cert.quiescent_Kernel := by sl_kernel_rfl
  e.mp Cert.KernelIdeal.Run.quiet

/-- The recurrence's frame at exact arithmetic. -/
theorem frame_kernelIdeal : Cert.quiescent_KernelIdeal := fun m ρ _ => Cert.KernelIdeal.Run.quiet m ρ trivial

end Cert.Proof

end
-- ==== Proof.Opt.Parts.lean ====
/- The eight devices' parts of a gradient: the order in which device `d` takes them, and their sum. -/
module

public import Idealize.ShloMosaic.Lib.Pipeline.ValueKit

@[expose] public section

noncomputable section

namespace Cert.Parts

open Idealize.ShloMosaic

/-- The `k`-th part that device `d` takes. -/
def part (d k : Fin 8) : Fin 8 := ⟨d.val ^^^ k.val, Nat.xor_lt_two_pow (n := 3) d.isLt k.isLt⟩

/-- Device `d`'s number as a word. -/
def num (d : Fin 8) : BitVec 32 := BitVec.ofNat 32 d

theorem num_inj (d j : Fin 8) : num j = num d ↔ j = d := by revert d j; decide

/-- A word between 0 and 8 is a device's number. -/
theorem device (b : BitVec 32) (h : IntOp.andi (IntOp.cmpi .sge b 0#32) (IntOp.cmpi .slt b 8#32) = 1#1) : ∃ d : Fin 8, b = num d := by
  have both : ∀ p q : BitVec 1, IntOp.andi p q = 1#1 → p = 1#1 ∧ q = 1#1 := by decide
  have one : ∀ p : Bool, BitVec.ofBool p = 1#1 → p = true := by decide
  obtain ⟨h0, h8⟩ := both _ _ h
  have h0 := one _ h0
  have h8 := one _ h8
  simp only [BitVec.sle, BitVec.slt, decide_eq_true_eq] at h0 h8
  have e0 : (0#32).toInt = 0 := by decide
  have e8 : (8#32).toInt = 8 := by decide
  rw [e0] at h0
  rw [e8] at h8
  have hn : b.toNat < 8 := by
    rw [BitVec.toInt_eq_toNat_cond] at h0 h8
    split at h0 <;> omega
  exact ⟨⟨b.toNat, hn⟩, by apply BitVec.eq_of_toNat_eq; simp [num]⟩

/-- The index of a table of one word. -/
theorem only (x y : (⟨1, ![1]⟩ : Shape).Idx) : x = y := by
  funext a
  obtain rfl : a = 0 := Subsingleton.elim _ _
  exact Fin.ext ((Nat.lt_one_iff.mp (x 0).isLt).trans (Nat.lt_one_iff.mp (y 0).isLt).symm)

/-- A choice by the device. -/
theorem choose (d j : Fin 8) (a b : EReal) :
    Scalar.select (IntOp.cmpi .eq (BitVec.ofNat 32 j) (num d)) a b = if j = d then a else b := by
  by_cases h : j = d
  · subst h; simp [Scalar.select, IntOp.cmpi, num]
  · have : BitVec.ofNat 32 j ≠ num d := fun e => h ((num_inj d j).mp e)
    simp [Scalar.select, IntOp.cmpi, h, beq_eq_false_iff_ne.mpr this]

/-- A choice by the layer. -/
theorem layer (n : ℕ) (a b : EReal) (h : n < 4) :
    Scalar.select (IntOp.cmpi .eq (BitVec.ofNat 32 n) 0#32) a b = if n = 0 then a else b := by
  have e : ∀ n : Fin 4, IntOp.cmpi .eq (BitVec.ofNat 32 n) 0#32 = if n.val = 0 then 1#1 else 0#1 := by decide
  rw [show IntOp.cmpi .eq (BitVec.ofNat 32 n) 0#32 = _ from e ⟨n, h⟩]
  by_cases h0 : n = 0 <;> simp [Scalar.select, h0]

theorem add8 {a0 a1 a2 a3 a4 a5 a6 a7 b0 b1 b2 b3 b4 b5 b6 b7 : EReal} (h0 : a0 = b0) (h1 : a1 = b1) (h2 : a2 = b2) (h3 : a3 = b3)
    (h4 : a4 = b4) (h5 : a5 = b5) (h6 : a6 = b6) (h7 : a7 = b7) :
    a0 + a1 + a2 + a3 + a4 + a5 + a6 + a7 = b0 + b1 + b2 + b3 + b4 + b5 + b6 + b7 := by
  rw [h0, h1, h2, h3, h4, h5, h6, h7]

/-- The parts in device `d`'s order, its own first, and their sum over the devices. -/
theorem sum (d : Fin 8) (own land : Fin 8 → EReal) :
    own (part d 0) + land (part d 1) + land (part d 2) + land (part d 3) + land (part d 4) + land (part d 5) + land (part d 6) + land (part d 7)
      = ∑ j : Fin 8, if j = d then own j else land j := by
  rw [Fin.sum_univ_eight]
  fin_cases d <;> simp [part] <;> abel

theorem moment1 {g g' mo mo' : EReal} (hg : g = g') (hm : mo = mo') :
    Ideal.ofBits .f32 0x3F666666#32 * mo + Ideal.ofBits .f32 0x3DCCCCCD#32 * g
      = Ideal.ofBits .f32 0x3F666666#32 * mo' + Ideal.ofBits .f32 0x3DCCCCCD#32 * g' := by
  rw [hg, hm]

theorem moment2 {g g' v v' : EReal} (hg : g = g') (hv : v = v') :
    Ideal.ofBits .f32 0x3F7FBE77#32 * v + Ideal.ofBits .f32 0x3A83126F#32 * (g * g)
      = Ideal.ofBits .f32 0x3F7FBE77#32 * v' + Ideal.ofBits .f32 0x3A83126F#32 * (g' * g') := by
  rw [hg, hv]

theorem change {g g' w w' mo mo' v v' : EReal} (hg : g = g') (hw : w = w') (hm : mo = mo') (hv : v = v') :
    Ideal.ofBits .f32 0xBA83126F#32 * (Ideal.div
        (Ideal.div (Ideal.ofBits .f32 0x3F666666#32 * mo + Ideal.ofBits .f32 0x3DCCCCCD#32 * g) (Ideal.ofBits .f32 0x3F26BD02#32))
        (Ideal.sqrt (Ideal.div (Ideal.ofBits .f32 0x3F7FBE77#32 * v + Ideal.ofBits .f32 0x3A83126F#32 * (g * g)) (Ideal.ofBits .f32 0x3C231ACC#32))
          + Ideal.ofBits .f32 0x322BCC77#32) + Ideal.ofBits .f32 0x3C23D70A#32 * w)
      = Ideal.ofBits .f32 0xBA83126F#32 * (Ideal.div
        (Ideal.div (Ideal.ofBits .f32 0x3F666666#32 * mo' + Ideal.ofBits .f32 0x3DCCCCCD#32 * g') (Ideal.ofBits .f32 0x3F26BD02#32))
        (Ideal.sqrt (Ideal.div (Ideal.ofBits .f32 0x3F7FBE77#32 * v' + Ideal.ofBits .f32 0x3A83126F#32 * (g' * g')) (Ideal.ofBits .f32 0x3C231ACC#32))
          + Ideal.ofBits .f32 0x322BCC77#32) + Ideal.ofBits .f32 0x3C23D70A#32 * w') := by
  rw [hg, hw, hm, hv]

theorem tile {n k : ℕ} (h : n = k) (w y : ℕ) : n * w + y = k * w + y := by rw [h]

end Cert.Parts

end
-- ==== Proof.Opt.Device.lean ====
/- The optimiser's five calls on the device: a device's number keeps every block of the eight parts inside its array. -/
module

public import proofs.«01_k».proof.Proof.Gen.Kernel21.Frame
public import proofs.«01_k».proof.Proof.Gen.Pre_dn_w_out_device
public import proofs.«01_k».proof.Proof.Gen.Kernel22.Frame
public import proofs.«01_k».proof.Proof.Gen.Pre_dn_w_in_device
public import proofs.«01_k».proof.Proof.Gen.Kernel23.Frame
public import proofs.«01_k».proof.Proof.Gen.Pre_cf_w_in_device
public import proofs.«01_k».proof.Proof.Gen.Kernel24.Frame
public import proofs.«01_k».proof.Proof.Gen.Pre_ff_w1_device
public import proofs.«01_k».proof.Proof.Gen.Kernel25.Frame
public import proofs.«01_k».proof.Proof.Gen.Pre_ff_w2_device
public import proofs.«01_k».proof.Defs
public import proofs.«01_k».proof.Proof.Opt.Parts
public import Idealize.ShloMosaic.Lib.Pipeline.ValueKit

@[expose] public section

set_option maxRecDepth 16384

noncomputable section

open Idealize.ShloMosaic Idealize.ShloMosaic.TcCoe Idealize.SL.Sem Cert.Parts

namespace Cert.Kernel21.Opt

open Cert.Kernel21 Cert.Kernel21.Gen

def tab (d : Fin 8) : pre0.Contents (Elt Bits) := fun | ⟨0, _⟩ => fun _ => num d | ⟨_ + 1, h⟩ => absurd h (by simp)

theorem ok : ∀ d : Fin 8, ok0 (F := Bits) (tab d) := by decide +kernel

theorem okM (m : (ℓ : Loc nD τ sig) → Buf (Elt Bits) ℓ) (hp : Cert.Pre_Kernel21 m) : Ok m := by
  have e := congrFun (hp 0) (fun a => ⟨0, by revert a; decide⟩)
  simp only [Cert.Pre_dn_w_out_device.fn] at e
  pointwise at e
  obtain ⟨d, hd⟩ := device _ e
  have h : tbl m = tab d := by
    funext j x
    match j with
    | ⟨0, _⟩ => exact (congrArg _ (only x _)).trans hd
  rw [Ok, h]; exact ok d

end Cert.Kernel21.Opt

namespace Cert.Kernel22.Opt

open Cert.Kernel22 Cert.Kernel22.Gen

def tab (d : Fin 8) : pre0.Contents (Elt Bits) := fun | ⟨0, _⟩ => fun _ => num d | ⟨_ + 1, h⟩ => absurd h (by simp)

theorem ok : ∀ d : Fin 8, ok0 (F := Bits) (tab d) := by decide +kernel

theorem okM (m : (ℓ : Loc nD τ sig) → Buf (Elt Bits) ℓ) (hp : Cert.Pre_Kernel22 m) : Ok m := by
  have e := congrFun (hp 0) (fun a => ⟨0, by revert a; decide⟩)
  simp only [Cert.Pre_dn_w_in_device.fn] at e
  pointwise at e
  obtain ⟨d, hd⟩ := device _ e
  have h : tbl m = tab d := by
    funext j x
    match j with
    | ⟨0, _⟩ => exact (congrArg _ (only x _)).trans hd
  rw [Ok, h]; exact ok d

end Cert.Kernel22.Opt

namespace Cert.Kernel23.Opt

open Cert.Kernel23 Cert.Kernel23.Gen

def tab (d : Fin 8) : pre0.Contents (Elt Bits) := fun | ⟨0, _⟩ => fun _ => num d | ⟨_ + 1, h⟩ => absurd h (by simp)

theorem ok : ∀ d : Fin 8, ok0 (F := Bits) (tab d) := by decide +kernel

theorem okM (m : (ℓ : Loc nD τ sig) → Buf (Elt Bits) ℓ) (hp : Cert.Pre_Kernel23 m) : Ok m := by
  have e := congrFun (hp 0) (fun a => ⟨0, by revert a; decide⟩)
  simp only [Cert.Pre_cf_w_in_device.fn] at e
  pointwise at e
  obtain ⟨d, hd⟩ := device _ e
  have h : tbl m = tab d := by
    funext j x
    match j with
    | ⟨0, _⟩ => exact (congrArg _ (only x _)).trans hd
  rw [Ok, h]; exact ok d

end Cert.Kernel23.Opt

namespace Cert.Kernel24.Opt

open Cert.Kernel24 Cert.Kernel24.Gen

def tab (d : Fin 8) : pre0.Contents (Elt Bits) := fun | ⟨0, _⟩ => fun _ => num d | ⟨_ + 1, h⟩ => absurd h (by simp)

theorem ok : ∀ d : Fin 8, ok0 (F := Bits) (tab d) := by decide +kernel

theorem okM (m : (ℓ : Loc nD τ sig) → Buf (Elt Bits) ℓ) (hp : Cert.Pre_Kernel24 m) : Ok m := by
  have e := congrFun (hp 0) (fun a => ⟨0, by revert a; decide⟩)
  simp only [Cert.Pre_ff_w1_device.fn] at e
  pointwise at e
  obtain ⟨d, hd⟩ := device _ e
  have h : tbl m = tab d := by
    funext j x
    match j with
    | ⟨0, _⟩ => exact (congrArg _ (only x _)).trans hd
  rw [Ok, h]; exact ok d

end Cert.Kernel24.Opt

namespace Cert.Kernel25.Opt

open Cert.Kernel25 Cert.Kernel25.Gen

def tab (d : Fin 8) : pre0.Contents (Elt Bits) := fun | ⟨0, _⟩ => fun _ => num d | ⟨_ + 1, h⟩ => absurd h (by simp)

theorem ok : ∀ d : Fin 8, ok0 (F := Bits) (tab d) := by decide +kernel

theorem okM (m : (ℓ : Loc nD τ sig) → Buf (Elt Bits) ℓ) (hp : Cert.Pre_Kernel25 m) : Ok m := by
  have e := congrFun (hp 0) (fun a => ⟨0, by revert a; decide⟩)
  simp only [Cert.Pre_ff_w2_device.fn] at e
  pointwise at e
  obtain ⟨d, hd⟩ := device _ e
  have h : tbl m = tab d := by
    funext j x
    match j with
    | ⟨0, _⟩ => exact (congrArg _ (only x _)).trans hd
  rw [Ok, h]; exact ok d

end Cert.Kernel25.Opt

end
-- ==== Proof.Mlp.P2.lean ====
/- The first product of the squared-ReLU network and its nonlinearity, `square (relu (h @ w1))`: 512 columns of the result
   per grid point, over one member of the grouped weight. -/
module

public import proofs.«01_k».proof.Proof.Gen.Kernel2Ideal.Value
public import proofs.«01_k».proof.Proof.Gen.Reference2Ideal.Run
public import proofs.«01_k».proof.Defs
public import Idealize.ShloMosaic.Lib.Pipeline.ValueKit

@[expose] public section

set_option maxRecDepth 16384

noncomputable section

namespace Cert.Kernel2Ideal.Mlp

open Cert.Kernel2Ideal Cert.Kernel2Ideal.Gen Idealize.ShloMosaic Idealize.ShloMosaic.TcCoe Idealize.SL.Sem

variable (m : (ℓ : Loc nD τ sig) → Buf (Elt Ideal) ℓ)

theorem idx (t : Fin cfg0.N) : win0_0.index t = ![win0_2.index t 0, 0] ∧ win0_1.index t = ![win0_2.index t 1, 0, 0] :=
  (by decide +kernel : ∀ t : Fin grid0.N, win0_0.index t = ![win0_2.index t 0, 0] ∧ win0_1.index t = ![win0_2.index t 1, 0, 0]) t

/-- The reference's result of its arguments. -/
def ref (h : FVec Ideal S2048x1024 .bf16) (w : FVec Ideal S1024x4096 .bf16) : FVec Ideal S2048x4096 .bf16 :=
  let a := maximumf (Host.dotGeneral Cert.Reference2Ideal.dot_S2048x1024_S1024x4096_S2048x4096_1_0_0_1_n_n none (extf .f32 h (by decide)) (extf .f32 w (by decide)))
    (broadcastInDim S2048x4096 ![] Cert.Reference2Ideal.Facts₀.bcast_S_S2048x4096 (constant Cert.Reference2Ideal.S_ .f32 0x00000000#32))
  truncf .bf16 (mulf a a) (by decide)

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1⟩ := idx t
  pointwise [k0_pay1, ref]
  blk_point [iblk, V, e0, e1]

theorem algebraic : Cert.algebraic_Kernel2Ideal_Reference2Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference2Ideal.defs _ _).mono
      (fun _ h c => ⟨(h c).1.trans (by rw [(e c).1, (e c).2]; rfl), (h c).2⟩) (Cert.Reference2Ideal.Value.run m' g')⟩

end Cert.Kernel2Ideal.Mlp

end
-- ==== Proof.Mlp.P3.lean ====
/- The second product of the squared-ReLU network, `r @ w2`: a [1024, 512] block of the result per grid point, each one
   full product of 4096 rows of the right operand. -/
module

public import proofs.«01_k».proof.Proof.Gen.Kernel3Ideal.Value
public import proofs.«01_k».proof.Proof.Gen.Reference3Ideal.Run
public import proofs.«01_k».proof.Defs
public import Idealize.ShloMosaic.Lib.Pipeline.ValueKit

@[expose] public section

set_option maxRecDepth 16384

noncomputable section

namespace Cert.Kernel3Ideal.Mlp

open Cert.Kernel3Ideal Cert.Kernel3Ideal.Gen Idealize.ShloMosaic Idealize.ShloMosaic.TcCoe Idealize.SL.Sem

variable (m : (ℓ : Loc nD τ sig) → Buf (Elt Ideal) ℓ)

theorem idx (t : Fin cfg0.N) : win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1]) t

/-- The reference's result of its two arguments. -/
def ref (r : FVec Ideal S2048x4096 .bf16) (w : FVec Ideal S4096x1024 .bf16) : FVec Ideal S2048x1024 .f32 :=
  Host.dotGeneral Cert.Reference3Ideal.dot_S2048x4096_S4096x1024_S2048x1024_1_0_0_1_n_n none
    (extf .f32 r (by decide)) (extf .f32 w (by decide))

theorem final (c : Dev nD) : (dats m 0 c).arrAt 2 cfg0.N =
    ref (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1⟩ := idx t
  pointwise [k0_pay1, ref]
  blk_point [iblk, V, e0, e1]

theorem algebraic : Cert.algebraic_Kernel3Ideal_Reference3Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference3Ideal.defs _ _).mono
      (fun _ h c => ⟨(h c).1.trans (by rw [(e c).1, (e c).2]; rfl), (h c).2⟩) (Cert.Reference3Ideal.Value.run m' g')⟩

end Cert.Kernel3Ideal.Mlp

end
-- ==== Proof.Sums.lean ====
/- Sums the products of the kernels and of the references are compared by. -/
module

public import Idealize.ShloMosaic.Lib.Pipeline.ValueKit

@[expose] public section

namespace Cert.Sums

theorem swap {n : ℕ} (f g : Fin n → EReal) : ∑ k, f k * g k = ∑ k, g k * f k :=
  Finset.sum_congr rfl fun k _ => mul_comm _ _

end Cert.Sums

end
-- ==== Proof.Mlp.P4.lean ====
/- The gradient of the second weight of the squared-ReLU network, `rᵀ @ dm`: 512 rows of the result per grid point. -/
module

public import proofs.«01_k».proof.Proof.Gen.Kernel4Ideal.Value
public import proofs.«01_k».proof.Proof.Gen.Reference4Ideal.Run
public import proofs.«01_k».proof.Defs
public import proofs.«01_k».proof.Proof.Sums
public import Idealize.ShloMosaic.Lib.Pipeline.ValueKit

@[expose] public section

set_option maxRecDepth 16384

noncomputable section

namespace Cert.Kernel4Ideal.Mlp

open Cert.Kernel4Ideal Cert.Kernel4Ideal.Gen Idealize.ShloMosaic Idealize.ShloMosaic.TcCoe Idealize.SL.Sem

variable (m : (ℓ : Loc nD τ sig) → Buf (Elt Ideal) ℓ)

theorem idx (t : Fin cfg0.N) : win0_0.index t = ![0, win0_2.index t 0] ∧ win0_1.index t = ![0, win0_2.index t 1] :=
  (by decide +kernel : ∀ t : Fin grid0.N, win0_0.index t = ![0, win0_2.index t 0] ∧ win0_1.index t = ![0, win0_2.index t 1]) t

/-- The reference's result of its arguments. -/
def ref (r : FVec Ideal S2048x4096 .bf16) (dm : FVec Ideal S2048x1024 .bf16) : FVec Ideal S4096x1024 .bf16 :=
  truncf .bf16 (transpose S4096x1024 [1, 0] (Host.dotGeneral Cert.Reference4Ideal.dot_S2048x1024_S2048x4096_S1024x4096_0_0_1_1_n_n none
    (extf .f32 dm (by decide)) (extf .f32 r (by decide))) Cert.Reference4Ideal.Facts₀.transposes_S1024x4096_S4096x1024_1_0) (by decide)

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1⟩ := idx t
  pointwise [k0_pay1, ref]
  refine Eq.trans ?_ (Cert.Sums.swap _ _)
  blk_point [iblk, V, e0, e1]

theorem algebraic : Cert.algebraic_Kernel4Ideal_Reference4Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference4Ideal.defs _ _).mono
      (fun _ h c => ⟨(h c).1.trans (by rw [(e c).1, (e c).2]; rfl), (h c).2⟩) (Cert.Reference4Ideal.Value.run m' g')⟩

end Cert.Kernel4Ideal.Mlp

end
-- ==== Proof.Mlp.P5.lean ====
/- The gradient that reaches the first product of the squared-ReLU network, `2 relu(a) * (dm @ w2ᵀ)`: 512 columns of the
   result per grid point; the kernel recovers `relu(a)` from `square (relu a)`. -/
module

public import proofs.«01_k».proof.Proof.Gen.Kernel5Ideal.Value
public import proofs.«01_k».proof.Proof.Gen.Reference5Ideal.Run
public import proofs.«01_k».proof.Defs
public import proofs.«01_k».proof.Proof.Gen.Pre_below_infinity
public import Idealize.ShloMosaic.Lib.Pipeline.ValueKit

@[expose] public section

set_option maxRecDepth 16384

noncomputable section

namespace Cert.Kernel5Ideal.Mlp

open Cert.Kernel5Ideal Cert.Kernel5Ideal.Gen Idealize.ShloMosaic Idealize.ShloMosaic.TcCoe Idealize.SL.Sem

variable (m : (ℓ : Loc nD τ sig) → Buf (Elt Ideal) ℓ)

theorem idx (t : Fin cfg0.N) : win0_0.index t = ![win0_3.index t 0, 0] ∧ win0_1.index t = ![win0_3.index t 1, 0] ∧ win0_2.index t = ![win0_3.index t 0, win0_3.index t 1] :=
  (by decide +kernel : ∀ t : Fin grid0.N, win0_0.index t = ![win0_3.index t 0, 0] ∧ win0_1.index t = ![win0_3.index t 1, 0] ∧ win0_2.index t = ![win0_3.index t 0, win0_3.index t 1]) t

/-- The nonlinearity recovered from its square, but for an infinite argument. -/
theorem root (a : EReal) (h : a ≠ ⊤) : (if 0 < max a 0 * max a 0 then max a 0 * max a 0 * Ideal.rsqrt (max a 0 * max a 0) else 0) = max a 0 := by
  induction a with
  | bot => simp
  | top => exact absurd rfl h
  | coe r =>
    rcases le_or_gt r 0 with hr | hr
    · have : max (r : EReal) 0 = 0 := max_eq_right (by exact_mod_cast hr)
      simp [this]
    · have e : max (r : EReal) 0 = (r : EReal) := max_eq_left (by exact_mod_cast hr.le)
      rw [e, ← EReal.coe_mul, if_pos (by exact_mod_cast mul_pos hr hr)]
      have hs : Ideal.rsqrt ((r * r : ℝ) : EReal) = ((Real.sqrt (r * r))⁻¹ : ℝ) := by
        show (if r * r < 0 then (⊥ : EReal) else if r * r = 0 then ⊤ else ((Real.sqrt (r * r))⁻¹ : ℝ)) = _
        rw [if_neg (mul_pos hr hr).not_gt, if_neg (mul_pos hr hr).ne']
      rw [hs, Real.sqrt_mul_self hr.le, ← EReal.coe_mul, mul_assoc, mul_inv_cancel₀ hr.ne', mul_one]

/-- The product with the recovered nonlinearity is the gradient's choice by the argument's sign. -/
theorem step (v b a : EReal) (h : a ≠ ⊤) :
    v * b * (if 0 < max a 0 * max a 0 then max a 0 * max a 0 * Ideal.rsqrt (max a 0 * max a 0) else 0) =
      if 0 < a then v * (b * max a 0) else 0 := by
  rw [root a h]
  split_ifs with ha
  · rw [mul_assoc]
  · rw [max_eq_right (not_lt.mp ha), mul_zero]

/-- The square the host prepares. -/
theorem sq (c : Dev nD) (a : FVec Ideal S2048x4096 .f32) (ha : m ((c : Thread nD τ).loc main_arg0) = a) (i : S2048x4096.Idx) :
    V m c main_v2 i = (max (a i : EReal) 0 * max (a i : EReal) 0 : EReal) := by
  have e : V m c main_v2 = (truncf (F := Ideal) .bf16 (mulf (maximumf a (broadcastInDim S2048x4096 ![] bcast_S_S2048x4096 (constant S_ .f32 0x00000000#32)))
      (maximumf a (broadcastInDim S2048x4096 ![] bcast_S_S2048x4096 (constant S_ .f32 0x00000000#32)))) (by decide) : FVec Ideal S2048x4096 .bf16) := by
    subst ha
    simp only [V, hostOps0, hostOps0_1, List.flatten_cons, List.flatten_nil, List.cons_append, List.nil_append, List.append_nil, StableHlo.TRef.binary, StableHlo.TRef.nullary, StableHlo.TRef.unary, StableHlo.TRef.toBuf, StableHlo.TRef.ofBuf, cast_eq]
    after_results
  rw [e]
  pointwise

/-- The precondition, entry by entry. -/
theorem below (hp : Cert.Pre_Kernel5Ideal_below_infinity m) (c : Dev nD) (i : S2048x4096.Idx) : m ((c : Thread nD τ).loc main_arg0) i ≠ (⊤ : EReal) := by
  intro h
  have e := congrFun (hp c) i
  simp only [Cert.Pre_below_infinity.fn] at e
  pointwise at e
  rw [h] at e
  revert e
  simp

/-- The reference's result of its arguments. -/
def ref (a : FVec Ideal S2048x4096 .f32) (w : FVec Ideal S4096x1024 .bf16) (dm : FVec Ideal S2048x1024 .bf16) : FVec Ideal S2048x4096 .bf16 :=
  let z := broadcastInDim S2048x4096 ![] Cert.Reference5Ideal.Facts₀.bcast_S_S2048x4096 (constant Cert.Reference5Ideal.S_ .f32 0x00000000#32)
  truncf .bf16 (select (cmpf .ogt a z)
    (mulf (Host.dotGeneral Cert.Reference5Ideal.dot_S2048x1024_S4096x1024_S2048x4096_1_1_0_0_n_n none (extf .f32 dm (by decide)) (extf .f32 w (by decide)))
      (mulf (broadcastInDim S2048x4096 ![] Cert.Reference5Ideal.Facts₀.bcast_S_S2048x4096 (constant Cert.Reference5Ideal.S_ .f32 0x40000000#32)) (maximumf a z))) z) (by decide)

theorem final (hm : ∀ (c : Dev nD) i, m ((c : Thread nD τ).loc main_arg0) i ≠ (⊤ : EReal)) (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  obtain ⟨e0, e1, e2⟩ := idx t
  pointwise [k0_pay1, ref]
  have hs : iblk m c 2 t y = V m c main_v2 ((win0_3.blk t).view.emb y) := by blk_ext! [iblk, e2]
  rw [hs, sq m c _ rfl]
  refine Eq.trans ?_ (step _ _ _ (hm c _))
  blk_point [iblk, V, e0, e1, e2]

theorem algebraic : Cert.algebraic_Kernel5Ideal_Reference5Ideal_pre_below_infinity := fun m g m' g' hp e =>
  ⟨fun c => ref (m ((c : Thread nD τ).loc main_arg0)) (m ((c : Thread nD τ).loc main_arg1)) (m ((c : Thread nD τ).loc main_arg2)),
    (θ_run defs _ _).mono (fun _ h c => ⟨(h c).1.trans (final m (below m hp) c), (h c).2⟩) (Value.run_blocks m g),
    (θ_run Cert.Reference5Ideal.defs _ _).mono
      (fun _ h c => ⟨(h c).1.trans (by rw [(e c).1, (e c).2.1, (e c).2.2]; rfl), (h c).2⟩) (Cert.Reference5Ideal.Value.run m' g')⟩

end Cert.Kernel5Ideal.Mlp

end
-- ==== Proof.Mlp.P6.lean ====
/- The gradient of the first weight of the squared-ReLU network, `hᵀ @ da`, in the grouped layout of the weight: 512 rows of
   two members per grid point. -/
module

public import proofs.«01_k».proof.Proof.Gen.Kernel6Ideal.Value
public import proofs.«01_k».proof.Proof.Gen.Reference6Ideal.Run
public import proofs.«01_k».proof.Defs
public import proofs.«01_k».proof.Proof.Sums
public import Idealize.ShloMosaic.Lib.Pipeline.ValueKit

@[expose] public section

set_option maxRecDepth 16384

noncomputable section

namespace Cert.Kernel6Ideal.Mlp

open Cert.Kernel6Ideal Cert.Kernel6Ideal.Gen Idealize.ShloMosaic Idealize.ShloMosaic.TcCoe Idealize.SL.Sem

variable (m : (ℓ : Loc nD τ sig) → Buf (Elt Ideal) ℓ)

theorem idx (t : Fin cfg0.N) : win0_0.index t = ![0, win0_2.index t 1] ∧ win0_1.index t = ![0, win0_2.index t 0] ∧ win0_2.index t 2 = 0 :=
  (by decide +kernel : ∀ t : Fin grid0.N, win0_0.index t = ![0, win0_2.index t 1] ∧ win0_1.index t = ![0, win0_2.index t 0] ∧ win0_2.index t 2 = 0) t

theorem halves (p q : Vec Ideal S1x512x512 .bf16) (y : S2x512x512.Idx) :
    View.canon (Val := Elt Ideal) [⟨r0_3, p⟩, ⟨r0_2, q⟩] y = if (y 0).val = 1 then p (ix3 0 (y 1) (y 2)) else q (ix3 0 (y 1) (y 2)) := by
  idx_vars y
  by_cases h : y0.val = 1
  · have e : r0_3.emb (ix3 0 y1 y2) = ix3 y0 y1 y2 := by
      funext a; apply Fin.ext; refine (ValueKit.rect_emb_unit_val _ _ _ _ a).trans ?_; fin_cases a <;> simp_all
    refine (congrArg _ e.symm).trans ((View.canon_cons_emb _ _ _ _).trans ?_)
    exact (if_pos h).symm
  · have e : r0_2.emb (ix3 0 y1 y2) = ix3 y0 y1 y2 := by
      funext a; apply Fin.ext; refine (ValueKit.rect_emb_unit_val _ _ _ _ a).trans ?_; fin_cases a <;> simp_all <;> omega
    rw [View.canon_cons_of_not_mem]
    · refine (congrArg _ e.symm).trans ((View.canon_cons_emb _ _ _ _).trans ?_)
      exact (if_neg h).symm
    · intro hh; have := (Rect.mem_set_unit (inb := inb_S2x512x512_S1x512x512_1_0_0).mp hh) 0; simp_all; omega

/-- The reference's result of its arguments. -/
def ref (h : FVec Ideal S2048x1024 .bf16) (da : FVec Ideal S2048x4096 .bf16) : FVec Ideal S8x1024x512 .bf16 :=
  transpose Cert.Reference6Ideal.S8x1024x512 [1, 0, 2] (shapeCast Cert.Reference6Ideal.S1024x8x512 (truncf .bf16 (transpose Cert.Reference6Ideal.S1024x4096 [1, 0]
    (Host.dotGeneral Cert.Reference6Ideal.dot_S2048x4096_S2048x1024_S4096x1024_0_0_1_1_n_n none (extf .f32 da (by decide)) (extf .f32 h (by decide)))
    Cert.Reference6Ideal.Facts₀.transposes_S4096x1024_S1024x4096_1_0) (by decide)) Cert.Reference6Ideal.Facts₀.shapeCasts_S1024x4096_S1024x8x512) Cert.Reference6Ideal.Facts₀.transposes_S1024x8x512_S8x1024x512_1_0_2

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1, e2⟩ := idx t
  rw [halves]
  split_ifs with hy
  all_goals
    pointwise [k0_pay1, k0_pay2, k0_pay3, ref]
    refine Eq.trans ?_ (Cert.Sums.swap _ _)
    blk_point [iblk, V, e0, e1, e2]

theorem algebraic : Cert.algebraic_Kernel6Ideal_Reference6Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference6Ideal.defs _ _).mono
      (fun _ h c => ⟨(h c).1.trans (by rw [(e c).1, (e c).2]; rfl), (h c).2⟩) (Cert.Reference6Ideal.Value.run m' g')⟩

end Cert.Kernel6Ideal.Mlp

end
-- ==== Proof.Mlp.P7.lean ====
/- The gradient that reaches the input of the squared-ReLU network, `da @ w1ᵀ`: a [1024, 512] block of the result per grid
   point, the sum of eight products, one per member of the grouped weight. -/
module

public import proofs.«01_k».proof.Proof.Gen.Kernel7Ideal.Value
public import proofs.«01_k».proof.Proof.Gen.Reference7Ideal.Run
public import proofs.«01_k».proof.Defs
public import Idealize.ShloMosaic.Lib.Pipeline.ValueKit

@[expose] public section

set_option maxRecDepth 16384

noncomputable section

namespace Cert.Kernel7Ideal.Mlp

open Cert.Kernel7Ideal Cert.Kernel7Ideal.Gen Idealize.ShloMosaic Idealize.ShloMosaic.TcCoe Idealize.SL.Sem

variable (m : (ℓ : Loc nD τ sig) → Buf (Elt Ideal) ℓ)

theorem idx (t : Fin cfg0.N) : win0_0.index t = ![win0_2.index t 0, 0] ∧ win0_1.index t = ![0, win0_2.index t 1, 0] :=
  (by decide +kernel : ∀ t : Fin grid0.N, win0_0.index t = ![win0_2.index t 0, 0] ∧ win0_1.index t = ![0, win0_2.index t 1, 0]) t

/-- A sum over 4096 as eight sums over 512. -/
theorem eighths (f : Fin 4096 → EReal) : (∑ x : Fin 512, f ⟨x.val, by omega⟩) + (∑ x : Fin 512, f ⟨512 + x.val, by omega⟩)
    + (∑ x : Fin 512, f ⟨1024 + x.val, by omega⟩) + (∑ x : Fin 512, f ⟨1536 + x.val, by omega⟩)
    + (∑ x : Fin 512, f ⟨2048 + x.val, by omega⟩) + (∑ x : Fin 512, f ⟨2560 + x.val, by omega⟩)
    + (∑ x : Fin 512, f ⟨3072 + x.val, by omega⟩) + (∑ x : Fin 512, f ⟨3584 + x.val, by omega⟩) = ∑ x, f x := by
  have s : ∀ (n : ℕ) (f : Fin (n + 512) → EReal), ∑ x, f x = (∑ x : Fin n, f ⟨x.val, by omega⟩) + ∑ x : Fin 512, f ⟨n + x.val, by omega⟩ :=
    fun n f => Fin.sum_univ_add f
  rw [s 3584, s 3072, s 2560, s 2048, s 1536, s 1024, s 512]

/-- The reference's result of its arguments. -/
def ref (da : FVec Ideal S2048x4096 .bf16) (w : FVec Ideal S1024x4096 .bf16) : FVec Ideal S2048x1024 .f32 :=
  Host.dotGeneral Cert.Reference7Ideal.dot_S2048x4096_S1024x4096_S2048x1024_1_1_0_0_n_n none (extf .f32 da (by decide)) (extf .f32 w (by decide))

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1⟩ := idx t
  pointwise [k0_pay1, k0_pay2, ref]
  refine Eq.trans ?_ (eighths _)
  blk_point [iblk, V, e0, e1]

theorem algebraic : Cert.algebraic_Kernel7Ideal_Reference7Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference7Ideal.defs _ _).mono
      (fun _ h c => ⟨(h c).1.trans (by rw [(e c).1, (e c).2]; rfl), (h c).2⟩) (Cert.Reference7Ideal.Value.run m' g')⟩

end Cert.Kernel7Ideal.Mlp

end
-- ==== Proof.Proj.P8.lean ====
/- The product of the gated DeltaNet layer's input with its one input weight, `h @ w`: a block of columns of the result per
   grid point. -/
module

public import proofs.«01_k».proof.Proof.Gen.Kernel8Ideal.Value
public import proofs.«01_k».proof.Proof.Gen.Reference8Ideal.Run
public import proofs.«01_k».proof.Defs
public import proofs.«01_k».proof.Proof.Sums
public import Idealize.ShloMosaic.Lib.Pipeline.ValueKit

@[expose] public section

set_option maxRecDepth 16384

noncomputable section

namespace Cert.Kernel8Ideal.Proj

open Cert.Kernel8Ideal Cert.Kernel8Ideal.Gen Idealize.ShloMosaic Idealize.ShloMosaic.TcCoe Idealize.SL.Sem

variable (m : (ℓ : Loc nD τ sig) → Buf (Elt Ideal) ℓ)

theorem idx (t : Fin cfg0.N) : win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1]) t

/-- The reference's result of its arguments. -/
def ref (h : FVec Ideal S2048x1024 .bf16) (w : FVec Ideal S1024x4224 .bf16) : FVec Ideal S2048x4224 .f32 :=
  Host.dotGeneral Cert.Reference8Ideal.dot_S2048x1024_S1024x4224_S2048x4224_1_0_0_1_n_n none (extf .f32 h (by decide)) (extf .f32 w (by decide))

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1⟩ := idx t
  pointwise [k0_pay1, ref]
  blk_point [iblk, V, e0, e1]

theorem algebraic : Cert.algebraic_Kernel8Ideal_Reference8Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference8Ideal.defs _ _).mono
      (fun _ h c => ⟨(h c).1.trans (by rw [(e c).1, (e c).2]; rfl), (h c).2⟩) (Cert.Reference8Ideal.Value.run m' g')⟩

end Cert.Kernel8Ideal.Proj

end
-- ==== Proof.Proj.P9.lean ====
/- The output product of a mixer, `y @ w`: a block of the result per grid point. -/
module

public import proofs.«01_k».proof.Proof.Gen.Kernel9Ideal.Value
public import proofs.«01_k».proof.Proof.Gen.Reference9Ideal.Run
public import proofs.«01_k».proof.Defs
public import proofs.«01_k».proof.Proof.Sums
public import Idealize.ShloMosaic.Lib.Pipeline.ValueKit

@[expose] public section

set_option maxRecDepth 16384

noncomputable section

namespace Cert.Kernel9Ideal.Proj

open Cert.Kernel9Ideal Cert.Kernel9Ideal.Gen Idealize.ShloMosaic Idealize.ShloMosaic.TcCoe Idealize.SL.Sem

variable (m : (ℓ : Loc nD τ sig) → Buf (Elt Ideal) ℓ)

theorem idx (t : Fin cfg0.N) : win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1]) t

/-- The reference's result of its arguments. -/
def ref (h : FVec Ideal S2048x1024 .bf16) (w : FVec Ideal S1024x1024 .bf16) : FVec Ideal S2048x1024 .f32 :=
  Host.dotGeneral Cert.Reference9Ideal.dot_S2048x1024_S1024x1024_S2048x1024_1_0_0_1_n_n none (extf .f32 h (by decide)) (extf .f32 w (by decide))

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1⟩ := idx t
  pointwise [k0_pay1, ref]
  blk_point [iblk, V, e0, e1]

theorem algebraic : Cert.algebraic_Kernel9Ideal_Reference9Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference9Ideal.defs _ _).mono
      (fun _ h c => ⟨(h c).1.trans (by rw [(e c).1, (e c).2]; rfl), (h c).2⟩) (Cert.Reference9Ideal.Value.run m' g')⟩

end Cert.Kernel9Ideal.Proj

end
-- ==== Proof.Proj.P10.lean ====
/- The gradient of a mixer's output weight, `ogᵀ @ dy`: a block of the result per grid point. -/
module

public import proofs.«01_k».proof.Proof.Gen.Kernel10Ideal.Value
public import proofs.«01_k».proof.Proof.Gen.Reference10Ideal.Run
public import proofs.«01_k».proof.Defs
public import proofs.«01_k».proof.Proof.Sums
public import Idealize.ShloMosaic.Lib.Pipeline.ValueKit

@[expose] public section

set_option maxRecDepth 16384

noncomputable section

namespace Cert.Kernel10Ideal.Proj

open Cert.Kernel10Ideal Cert.Kernel10Ideal.Gen Idealize.ShloMosaic Idealize.ShloMosaic.TcCoe Idealize.SL.Sem

variable (m : (ℓ : Loc nD τ sig) → Buf (Elt Ideal) ℓ)

theorem idx (t : Fin cfg0.N) : win0_0.index t = ![0, win0_2.index t 0] ∧ win0_1.index t = ![0, win0_2.index t 1] :=
  (by decide +kernel : ∀ t : Fin grid0.N, win0_0.index t = ![0, win0_2.index t 0] ∧ win0_1.index t = ![0, win0_2.index t 1]) t

/-- The reference's result of its arguments. -/
def ref (og : FVec Ideal S2048x1024 .bf16) (dy : FVec Ideal S2048x1024 .bf16) : FVec Ideal S1024x1024 .bf16 :=
  truncf .bf16 (transpose S1024x1024 [1, 0] (Host.dotGeneral Cert.Reference10Ideal.dot_S2048x1024_S2048x1024_S1024x1024_0_0_1_1_n_n none (extf .f32 dy (by decide)) (extf .f32 og (by decide)))
    Cert.Reference10Ideal.Facts₀.transposes_S1024x1024_S1024x1024_1_0) (by decide)

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1⟩ := idx t
  pointwise [k0_pay1, ref]
  refine Eq.trans ?_ (Cert.Sums.swap _ _)
  blk_point [iblk, V, e0, e1]

theorem algebraic : Cert.algebraic_Kernel10Ideal_Reference10Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference10Ideal.defs _ _).mono
      (fun _ h c => ⟨(h c).1.trans (by rw [(e c).1, (e c).2]; rfl), (h c).2⟩) (Cert.Reference10Ideal.Value.run m' g')⟩

end Cert.Kernel10Ideal.Proj

end
-- ==== Proof.Proj.P11.lean ====
/- The gradient that reaches a mixer's output product, `dy @ wᵀ`: a block of the result per grid point. -/
module

public import proofs.«01_k».proof.Proof.Gen.Kernel11Ideal.Value
public import proofs.«01_k».proof.Proof.Gen.Reference11Ideal.Run
public import proofs.«01_k».proof.Defs
public import proofs.«01_k».proof.Proof.Sums
public import Idealize.ShloMosaic.Lib.Pipeline.ValueKit

@[expose] public section

set_option maxRecDepth 16384

noncomputable section

namespace Cert.Kernel11Ideal.Proj

open Cert.Kernel11Ideal Cert.Kernel11Ideal.Gen Idealize.ShloMosaic Idealize.ShloMosaic.TcCoe Idealize.SL.Sem

variable (m : (ℓ : Loc nD τ sig) → Buf (Elt Ideal) ℓ)

theorem idx (t : Fin cfg0.N) : win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0]) t

/-- The reference's result of its arguments. -/
def ref (dy : FVec Ideal S2048x1024 .bf16) (w : FVec Ideal S1024x1024 .bf16) : FVec Ideal S2048x1024 .f32 :=
  Host.dotGeneral Cert.Reference11Ideal.dot_S2048x1024_S1024x1024_S2048x1024_1_1_0_0_n_n none (extf .f32 dy (by decide)) (extf .f32 w (by decide))

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1⟩ := idx t
  pointwise [k0_pay1, ref]
  blk_point [iblk, V, e0, e1]

theorem algebraic : Cert.algebraic_Kernel11Ideal_Reference11Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference11Ideal.defs _ _).mono
      (fun _ h c => ⟨(h c).1.trans (by rw [(e c).1, (e c).2]; rfl), (h c).2⟩) (Cert.Reference11Ideal.Value.run m' g')⟩

end Cert.Kernel11Ideal.Proj

end
-- ==== Proof.Proj.P12.lean ====
/- The gradient of the gated DeltaNet layer's input weight, `hᵀ @ dproj`: a block of the result per grid point. -/
module

public import proofs.«01_k».proof.Proof.Gen.Kernel12Ideal.Value
public import proofs.«01_k».proof.Proof.Gen.Reference12Ideal.Run
public import proofs.«01_k».proof.Defs
public import proofs.«01_k».proof.Proof.Sums
public import Idealize.ShloMosaic.Lib.Pipeline.ValueKit

@[expose] public section

set_option maxRecDepth 16384

noncomputable section

namespace Cert.Kernel12Ideal.Proj

open Cert.Kernel12Ideal Cert.Kernel12Ideal.Gen Idealize.ShloMosaic Idealize.ShloMosaic.TcCoe Idealize.SL.Sem

variable (m : (ℓ : Loc nD τ sig) → Buf (Elt Ideal) ℓ)

theorem idx (t : Fin cfg0.N) : win0_0.index t = ![0, win0_2.index t 0] ∧ win0_1.index t = ![0, win0_2.index t 1] :=
  (by decide +kernel : ∀ t : Fin grid0.N, win0_0.index t = ![0, win0_2.index t 0] ∧ win0_1.index t = ![0, win0_2.index t 1]) t

/-- The reference's result of its arguments. -/
def ref (h : FVec Ideal S2048x1024 .bf16) (dproj : FVec Ideal S2048x4224 .bf16) : FVec Ideal S1024x4224 .bf16 :=
  truncf .bf16 (transpose S1024x4224 [1, 0] (Host.dotGeneral Cert.Reference12Ideal.dot_S2048x4224_S2048x1024_S4224x1024_0_0_1_1_n_n none (extf .f32 dproj (by decide)) (extf .f32 h (by decide)))
    Cert.Reference12Ideal.Facts₀.transposes_S4224x1024_S1024x4224_1_0) (by decide)

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1⟩ := idx t
  pointwise [k0_pay1, ref]
  refine Eq.trans ?_ (Cert.Sums.swap _ _)
  blk_point [iblk, V, e0, e1]

theorem algebraic : Cert.algebraic_Kernel12Ideal_Reference12Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference12Ideal.defs _ _).mono
      (fun _ h c => ⟨(h c).1.trans (by rw [(e c).1, (e c).2]; rfl), (h c).2⟩) (Cert.Reference12Ideal.Value.run m' g')⟩

end Cert.Kernel12Ideal.Proj

end
-- ==== Proof.Proj.P13.lean ====
/- The gradient that reaches the gated DeltaNet layer's input, `dproj @ wᵀ`: a block of the result per grid point; the third
   argument orders the call after another and isn't read. -/
module

public import proofs.«01_k».proof.Proof.Gen.Kernel13Ideal.Value
public import proofs.«01_k».proof.Proof.Gen.Reference13Ideal.Run
public import proofs.«01_k».proof.Defs
public import proofs.«01_k».proof.Proof.Sums
public import Idealize.ShloMosaic.Lib.Pipeline.ValueKit

@[expose] public section

set_option maxRecDepth 16384

noncomputable section

namespace Cert.Kernel13Ideal.Proj

open Cert.Kernel13Ideal Cert.Kernel13Ideal.Gen Idealize.ShloMosaic Idealize.ShloMosaic.TcCoe Idealize.SL.Sem

variable (m : (ℓ : Loc nD τ sig) → Buf (Elt Ideal) ℓ)

theorem idx (t : Fin cfg0.N) : win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0]) t

/-- The one store of a grid point: the product of its two blocks. -/
theorem out (c : Dev nD) (t : Fin cfg0.N) : outsAt0 m c t = k0_pay1 (iblk m c 0 t) (iblk m c 1 t) := by
  unfold outsAt0 out0_A_2
  rw [View.read_writes_junk_eq_canon]
  frame_out

/-- The reference's result of its arguments. -/
def ref (dproj : FVec Ideal S2048x4224 .bf16) (w : FVec Ideal S1024x4224 .bf16) : FVec Ideal S2048x1024 .f32 :=
  Host.dotGeneral Cert.Reference13Ideal.dot_S2048x4224_S1024x4224_S2048x1024_1_1_0_0_n_n none (extf .f32 dproj (by decide)) (extf .f32 w (by decide))

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2, out]
  obtain ⟨e0, e1⟩ := idx t
  pointwise [k0_pay1, ref]
  blk_point [iblk, V, e0, e1]

theorem algebraic : Cert.algebraic_Kernel13Ideal_Reference13Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference13Ideal.defs _ _).mono
      (fun _ h c => ⟨(h c).1.trans (by rw [(e c).1, (e c).2.1]; rfl), (h c).2⟩) (Cert.Reference13Ideal.Value.run m' g')⟩

end Cert.Kernel13Ideal.Proj

end
-- ==== Proof.Proj.P14.lean ====
/- The product of the Conformer layer's input with its grouped input weight, `h @ w`: one member of the weight per grid point. -/
module

public import proofs.«01_k».proof.Proof.Gen.Kernel14Ideal.Value
public import proofs.«01_k».proof.Proof.Gen.Reference14Ideal.Run
public import proofs.«01_k».proof.Defs
public import proofs.«01_k».proof.Proof.Sums
public import Idealize.ShloMosaic.Lib.Pipeline.ValueKit

@[expose] public section

set_option maxRecDepth 16384

noncomputable section

namespace Cert.Kernel14Ideal.Proj

open Cert.Kernel14Ideal Cert.Kernel14Ideal.Gen Idealize.ShloMosaic Idealize.ShloMosaic.TcCoe Idealize.SL.Sem

variable (m : (ℓ : Loc nD τ sig) → Buf (Elt Ideal) ℓ)

theorem idx (t : Fin cfg0.N) : win0_0.index t = ![win0_2.index t 0, 0] ∧ win0_1.index t = ![win0_2.index t 1, 0, 0] :=
  (by decide +kernel : ∀ t : Fin grid0.N, win0_0.index t = ![win0_2.index t 0, 0] ∧ win0_1.index t = ![win0_2.index t 1, 0, 0]) t

/-- The reference's result of its arguments. -/
def ref (h : FVec Ideal S2048x1024 .bf16) (w : FVec Ideal S1024x2048 .bf16) : FVec Ideal S2048x2048 .f32 :=
  Host.dotGeneral Cert.Reference14Ideal.dot_S2048x1024_S1024x2048_S2048x2048_1_0_0_1_n_n none (extf .f32 h (by decide)) (extf .f32 w (by decide))

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1⟩ := idx t
  pointwise [k0_pay1, ref]
  blk_point [iblk, V, e0, e1]

theorem algebraic : Cert.algebraic_Kernel14Ideal_Reference14Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference14Ideal.defs _ _).mono
      (fun _ h c => ⟨(h c).1.trans (by rw [(e c).1, (e c).2]; rfl), (h c).2⟩) (Cert.Reference14Ideal.Value.run m' g')⟩

end Cert.Kernel14Ideal.Proj

end
-- ==== Proof.Proj.P15.lean ====
/- The gradient of the Conformer layer's input weight, `hᵀ @ dvg`, in the grouped layout of the weight: 512 rows of four
   members per grid point. -/
module

public import proofs.«01_k».proof.Proof.Gen.Kernel15Ideal.Value
public import proofs.«01_k».proof.Proof.Gen.Reference15Ideal.Run
public import proofs.«01_k».proof.Defs
public import proofs.«01_k».proof.Proof.Sums
public import Idealize.ShloMosaic.Lib.Pipeline.ValueKit

@[expose] public section

set_option maxRecDepth 16384

noncomputable section

namespace Cert.Kernel15Ideal.Proj

open Cert.Kernel15Ideal Cert.Kernel15Ideal.Gen Idealize.ShloMosaic Idealize.ShloMosaic.TcCoe Idealize.SL.Sem

variable (m : (ℓ : Loc nD τ sig) → Buf (Elt Ideal) ℓ)

theorem idx (t : Fin cfg0.N) : win0_0.index t = ![0, win0_2.index t 1] ∧ win0_1.index t = ![0, win0_2.index t 0] ∧ win0_2.index t 2 = 0 :=
  (by decide +kernel : ∀ t : Fin grid0.N, win0_0.index t = ![0, win0_2.index t 1] ∧ win0_1.index t = ![0, win0_2.index t 0] ∧ win0_2.index t 2 = 0) t

/-- A block read at a member: of the last piece stored if it is the member's, of the earlier pieces else. -/
theorem member (g : ℕ) (inb : ∀ a, (![g, 0, 0] : Fin 3 → Nat) a + S1x512x256.size a ≤ S4x512x256.size a) (p : Vec Ideal S1x512x256 .bf16) (L : List (View.Piece (Elt Ideal) S4x512x256 .bf16)) (y : S4x512x256.Idx) :
    View.canon (Val := Elt Ideal) (⟨Rect.unit (s := S4x512x256) ![g, 0, 0] S1x512x256.size inb, p⟩ :: L) y = if (y 0).val = g then p (ix3 0 (y 1) (y 2)) else View.canon L y := by
  idx_vars y
  by_cases h : y0.val = g
  · have e : (Rect.unit (s := S4x512x256) ![g, 0, 0] S1x512x256.size inb).emb (ix3 0 y1 y2) = ix3 y0 y1 y2 := by
      funext a; apply Fin.ext; refine (ValueKit.rect_emb_unit_val _ _ _ _ a).trans ?_; fin_cases a <;> simp_all
    refine (congrArg _ e.symm).trans ((View.canon_cons_emb _ _ _ _).trans ?_)
    exact (if_pos h).symm
  · rw [View.canon_cons_of_not_mem]
    · exact (if_neg h).symm
    intro hh; have := (Rect.mem_set_unit (inb := inb).mp hh) 0; simp_all; omega

/-- The reference's result of its arguments. -/
def ref (h : FVec Ideal S2048x1024 .bf16) (dvg : FVec Ideal S2048x2048 .bf16) : FVec Ideal S8x1024x256 .bf16 :=
  transpose Cert.Reference15Ideal.S8x1024x256 [1, 0, 2] (shapeCast Cert.Reference15Ideal.S1024x8x256 (truncf .bf16 (transpose Cert.Reference15Ideal.S1024x2048 [1, 0]
    (Host.dotGeneral Cert.Reference15Ideal.dot_S2048x2048_S2048x1024_S2048x1024_0_0_1_1_n_n none (extf .f32 dvg (by decide)) (extf .f32 h (by decide)))
    Cert.Reference15Ideal.Facts₀.transposes_S2048x1024_S1024x2048_1_0) (by decide)) Cert.Reference15Ideal.Facts₀.shapeCasts_S1024x2048_S1024x8x256) Cert.Reference15Ideal.Facts₀.transposes_S1024x8x256_S8x1024x256_1_0_2

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1, e2⟩ := idx t
  rw [member, member, member, member]
  split_ifs with h3 h2 h1 h0
  · pointwise [k0_pay1, k0_pay5, ref]
    refine Eq.trans ?_ (Cert.Sums.swap _ _)
    blk_point [iblk, V, e0, e1, e2]
  · pointwise [k0_pay1, k0_pay4, ref]
    refine Eq.trans ?_ (Cert.Sums.swap _ _)
    blk_point [iblk, V, e0, e1, e2]
  · pointwise [k0_pay1, k0_pay3, ref]
    refine Eq.trans ?_ (Cert.Sums.swap _ _)
    blk_point [iblk, V, e0, e1, e2]
  · pointwise [k0_pay1, k0_pay2, ref]
    refine Eq.trans ?_ (Cert.Sums.swap _ _)
    blk_point [iblk, V, e0, e1, e2]
  · exact absurd (y 0).isLt (by simp_all; omega)

theorem algebraic : Cert.algebraic_Kernel15Ideal_Reference15Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference15Ideal.defs _ _).mono
      (fun _ h c => ⟨(h c).1.trans (by rw [(e c).1, (e c).2]; rfl), (h c).2⟩) (Cert.Reference15Ideal.Value.run m' g')⟩

end Cert.Kernel15Ideal.Proj

end
-- ==== Proof.Proj.P16.lean ====
/- The gradient that reaches the Conformer layer's input, `dvg @ wᵀ`: 512 columns of the result per grid point, the sum of eight
   products, one per member of the grouped weight. -/
module

public import proofs.«01_k».proof.Proof.Gen.Kernel16Ideal.Value
public import proofs.«01_k».proof.Proof.Gen.Reference16Ideal.Run
public import proofs.«01_k».proof.Defs
public import proofs.«01_k».proof.Proof.Sums
public import Idealize.ShloMosaic.Lib.Pipeline.ValueKit

@[expose] public section

set_option maxRecDepth 16384

noncomputable section

namespace Cert.Kernel16Ideal.Proj

open Cert.Kernel16Ideal Cert.Kernel16Ideal.Gen Idealize.ShloMosaic Idealize.ShloMosaic.TcCoe Idealize.SL.Sem

variable (m : (ℓ : Loc nD τ sig) → Buf (Elt Ideal) ℓ)

theorem idx (t : Fin cfg0.N) : win0_0.index t = ![win0_2.index t 0, 0] ∧ win0_1.index t = ![0, win0_2.index t 1, 0] :=
  (by decide +kernel : ∀ t : Fin grid0.N, win0_0.index t = ![win0_2.index t 0, 0] ∧ win0_1.index t = ![0, win0_2.index t 1, 0]) t

/-- A sum over 2048 as eight sums over 256. -/
theorem eighths (f : Fin 2048 → EReal) : (∑ x : Fin 256, f ⟨x.val, by omega⟩) + (∑ x : Fin 256, f ⟨256 + x.val, by omega⟩)
    + (∑ x : Fin 256, f ⟨512 + x.val, by omega⟩) + (∑ x : Fin 256, f ⟨768 + x.val, by omega⟩)
    + (∑ x : Fin 256, f ⟨1024 + x.val, by omega⟩) + (∑ x : Fin 256, f ⟨1280 + x.val, by omega⟩)
    + (∑ x : Fin 256, f ⟨1536 + x.val, by omega⟩) + (∑ x : Fin 256, f ⟨1792 + x.val, by omega⟩) = ∑ x, f x := by
  have s : ∀ (n : ℕ) (f : Fin (n + 256) → EReal), ∑ x, f x = (∑ x : Fin n, f ⟨x.val, by omega⟩) + ∑ x : Fin 256, f ⟨n + x.val, by omega⟩ :=
    fun n f => Fin.sum_univ_add f
  rw [s 1792, s 1536, s 1280, s 1024, s 768, s 512, s 256]

/-- The reference's result of its arguments. -/
def ref (dvg : FVec Ideal S2048x2048 .bf16) (w : FVec Ideal S1024x2048 .bf16) : FVec Ideal S2048x1024 .f32 :=
  Host.dotGeneral Cert.Reference16Ideal.dot_S2048x2048_S1024x2048_S2048x1024_1_1_0_0_n_n none (extf .f32 dvg (by decide)) (extf .f32 w (by decide))

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1⟩ := idx t
  pointwise [k0_pay1, k0_pay2, ref]
  refine Eq.trans ?_ (eighths _)
  blk_point [iblk, V, e0, e1]

theorem algebraic : Cert.algebraic_Kernel16Ideal_Reference16Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference16Ideal.defs _ _).mono
      (fun _ h c => ⟨(h c).1.trans (by rw [(e c).1, (e c).2]; rfl), (h c).2⟩) (Cert.Reference16Ideal.Value.run m' g')⟩

end Cert.Kernel16Ideal.Proj

end
-- ==== Proof.Opt.P17.lean ====
/- The gradient of the modulation's weight, layer by layer: the product of the conditioning vectors with the gradients of the
   modulation, 256 columns of one layer per grid point. -/
module

public import proofs.«01_k».proof.Proof.Gen.Kernel17Ideal.Value
public import proofs.«01_k».proof.Proof.Gen.Reference17Ideal.Run
public import proofs.«01_k».proof.Defs
public import proofs.«01_k».proof.Proof.Sums
public import Idealize.ShloMosaic.Lib.Pipeline.ValueKit

@[expose] public section

set_option maxRecDepth 16384

noncomputable section

namespace Cert.Kernel17Ideal.Opt

open Cert.Kernel17Ideal Cert.Kernel17Ideal.Gen Idealize.ShloMosaic Idealize.ShloMosaic.TcCoe Idealize.SL.Sem

variable (m : (ℓ : Loc nD τ sig) → Buf (Elt Ideal) ℓ)

theorem idx (t : Fin cfg0.N) : win0_0.index t = ![0, 0] ∧ win0_1.index t = ![win0_2.index t 0, 0, win0_2.index t 2] ∧ win0_2.index t 1 = 0 :=
  (by decide +kernel : ∀ t : Fin grid0.N, win0_0.index t = ![0, 0] ∧ win0_1.index t = ![win0_2.index t 0, 0, win0_2.index t 2] ∧ win0_2.index t 1 = 0) t

/-- The reference's result of its arguments. -/
def ref (cond : FVec Ideal S8x1024 .bf16) (dmod : FVec Ideal S4x8x768 .f32) : FVec Ideal S4x1024x768 .f32 :=
  transpose S4x1024x768 [0, 2, 1] (Host.dotGeneral Cert.Reference17Ideal.dot_S4x768x8_S8x1024_S4x768x1024_2_0_01_1_n_n none
    (transpose Cert.Reference17Ideal.S4x768x8 [0, 2, 1] dmod Cert.Reference17Ideal.Facts₀.transposes_S4x8x768_S4x768x8_0_2_1) (extf .f32 cond (by decide))) Cert.Reference17Ideal.Facts₀.transposes_S4x768x1024_S4x1024x768_0_2_1

theorem final (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]; frame_out
  obtain ⟨e0, e1, e2⟩ := idx t
  pointwise [k0_pay1, ref]
  refine Eq.trans ?_ (Cert.Sums.swap _ _)
  blk_point [iblk, V, e0, e1, e2]

theorem algebraic : Cert.algebraic_Kernel17Ideal_Reference17Ideal := fun m g m' g' _ e =>
  ⟨fun c => ref (m ((c : Thread nD τ).loc main_arg0)) (m ((c : Thread nD τ).loc main_arg1)),
    (θ_run defs _ _).mono (fun _ h c => ⟨(h c).1.trans (final m c), (h c).2⟩) (Value.run_blocks m g),
    (θ_run Cert.Reference17Ideal.defs _ _).mono
      (fun _ h c => ⟨(h c).1.trans (by rw [(e c).1, (e c).2]; rfl), (h c).2⟩) (Cert.Reference17Ideal.Value.run m' g')⟩

end Cert.Kernel17Ideal.Opt

end
-- ==== Proof.Opt.P18.lean ====
/- The optimiser's step on the modulation's weight: the gradient, the change of the weight and the two moments, 256 rows of one
   layer per grid point. -/
module

public import proofs.«01_k».proof.Proof.Gen.Kernel18Ideal.Value
public import proofs.«01_k».proof.Proof.Gen.Reference18Ideal.Run
public import proofs.«01_k».proof.Defs
public import Idealize.ShloMosaic.Lib.Pipeline.ValueKit

@[expose] public section

set_option maxRecDepth 16384

noncomputable section

namespace Cert.Kernel18Ideal.Opt

open Cert.Kernel18Ideal Cert.Kernel18Ideal.Gen Idealize.ShloMosaic Idealize.ShloMosaic.TcCoe Idealize.SL.Sem

variable (m : (ℓ : Loc nD τ sig) → Buf (Elt Ideal) ℓ)

/-- A constant on every entry. -/
def cst (b : BitVec 32) : FVec Ideal S4x1024x768 .f32 :=
  broadcastInDim S4x1024x768 ![] Cert.Reference18Ideal.Facts₀.bcast_S_S4x1024x768 (constant Cert.Reference18Ideal.S_ .f32 b)

/-- The first moment after the step. -/
def newM (g mo : FVec Ideal S4x1024x768 .f32) : FVec Ideal S4x1024x768 .f32 := addf (mulf (cst 0x3F666666#32) mo) (mulf (cst 0x3DCCCCCD#32) g)

/-- The second moment after the step. -/
def newV (g v : FVec Ideal S4x1024x768 .f32) : FVec Ideal S4x1024x768 .f32 := addf (mulf (cst 0x3F7FBE77#32) v) (mulf (cst 0x3A83126F#32) (mulf g g))

/-- The change of the weight. -/
def delta (g w mo v : FVec Ideal S4x1024x768 .f32) : FVec Ideal S4x1024x768 .f32 :=
  mulf (cst 0xBA83126F#32) (addf (Host.divf (Host.divf (newM g mo) (cst 0x3F26BD02#32))
    (addf (Host.sqrt (Host.divf (newV g v) (cst 0x3C231ACC#32))) (cst 0x322BCC77#32))) (mulf (cst 0x3C23D70A#32) w))

theorem idx (t : Fin cfg0.N) : win0_0.index t = ![0, win0_4.index t 0, win0_4.index t 1, 0] ∧ win0_4.index t 2 = 0 :=
  (by decide +kernel : ∀ t : Fin grid0.N, win0_0.index t = ![0, win0_4.index t 0, win0_4.index t 1, 0] ∧ win0_4.index t 2 = 0) t

theorem same (t : Fin cfg0.N) : win0_1.index t = win0_4.index t ∧ win0_2.index t = win0_4.index t ∧ win0_3.index t = win0_4.index t
    ∧ win0_5.index t = win0_4.index t ∧ win0_6.index t = win0_4.index t ∧ win0_7.index t = win0_4.index t := ⟨rfl, rfl, rfl, rfl, rfl, rfl⟩

theorem final4 (c : Dev nD) : (dats m 0 c).arrAt 4 cfg0.N = m ((c : Thread nD τ).loc main_arg0) := by
  refine (dats m 0 c).arrAt_eq_of_covers 4 _ (by decide +kernel) fun t hf y => ?_
  blk_simp
  rw [after0_4]; frame_out
  obtain ⟨e0, e1⟩ := idx t
  pointwise [k0_pay7, k0_pay4]
  blk_point [iblk, V, e0, e1]

theorem final5 (c : Dev nD) : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  obtain ⟨e0, e1⟩ := idx t
  obtain ⟨s1, s2, s3, s5, s6, s7⟩ := same t
  pointwise [k0_pay1, k0_pay8, k0_pay5, k0_pay6, k0_pay4, delta, newM, newV, cst]
  blk_point [iblk, V, e0, e1, s1, s2, s3, s5]

theorem final6 (c : Dev nD) : (dats m 0 c).arrAt 6 cfg0.N = newM (m ((c : Thread nD τ).loc main_arg0)) (m ((c : Thread nD τ).loc main_arg2)) := by
  refine (dats m 0 c).arrAt_eq_of_covers 6 _ (by decide +kernel) fun t hf y => ?_
  blk_simp
  rw [after0_6]; frame_out
  obtain ⟨e0, e1⟩ := idx t
  obtain ⟨s1, s2, s3, s5, s6, s7⟩ := same t
  pointwise [k0_pay2, k0_pay5, k0_pay4, newM, cst]
  blk_point [iblk, V, e0, e1, s1, s2, s3, s6]

theorem final7 (c : Dev nD) : (dats m 0 c).arrAt 7 cfg0.N = newV (m ((c : Thread nD τ).loc main_arg0)) (m ((c : Thread nD τ).loc main_arg3)) := by
  refine (dats m 0 c).arrAt_eq_of_covers 7 _ (by decide +kernel) fun t hf y => ?_
  blk_simp
  rw [after0_7]; frame_out
  obtain ⟨e0, e1⟩ := idx t
  obtain ⟨s1, s2, s3, s5, s6, s7⟩ := same t
  pointwise [k0_pay3, k0_pay6, k0_pay4, newV, cst]
  blk_point [iblk, V, e0, e1, s1, s2, s3, s7]

theorem algebraic : Cert.algebraic_Kernel18Ideal_Reference18Ideal := fun m g m' g' _ e =>
  ⟨fun c => (m ((c : Thread nD τ).loc main_arg0)), fun c => delta (m ((c : Thread nD τ).loc main_arg0)) (m ((c : Thread nD τ).loc main_arg1)) (m ((c : Thread nD τ).loc main_arg2)) (m ((c : Thread nD τ).loc main_arg3)), fun c => newM (m ((c : Thread nD τ).loc main_arg0)) (m ((c : Thread nD τ).loc main_arg2)), fun c => newV (m ((c : Thread nD τ).loc main_arg0)) (m ((c : Thread nD τ).loc main_arg3)),
    (θ_run defs _ _).mono (fun _ h c => ⟨(h c).1.trans (final4 m c), (h c).2.1.trans (final5 m c), (h c).2.2.1.trans (final6 m c),
      (h c).2.2.2.1.trans (final7 m c), (h c).2.2.2.2⟩) (Value.run_blocks m g),
    (θ_run Cert.Reference18Ideal.defs _ _).mono
      (fun _ h c => ⟨(h c).1.trans (e c).1, (h c).2.1.trans (by rw [(e c).1, (e c).2.1, (e c).2.2.1, (e c).2.2.2]; rfl),
        (h c).2.2.1.trans (by rw [(e c).1, (e c).2.2.1]; rfl), (h c).2.2.2.1.trans (by rw [(e c).1, (e c).2.2.2]; rfl), (h c).2.2.2.2⟩)
      (Cert.Reference18Ideal.Value.run m' g')⟩

end Cert.Kernel18Ideal.Opt

end
-- ==== Proof.Opt.Blocks.lean ====
/- Sums over rows, taken a block of rows at a time. -/
module

public import Idealize.ShloMosaic.Lib.Pipeline.ValueKit

@[expose] public section

namespace Cert.Sums

/-- A function on the first `n` naturals, zero after. -/
noncomputable def ext {n : ℕ} (f : Fin n → EReal) (k : ℕ) : EReal := if h : k < n then f ⟨k, h⟩ else 0

theorem ext_at {n : ℕ} (f : Fin n → EReal) (k : ℕ) (h : k < n) : ext f k = f ⟨k, h⟩ := dif_pos h

/-- The sum of the first `j` blocks of `w` entries and of the next block. -/
theorem more (f : ℕ → EReal) (j w : ℕ) :
    ∑ i ∈ Finset.range (j * w), f i + ∑ k : Fin w, f (j * w + k.val) = ∑ i ∈ Finset.range ((j + 1) * w), f i := by
  rw [Nat.succ_mul, Finset.sum_range_add, ← Finset.sum_range (fun k => f (j * w + k))]

/-- All the blocks. -/
theorem all {n : ℕ} (f : Fin n → EReal) : ∑ i ∈ Finset.range n, ext f i = ∑ k : Fin n, f k := by
  rw [Finset.sum_range]
  exact Finset.sum_congr rfl fun k _ => ext_at f k.val k.isLt

/-- A sum that grows by a block of `w` entries at each of `N` steps. -/
theorem grow {N : ℕ} (w : ℕ) (f : ℕ → EReal) (s : ∀ n, n < N → EReal) (h0 : ∀ h, s 0 h = ∑ k : Fin w, f (0 * w + k.val))
    (h1 : ∀ n h, s (n + 1) h = s n (Nat.lt_of_succ_lt h) + ∑ k : Fin w, f ((n + 1) * w + k.val)) :
    ∀ n h, s n h = ∑ i ∈ Finset.range ((n + 1) * w), f i
  | 0, h => (h0 h).trans (by rw [← more, Nat.zero_mul, Finset.sum_range_zero, zero_add])
  | n + 1, h => by rw [h1, grow w f s h0 h1 n, more]

end Cert.Sums

end
-- ==== Proof.Opt.P19.lean ====
/- The modulation's backward pass: the gradient of its input, and the gradients of the scale and of the shift, summed over the rows
   512 at a time. -/
module

public import proofs.«01_k».proof.Proof.Gen.Kernel19Ideal.Value
public import proofs.«01_k».proof.Proof.Gen.Reference19Ideal.Run
public import proofs.«01_k».proof.Defs
public import proofs.«01_k».proof.Proof.Opt.Blocks
public import Idealize.ShloMosaic.Lib.Pipeline.ValueKit

@[expose] public section

set_option maxRecDepth 16384

noncomputable section

namespace Cert.Kernel19Ideal.Opt

open Cert.Kernel19Ideal Cert.Kernel19Ideal.Gen Idealize.ShloMosaic Idealize.ShloMosaic.TcCoe Idealize.SL.Sem

variable (m : (ℓ : Loc nD τ sig) → Buf (Elt Ideal) ℓ)

/-- The gradient of the input. -/
def gx (dx dh : FVec Ideal S2048x1024 .f32) (mod : FVec Ideal S24x1x1024 .f32) : FVec Ideal S2048x1024 .f32 :=
  addf dx (mulf (shapeCast _ dh Cert.Reference19Ideal.Facts₀.shapeCasts_S2048x1024_S2048x1024) (broadcastInDim S2048x1024 ![0, 1] Cert.Reference19Ideal.Facts₀.bcast_S1x1024_S2048x1024_0_1 (addf (broadcastInDim S1x1024 ![] Cert.Reference19Ideal.Facts₀.bcast_S_S1x1024 (constant Cert.Reference19Ideal.S_ .f32 0x3F800000#32)) (shapeCast _ (extractStridedSlice S1x1x1024 ![1, 0, 0] mod Cert.Reference19Ideal.Facts₀.slices_S24x1x1024_S1x1x1024_1_0_0) Cert.Reference19Ideal.Facts₀.shapeCasts_S1x1x1024_S1x1024))))

/-- The sum over the rows. -/
def cols (x : FVec Ideal S2048x1024 .f32) : FVec Ideal S1x1024 .f32 :=
  shapeCast _ (Host.reduceAdd x (constant Cert.Reference19Ideal.S_ .f32 0x00000000#32) Cert.Reference19Ideal.Facts₀.reducesTo_S2048x1024_S1024_d0 Cert.Reference19Ideal.Facts₀.h_S_) Cert.Reference19Ideal.Facts₀.shapeCasts_S1024_S1x1024

/-- The gradient of the scale, row by row. -/
def gs (x dh : FVec Ideal S2048x1024 .f32) : FVec Ideal S2048x1024 .f32 :=
  mulf x (shapeCast _ dh Cert.Reference19Ideal.Facts₀.shapeCasts_S2048x1024_S2048x1024)

theorem idx (t : Fin cfg0.N) : win0_5.index t = ![t.val, 0] ∧ win0_0.index t = ![t.val, 0] ∧ win0_1.index t = ![t.val, 0] ∧ win0_2.index t = ![t.val, 0] ∧ win0_3.index t = ![1, 0, 0] :=
  (by decide +kernel : ∀ t : Fin grid0.N, win0_5.index t = ![t.val, 0] ∧ win0_0.index t = ![t.val, 0] ∧ win0_1.index t = ![t.val, 0] ∧ win0_2.index t = ![t.val, 0] ∧ win0_3.index t = ![1, 0, 0]) t

theorem dh_at (c : Dev nD) (t : Fin cfg0.N) (r : Fin 512) (q : Fin 1024) (h : t.val * 512 + r.val < 2048) :
    iblk m c 2 t (ix2 r q) = m ((c : Thread nD τ).loc main_arg2) (ix2 ⟨t.val * 512 + r.val, h⟩ q) := by
  obtain ⟨e5, e0, e1, e2, e3⟩ := idx t
  blk_point [iblk, V, e2]

theorem x_at (c : Dev nD) (t : Fin cfg0.N) (r : Fin 512) (q : Fin 1024) (h : t.val * 512 + r.val < 2048) :
    iblk m c 0 t (ix2 r q) = m ((c : Thread nD τ).loc main_arg0) (ix2 ⟨t.val * 512 + r.val, h⟩ q) := by
  obtain ⟨e5, e0, e1, e2, e3⟩ := idx t
  blk_point [iblk, V, e0]

theorem final5 (c : Dev nD) : (dats m 0 c).arrAt 5 cfg0.N = gx (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨e5, e0, e1, e2, e3⟩ := idx t
  have hN : t.val < 4 := lt_of_lt_of_eq t.isLt (show cfg0.N = 4 from N_0)
  blk_simp
  rw [after0_5]
  by_cases h0 : t.val % 4 = 0
  · rw [outsAt0_A m c t h0 (by omega)]
    unfold out0_A_5
    rw [View.read_writes_junk_eq_canon]; frame_out
    pointwise [k0_pay4, k0_pay1, gx]
    blk_point [iblk, V, e5, e1, e2, e3]
  · rw [outsAt0_B m c t h0 (by omega)]
    unfold out0_B_5
    rw [View.read_writes_junk_eq_canon]; frame_out
    pointwise [k0_pay4, k0_pay1, gx]
    blk_point [iblk, V, e5, e1, e2, e3]

/-- The entries summed for the shift and for the scale, in column `q`. -/
def dhc (c : Dev nD) (q : Fin 1024) (k : Fin 2048) : EReal := m ((c : Thread nD τ).loc main_arg2) (ix2 k q)
def gsc (c : Dev nD) (q : Fin 1024) (k : Fin 2048) : EReal :=
  (show FVec Ideal S2048x1024 .f32 from m ((c : Thread nD τ).loc main_arg0)) (ix2 k q) * (show FVec Ideal S2048x1024 .f32 from m ((c : Thread nD τ).loc main_arg2)) (ix2 k q)

theorem lt_rows (t : Fin cfg0.N) (k : Fin 512) : t.val * 512 + k.val < 2048 := by
  have hN : t.val < 4 := lt_of_lt_of_eq t.isLt (show cfg0.N = 4 from N_0)
  omega

theorem dhc_at (c : Dev nD) (t : Fin cfg0.N) (q : Fin 1024) (k : Fin 512) :
    iblk m c 2 t (ix2 k q) = Sums.ext (dhc m c q) (t.val * 512 + k.val) :=
  (dh_at m c t k q (lt_rows t k)).trans (Sums.ext_at (dhc m c q) _ (lt_rows t k)).symm

theorem gsc_at (c : Dev nD) (t : Fin cfg0.N) (q : Fin 1024) (k : Fin 512) :
    (show FVec Ideal S512x1024 .f32 from iblk m c 0 t) (ix2 k q) * (show FVec Ideal S512x1024 .f32 from iblk m c 2 t) (ix2 k q) = Sums.ext (gsc m c q) (t.val * 512 + k.val) :=
  (congrArg₂ (fun a b : EReal => a * b) (x_at m c t k q (lt_rows t k)) (dh_at m c t k q (lt_rows t k))).trans (Sums.ext_at (gsc m c q) _ (lt_rows t k)).symm

theorem step7_A (c : Dev nD) (t : Fin cfg0.N) (h0 : t.val % 4 = 0) (h1 : ¬1 ≤ t.val) (y : S1x1024.Idx) :
    (outsAt0 m c t.val t.isLt).2.2 y = ∑ k : Fin 512, Sums.ext (dhc m c (y 1)) (t.val * 512 + k.val) := by
  rw [outsAt0_A m c t h0 h1]
  unfold out0_A_7
  rw [View.read_writes_junk_eq_canon]; frame_out
  pointwise [k0_pay2]
  exact Finset.sum_congr rfl fun k _ => dhc_at m c t _ k

theorem step7_B (c : Dev nD) (t : Fin cfg0.N) (h0 : ¬t.val % 4 = 0) (h1 : 1 ≤ t.val) (y : S1x1024.Idx) :
    (outsAt0 m c t.val t.isLt).2.2 y = (outsAt0 m c (t.val - 1) (Nat.lt_of_le_of_lt (Nat.sub_le _ _) t.isLt)).2.2 y + ∑ k : Fin 512, Sums.ext (dhc m c (y 1)) (t.val * 512 + k.val) := by
  rw [outsAt0_B m c t h0 h1]
  unfold out0_B_7
  rw [View.read_writes_junk_eq_canon]; frame_out
  pointwise [k0_pay6, k0_pay2]
  exact congrArg (_ + ·) (Finset.sum_congr rfl fun k _ => dhc_at m c t _ k)

theorem step6_A (c : Dev nD) (t : Fin cfg0.N) (h0 : t.val % 4 = 0) (h1 : ¬1 ≤ t.val) (y : S1x1024.Idx) :
    (outsAt0 m c t.val t.isLt).2.1 y = ∑ k : Fin 512, Sums.ext (gsc m c (y 1)) (t.val * 512 + k.val) := by
  rw [outsAt0_A m c t h0 h1]
  unfold out0_A_6
  rw [View.read_writes_junk_eq_canon]; frame_out
  pointwise [k0_pay3, k0_pay1]
  exact Finset.sum_congr rfl fun k _ => gsc_at m c t _ k

theorem step6_B (c : Dev nD) (t : Fin cfg0.N) (h0 : ¬t.val % 4 = 0) (h1 : 1 ≤ t.val) (y : S1x1024.Idx) :
    (outsAt0 m c t.val t.isLt).2.1 y = (outsAt0 m c (t.val - 1) (Nat.lt_of_le_of_lt (Nat.sub_le _ _) t.isLt)).2.1 y + ∑ k : Fin 512, Sums.ext (gsc m c (y 1)) (t.val * 512 + k.val) := by
  rw [outsAt0_B m c t h0 h1]
  unfold out0_B_6
  rw [View.read_writes_junk_eq_canon]; frame_out
  pointwise [k0_pay5, k0_pay3, k0_pay1]
  exact congrArg (_ + ·) (Finset.sum_congr rfl fun k _ => gsc_at m c t _ k)

theorem sum6 (c : Dev nD) (y : S1x1024.Idx) : ∀ (n : ℕ) (hn : n < cfg0.N),
    (outsAt0 m c n hn).2.1 y = ∑ i ∈ Finset.range ((n + 1) * 512), Sums.ext (gsc m c (y 1)) i
  | 0, hn => (step6_A m c ⟨0, hn⟩ rfl (Nat.not_succ_le_zero 0) y).trans ((zero_add _).symm.trans (Sums.more (Sums.ext (gsc m c (y 1))) 0 512))
  | n + 1, hn => by
    have hN : n + 1 < 4 := lt_of_lt_of_eq hn (show cfg0.N = 4 from N_0)
    exact (step6_B m c ⟨n + 1, hn⟩ (by dsimp only; omega) (by dsimp only; omega) y).trans
      ((congrArg (· + _) (sum6 c y n (Nat.lt_of_succ_lt hn))).trans (Sums.more (Sums.ext (gsc m c (y 1))) (n + 1) 512))

theorem last6 (t : Fin cfg0.N) (hf : (cfg0.win 6).flush t = true) : t.val = 3 ∧ win0_6.index t = ![0, 0] :=
  (by decide +kernel : ∀ t : Fin grid0.N, (cfg0.win 6).flush t = true → t.val = 3 ∧ win0_6.index t = ![0, 0]) t hf

theorem final6 (c : Dev nD) : (dats m 0 c).arrAt 6 cfg0.N = cols (gs (m ((c : Thread nD τ).loc main_arg0)) (m ((c : Thread nD τ).loc main_arg2))) := by
  refine (dats m 0 c).arrAt_eq_of_covers 6 _ (by decide +kernel) fun t hf y => ?_
  obtain ⟨ht, e⟩ := last6 t hf
  blk_simp
  rw [after0_6, sum6 m c _ t.val t.isLt, ht]
  pointwise [cols, gs]
  refine (Sums.all (gsc m c _)).trans (Finset.sum_congr rfl fun k _ => ?_)
  unfold gsc
  blk_point [e]

theorem sum7 (c : Dev nD) (y : S1x1024.Idx) : ∀ (n : ℕ) (hn : n < cfg0.N),
    (outsAt0 m c n hn).2.2 y = ∑ i ∈ Finset.range ((n + 1) * 512), Sums.ext (dhc m c (y 1)) i
  | 0, hn => (step7_A m c ⟨0, hn⟩ rfl (Nat.not_succ_le_zero 0) y).trans ((zero_add _).symm.trans (Sums.more (Sums.ext (dhc m c (y 1))) 0 512))
  | n + 1, hn => by
    have hN : n + 1 < 4 := lt_of_lt_of_eq hn (show cfg0.N = 4 from N_0)
    exact (step7_B m c ⟨n + 1, hn⟩ (by dsimp only; omega) (by dsimp only; omega) y).trans
      ((congrArg (· + _) (sum7 c y n (Nat.lt_of_succ_lt hn))).trans (Sums.more (Sums.ext (dhc m c (y 1))) (n + 1) 512))

theorem last7 (t : Fin cfg0.N) (hf : (cfg0.win 7).flush t = true) : t.val = 3 ∧ win0_7.index t = ![0, 0] :=
  (by decide +kernel : ∀ t : Fin grid0.N, (cfg0.win 7).flush t = true → t.val = 3 ∧ win0_7.index t = ![0, 0]) t hf

theorem final7 (c : Dev nD) : (dats m 0 c).arrAt 7 cfg0.N = cols (m ((c : Thread nD τ).loc main_arg2)) := by
  refine (dats m 0 c).arrAt_eq_of_covers 7 _ (by decide +kernel) fun t hf y => ?_
  obtain ⟨ht, e⟩ := last7 t hf
  blk_simp
  rw [after0_7, sum7 m c _ t.val t.isLt, ht]
  pointwise [cols, gs]
  refine (Sums.all (dhc m c _)).trans (Finset.sum_congr rfl fun k _ => ?_)
  unfold dhc
  blk_point [e]

theorem algebraic : Cert.algebraic_Kernel19Ideal_Reference19Ideal := fun m g m' g' _ e =>
  ⟨fun c => gx (m ((c : Thread nD τ).loc main_arg1)) (m ((c : Thread nD τ).loc main_arg2)) (m ((c : Thread nD τ).loc main_arg3)),
    fun c => cols (gs (m ((c : Thread nD τ).loc main_arg0)) (m ((c : Thread nD τ).loc main_arg2))), fun c => cols (m ((c : Thread nD τ).loc main_arg2)),
    (θ_run defs _ _).mono (fun _ h c => ⟨(h c).1.trans (final5 m c), (h c).2.1.trans (final6 m c), (h c).2.2.1.trans (final7 m c), (h c).2.2.2⟩)
      (Value.run_blocks m g),
    (θ_run Cert.Reference19Ideal.defs _ _).mono
      (fun _ h c => ⟨(h c).1.trans (by rw [(e c).2.1, (e c).2.2.1, (e c).2.2.2.1]; rfl), (h c).2.1.trans (by rw [(e c).1, (e c).2.2.1]; rfl),
        (h c).2.2.1.trans (by rw [(e c).2.2.1]; rfl), (h c).2.2.2⟩)
      (Cert.Reference19Ideal.Value.run m' g')⟩

end Cert.Kernel19Ideal.Opt

end
-- ==== Proof.Opt.P20.lean ====
/- The loss of one device: half the squared distance from the target, averaged over the columns and summed over the rows 512 at a time. -/
module

public import proofs.«01_k».proof.Proof.Gen.Kernel20Ideal.Value
public import proofs.«01_k».proof.Proof.Gen.Reference20Ideal.Run
public import proofs.«01_k».proof.Defs
public import proofs.«01_k».proof.Proof.Opt.Blocks
public import Idealize.ShloMosaic.Lib.Pipeline.ValueKit

@[expose] public section

set_option maxRecDepth 16384

noncomputable section

namespace Cert.Kernel20Ideal.Opt

open Cert.Kernel20Ideal Cert.Kernel20Ideal.Gen Idealize.ShloMosaic Idealize.ShloMosaic.TcCoe Idealize.SL.Sem

variable (m : (ℓ : Loc nD τ sig) → Buf (Elt Ideal) ℓ)

/-- A row of the last normalisation's input. -/
def mix (x y md : Fin 1024 → EReal) (q : Fin 1024) : EReal := Ideal.ofBits .f32 0x3FD744FD#32 * x q + (1 + md q) * y q

/-- A row less its mean. -/
def centred (a : Fin 1024 → EReal) (q : Fin 1024) : EReal := a q - Ideal.div (∑ k, a k) (Ideal.ofBits .f32 0x44800000#32)

/-- A row of the output less the target. -/
def miss (a g b tg : Fin 1024 → EReal) (q : Fin 1024) : EReal :=
  centred a q * Ideal.rsqrt (Ideal.div (∑ k, centred a k * centred a k) (Ideal.ofBits .f32 0x44800000#32) + Ideal.ofBits .f32 0x3727C5AC#32) * g q + b q - tg q

/-- The squared distance of a row from its target. -/
def dist (x y tg md g b : Fin 1024 → EReal) : EReal := ∑ q, miss (mix x y md) g b tg q * miss (mix x y md) g b tg q

/-- The distance of row `r`. -/
def rows (x y tg : FVec Ideal S2048x1024 .f32) (md : FVec Ideal S24x1x1024 .f32) (g b : FVec Ideal S8x1x1024 .f32) (r : Fin 2048) : EReal :=
  dist (fun q => x (ix2 r q)) (fun q => y (ix2 r q)) (fun q => tg (ix2 r q)) (fun q => md (ix3 23 0 q)) (fun q => g (ix3 7 0 q)) (fun q => b (ix3 7 0 q))

theorem half : Ideal.ofBits .f32 0x3F000000#32 = ((1 / 2 : ℝ) : EReal) := by
  simp [Ideal.ofBits, Ideal.ieee, -EReal.coe_mul]; norm_num

theorem k1024 : Ideal.ofBits .f32 0x44800000#32 = ((1024 : ℝ) : EReal) := by
  simp [Ideal.ofBits, Ideal.ieee, -EReal.coe_mul]; norm_num

theorem k2048 : Ideal.ofBits .f32 0x3A000000#32 = ((1 / 2048 : ℝ) : EReal) := by
  simp [Ideal.ofBits, Ideal.ieee, -EReal.coe_mul]; norm_num

/-- A nonnegative real factor of a sum. -/
theorem scale {n : ℕ} (r : ℝ) (hr : 0 ≤ r) (f : Fin n → EReal) : (r : EReal) * ∑ k, f k = ∑ k, (r : EReal) * f k :=
  map_sum (⟨⟨fun x => (r : EReal) * x, mul_zero _⟩, EReal.left_distrib_of_nonneg_of_ne_top (EReal.coe_nonneg.mpr hr) (EReal.coe_ne_top r)⟩ : EReal →+ EReal) f Finset.univ

/-- Half a sum of means is the sum over 2048. -/
theorem half_means {n : ℕ} (f : Fin n → EReal) :
    Ideal.ofBits .f32 0x3F000000#32 * ∑ k, Ideal.div (f k) (Ideal.ofBits .f32 0x44800000#32) = Ideal.ofBits .f32 0x3A000000#32 * ∑ k, f k := by
  rw [half, k1024, k2048, scale _ (by norm_num), scale _ (by norm_num)]
  refine Finset.sum_congr rfl fun k _ => ?_
  rw [Ideal.div, if_neg (EReal.coe_ne_zero.mpr (by norm_num)), mul_comm (f k), ← mul_assoc, ← EReal.coe_inv, ← EReal.coe_mul]
  norm_num

theorem ref_at (m : (ℓ : Loc Cert.Reference20Ideal.nD Cert.Reference20Ideal.τ Cert.Reference20Ideal.sig) → Buf (Elt Ideal) ℓ) (c : Dev Cert.Reference20Ideal.nD) (y : S1x128.Idx) :
    Cert.Reference20Ideal.Value.res_main_v42 m c y = Ideal.ofBits .f32 0x3F000000#32 * ∑ r, Ideal.div (rows (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) r) (Ideal.ofBits .f32 0x44800000#32) := by
  unfold Cert.Reference20Ideal.Value.res_main_v42
  pointwise
  rfl

theorem idx (t : Fin cfg0.N) : win0_0.index t = ![t.val, 0] ∧ win0_1.index t = ![t.val, 0] ∧ win0_2.index t = ![t.val, 0] ∧ win0_3.index t = ![23, 0, 0] ∧ win0_4.index t = ![7, 0, 0] ∧ win0_5.index t = ![7, 0, 0] :=
  (by decide +kernel : ∀ t : Fin grid0.N, win0_0.index t = ![t.val, 0] ∧ win0_1.index t = ![t.val, 0] ∧ win0_2.index t = ![t.val, 0] ∧ win0_3.index t = ![23, 0, 0] ∧ win0_4.index t = ![7, 0, 0] ∧ win0_5.index t = ![7, 0, 0]) t

theorem lt_rows (t : Fin cfg0.N) (k : Fin 512) : t.val * 512 + k.val < 2048 := by
  have hN : t.val < 4 := lt_of_lt_of_eq t.isLt (show cfg0.N = 4 from N_0)
  omega

/-- The distances of the device's rows. -/
def dists (c : Dev nD) : Fin 2048 → EReal :=
  rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem dist_congr {x x' y y' tg tg' md md' g g' b b' : Fin 1024 → EReal} (hx : ∀ q, x q = x' q) (hy : ∀ q, y q = y' q) (ht : ∀ q, tg q = tg' q)
    (hm : ∀ q, md q = md' q) (hg : ∀ q, g q = g' q) (hb : ∀ q, b q = b' q) : dist x y tg md g b = dist x' y' tg' md' g' b' := by
  obtain rfl := funext hx; obtain rfl := funext hy; obtain rfl := funext ht; obtain rfl := funext hm; obtain rfl := funext hg; obtain rfl := funext hb
  rfl

theorem dist_at (c : Dev nD) (t : Fin cfg0.N) (k : Fin 512) :
    dist (fun q => iblk m c 0 t (ix2 k q)) (fun q => iblk m c 1 t (ix2 k q)) (fun q => iblk m c 2 t (ix2 k q)) (fun q => iblk m c 3 t (ix3 0 0 q)) (fun q => iblk m c 4 t (ix3 0 0 q)) (fun q => iblk m c 5 t (ix3 0 0 q))
      = Sums.ext (dists m c) (t.val * 512 + k.val) := by
  obtain ⟨e0, e1, e2, e3, e4, e5⟩ := idx t
  rw [Sums.ext_at (dists m c) _ (lt_rows t k)]
  refine dist_congr (fun q => ?_) (fun q => ?_) (fun q => ?_) (fun q => ?_) (fun q => ?_) (fun q => ?_)
  · blk_point [iblk, V, e0]
  · blk_point [iblk, V, e1]
  · blk_point [iblk, V, e2]
  · blk_point [iblk, V, e3]
  · blk_point [iblk, V, e4]
  · blk_point [iblk, V, e5]

theorem step_A (c : Dev nD) (t : Fin cfg0.N) (h0 : t.val % 4 = 0) (h1 : ¬1 ≤ t.val) (y : S1x128.Idx) :
    (outsAt0 m c t.val t.isLt).2.2.1 y = Ideal.ofBits .f32 0x3A000000#32 * ∑ k : Fin 512, Sums.ext (dists m c) (t.val * 512 + k.val) := by
  rw [outsAt0_A m c t h0 h1]
  unfold out0_A_8
  rw [View.read_writes_junk_eq_canon]; frame_out
  pointwise [k0_pay3, k0_pay21, k0_pay20, k0_pay18, k0_pay17, k0_pay16, k0_pay14, k0_pay13, k0_pay12, k0_pay11, k0_pay10, k0_pay9]
  exact congrArg (_ * ·) (Finset.sum_congr rfl fun k _ => dist_at m c t k)

theorem step_B (c : Dev nD) (t : Fin cfg0.N) (h0 : ¬t.val % 4 = 0) (h1 : 1 ≤ t.val) (y : S1x128.Idx) :
    (outsAt0 m c t.val t.isLt).2.2.1 y = (outsAt0 m c (t.val - 1) (Nat.lt_of_le_of_lt (Nat.sub_le _ _) t.isLt)).2.2.1 y + Ideal.ofBits .f32 0x3A000000#32 * ∑ k : Fin 512, Sums.ext (dists m c) (t.val * 512 + k.val) := by
  rw [outsAt0_B m c t h0 h1]
  unfold out0_B_8
  rw [View.read_writes_junk_eq_canon]; frame_out
  pointwise [k0_pay5, k0_pay3, k0_pay21, k0_pay20, k0_pay18, k0_pay17, k0_pay16, k0_pay14, k0_pay13, k0_pay12, k0_pay11, k0_pay10, k0_pay9]
  exact congrArg (fun z => _ + _ * z) (Finset.sum_congr rfl fun k _ => dist_at m c t k)

theorem grow (f : ℕ → EReal) (j : ℕ) :
    Ideal.ofBits .f32 0x3A000000#32 * ∑ i ∈ Finset.range (j * 512), f i + Ideal.ofBits .f32 0x3A000000#32 * ∑ k : Fin 512, f (j * 512 + k.val)
      = Ideal.ofBits .f32 0x3A000000#32 * ∑ i ∈ Finset.range ((j + 1) * 512), f i := by
  rw [k2048, ← EReal.left_distrib_of_nonneg_of_ne_top (EReal.coe_nonneg.mpr (by norm_num)) (EReal.coe_ne_top _), Sums.more]

theorem sum8 (c : Dev nD) (y : S1x128.Idx) : ∀ (n : ℕ) (hn : n < cfg0.N),
    (outsAt0 m c n hn).2.2.1 y = Ideal.ofBits .f32 0x3A000000#32 * ∑ i ∈ Finset.range ((n + 1) * 512), Sums.ext (dists m c) i
  | 0, hn => (step_A m c ⟨0, hn⟩ rfl (Nat.not_succ_le_zero 0) y).trans
      (congrArg (_ * ·) ((zero_add _).symm.trans (Sums.more (Sums.ext (dists m c)) 0 512)))
  | n + 1, hn => by
    have hN : n + 1 < 4 := lt_of_lt_of_eq hn (show cfg0.N = 4 from N_0)
    exact (step_B m c ⟨n + 1, hn⟩ (by dsimp only; omega) (by dsimp only; omega) y).trans
      ((congrArg (· + _) (sum8 c y n (Nat.lt_of_succ_lt hn))).trans (grow (Sums.ext (dists m c)) (n + 1)))

theorem last8 (t : Fin cfg0.N) (hf : (cfg0.win 8).flush t = true) : t.val = 3 :=
  (by decide +kernel : ∀ t : Fin grid0.N, (cfg0.win 8).flush t = true → t.val = 3) t hf

/-- The loss array of a device: its loss on every entry. -/
def loss (x y tg : FVec Ideal S2048x1024 .f32) (md : FVec Ideal S24x1x1024 .f32) (g b : FVec Ideal S8x1x1024 .f32) : FVec Ideal S1x128 .f32 :=
  fun _ => Ideal.ofBits .f32 0x3A000000#32 * ∑ r, rows x y tg md g b r

theorem final8 (c : Dev nD) : (dats m 0 c).arrAt 8 cfg0.N = loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  have ht := last8 t hf
  blk_simp
  rw [after0_8, sum8 m c _ t.val t.isLt, ht]
  exact congrArg (_ * ·) (Sums.all (dists m c))

theorem ref_loss (m : (ℓ : Loc Cert.Reference20Ideal.nD Cert.Reference20Ideal.τ Cert.Reference20Ideal.sig) → Buf (Elt Ideal) ℓ) (c : Dev Cert.Reference20Ideal.nD) :
    Cert.Reference20Ideal.Value.res_main_v42 m c = loss (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4)) (m ((c.tc : Thread Cert.Reference20Ideal.nD Cert.Reference20Ideal.τ).loc Cert.Reference20Ideal.main_arg5)) :=
  funext fun y => (ref_at m c y).trans (half_means _)

theorem algebraic : Cert.algebraic_Kernel20Ideal_Reference20Ideal := fun m g m' g' _ e =>
  ⟨fun c => loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    (θ_run defs _ _).mono (fun _ h c => ⟨(h c).2.2.1.trans (final8 m c), (h c).2.2.2.2.2.2⟩) (Value.run_blocks m g),
    (θ_run Cert.Reference20Ideal.defs _ _).mono
      (fun _ h c => by
        obtain ⟨a0, a1, a2, a3, a4, a5⟩ := e c
        exact ⟨(h c).1.trans ((ref_loss m' c).trans (by rw [a0, a1, a2, a3, a4, a5])), (h c).2⟩)
      (Cert.Reference20Ideal.Value.run m' g')⟩

end Cert.Kernel20Ideal.Opt

end
-- ==== Proof.Opt.P21.lean ====
/- The optimiser's step on one layer of the recurrence's output weight: the gradient's eight parts added, the change of the weight and
   the two moments; the other layer keeps what it held. -/
module

public import proofs.«01_k».proof.Proof.Gen.Kernel21Ideal.Frame
public import proofs.«01_k».proof.Proof.Gen.Reference21Ideal.Run
public import proofs.«01_k».proof.Defs
public import proofs.«01_k».proof.Proof.Gen.Pre_dn_w_out_device
public import proofs.«01_k».proof.Proof.Opt.Parts
public import Idealize.ShloMosaic.Lib.Pipeline.ValueKit

@[expose] public section

set_option maxRecDepth 16384

noncomputable section

namespace Cert.Kernel21Ideal.Opt

open Cert.Kernel21Ideal Cert.Kernel21Ideal.Gen Idealize.ShloMosaic Idealize.ShloMosaic.TcCoe Idealize.SL.Sem Cert.Parts

/-- Device `d`'s number as the contents of the one table. -/
def tab (d : Fin 8) : pre0.Contents (Elt Ideal) := fun | ⟨0, _⟩ => fun _ => num d | ⟨_ + 1, h⟩ => absurd h (by simp)

theorem ok : ∀ d : Fin 8, ok0 (F := Ideal) (tab d) := by decide +kernel

variable (m : (ℓ : Loc nD τ sig) → Buf (Elt Ideal) ℓ)

theorem table (hp : Cert.Pre_Kernel21Ideal m) : ∃ d : Fin 8, tbl m = tab d := by
  have e := congrFun (hp 0) (fun a => ⟨0, by revert a; decide⟩)
  simp only [Cert.Pre_dn_w_out_device.fn] at e
  pointwise at e
  obtain ⟨d, hd⟩ := device _ e
  refine ⟨d, ?_⟩
  funext j x
  match j with
  | ⟨0, _⟩ =>
    exact (congrArg _ (only x _)).trans hd

theorem okM (hp : Cert.Pre_Kernel21Ideal m) : Ok m := by
  obtain ⟨d, hd⟩ := table m hp
  rw [Ok, hd]; exact ok d

theorem idx_tab : ∀ (d : Fin 8) (i : grid0.Coords),
    cc0_transform_0 Facts₀.inb_S1_S1_0 Facts₀.numel1_S1 (tab d) i = ![(part d 0).val, (i 0).val, 0] ∧
    cc0_transform_1 Facts₀.inb_S1_S1_0 Facts₀.numel1_S1 (tab d) i = ![(part d 1).val, (i 0).val, 0] ∧
    cc0_transform_2 Facts₀.inb_S1_S1_0 Facts₀.numel1_S1 (tab d) i = ![(part d 2).val, (i 0).val, 0] ∧
    cc0_transform_3 Facts₀.inb_S1_S1_0 Facts₀.numel1_S1 (tab d) i = ![(part d 3).val, (i 0).val, 0] ∧
    cc0_transform_4 Facts₀.inb_S1_S1_0 Facts₀.numel1_S1 (tab d) i = ![(part d 4).val, (i 0).val, 0] ∧
    cc0_transform_5 Facts₀.inb_S1_S1_0 Facts₀.numel1_S1 (tab d) i = ![(part d 5).val, (i 0).val, 0] ∧
    cc0_transform_6 Facts₀.inb_S1_S1_0 Facts₀.numel1_S1 (tab d) i = ![(part d 6).val, (i 0).val, 0] ∧
    cc0_transform_7 Facts₀.inb_S1_S1_0 Facts₀.numel1_S1 (tab d) i = ![(part d 7).val, (i 0).val, 0] := by
  decide +kernel

theorem idx (hO : Ok m) {d : Fin 8} (hd : tbl m = tab d) (t : Fin (cfgM m hO).N) :
    ((cfgM m hO).win 0).index t = ![(part d 0).val, (grid0.coords t 0).val, 0] ∧
    ((cfgM m hO).win 1).index t = ![(part d 1).val, (grid0.coords t 0).val, 0] ∧
    ((cfgM m hO).win 2).index t = ![(part d 2).val, (grid0.coords t 0).val, 0] ∧
    ((cfgM m hO).win 3).index t = ![(part d 3).val, (grid0.coords t 0).val, 0] ∧
    ((cfgM m hO).win 4).index t = ![(part d 4).val, (grid0.coords t 0).val, 0] ∧
    ((cfgM m hO).win 5).index t = ![(part d 5).val, (grid0.coords t 0).val, 0] ∧
    ((cfgM m hO).win 6).index t = ![(part d 6).val, (grid0.coords t 0).val, 0] ∧
    ((cfgM m hO).win 7).index t = ![(part d 7).val, (grid0.coords t 0).val, 0] := by
  refine ⟨?_, ?_, ?_, ?_, ?_, ?_, ?_, ?_⟩
  · exact (congrArg (fun pf => cc0_transform_0 (F := Ideal) Facts₀.inb_S1_S1_0 Facts₀.numel1_S1 pf (grid0.coords t)) hd).trans (idx_tab d (grid0.coords t)).1
  · exact (congrArg (fun pf => cc0_transform_1 (F := Ideal) Facts₀.inb_S1_S1_0 Facts₀.numel1_S1 pf (grid0.coords t)) hd).trans (idx_tab d (grid0.coords t)).2.1
  · exact (congrArg (fun pf => cc0_transform_2 (F := Ideal) Facts₀.inb_S1_S1_0 Facts₀.numel1_S1 pf (grid0.coords t)) hd).trans (idx_tab d (grid0.coords t)).2.2.1
  · exact (congrArg (fun pf => cc0_transform_3 (F := Ideal) Facts₀.inb_S1_S1_0 Facts₀.numel1_S1 pf (grid0.coords t)) hd).trans (idx_tab d (grid0.coords t)).2.2.2.1
  · exact (congrArg (fun pf => cc0_transform_4 (F := Ideal) Facts₀.inb_S1_S1_0 Facts₀.numel1_S1 pf (grid0.coords t)) hd).trans (idx_tab d (grid0.coords t)).2.2.2.2.1
  · exact (congrArg (fun pf => cc0_transform_5 (F := Ideal) Facts₀.inb_S1_S1_0 Facts₀.numel1_S1 pf (grid0.coords t)) hd).trans (idx_tab d (grid0.coords t)).2.2.2.2.2.1
  · exact (congrArg (fun pf => cc0_transform_6 (F := Ideal) Facts₀.inb_S1_S1_0 Facts₀.numel1_S1 pf (grid0.coords t)) hd).trans (idx_tab d (grid0.coords t)).2.2.2.2.2.2.1
  · exact (congrArg (fun pf => cc0_transform_7 (F := Ideal) Facts₀.inb_S1_S1_0 Facts₀.numel1_S1 pf (grid0.coords t)) hd).trans (idx_tab d (grid0.coords t)).2.2.2.2.2.2.2

theorem cov (a : (pcfg0 (F := Ideal)).Adm) : ((cfg0 a).win 11).CoversWhere (fun β => β (0 : Fin 3) = 0) :=
  (by decide +kernel : ((cfg0 ⟨tab 0, ok 0⟩).win 11).CoversWhere (fun β => β (0 : Fin 3) = 0))

/-- The gradient of the layer: the sum of the eight parts. -/
def grad (own land : FVec Ideal S8x128x1024 .bf16) (me : IVec S1 32) : FVec Ideal S128x1024 .f32 :=
  Host.reduceAdd (extf .f32 (select (broadcastInDim S8x128x1024 ![0, 1, 2] Cert.Reference21Ideal.Facts₀.bcast_S8x1x1_S8x128x1024_0_1_2 (cmpi .eq (broadcastInDim Cert.Reference21Ideal.S8x1x1 ![0] Cert.Reference21Ideal.Facts₀.bcast_S8_S8x1x1_0 (iotaInDim Cert.Reference21Ideal.S8 32 0)) (broadcastInDim Cert.Reference21Ideal.S8x1x1 ![] Cert.Reference21Ideal.Facts₀.bcast_S_S8x1x1 (shapeCast _ me Cert.Reference21Ideal.Facts₀.shapeCasts_S1_S_)))) own land) Cert.Reference21Ideal.Facts₀.bitsLt_bf16_f32) (constant Cert.Reference21Ideal.S_ .f32 0x00000000#32) Cert.Reference21Ideal.Facts₀.reducesTo_S8x128x1024_S128x1024_d0 Cert.Reference21Ideal.Facts₀.h_S_

/-- The first layer. -/
def first (x : FVec Ideal S2x128x1024 .f32) : FVec Ideal S128x1024 .f32 :=
  shapeCast _ (extractStridedSlice S1x128x1024 ![0, 0, 0] x Cert.Reference21Ideal.Facts₀.slices_S2x128x1024_S1x128x1024_0_0_0) Cert.Reference21Ideal.Facts₀.shapeCasts_S1x128x1024_S128x1024

/-- The first layer replaced by `x`, the others as they were. -/
def put (x : FVec Ideal S128x1024 .f32) (old : FVec Ideal S2x128x1024 .f32) : FVec Ideal S2x128x1024 .f32 :=
  select (broadcastInDim S2x128x1024 ![0, 1, 2] Cert.Reference21Ideal.Facts₀.bcast_S2x1x1_S2x128x1024_0_1_2 (cmpi .eq (broadcastInDim Cert.Reference21Ideal.S2x1x1 ![0] Cert.Reference21Ideal.Facts₀.bcast_S2_S2x1x1_0 (iotaInDim Cert.Reference21Ideal.S2 32 0)) (broadcastInDim Cert.Reference21Ideal.S2x1x1 ![] Cert.Reference21Ideal.Facts₀.bcast_S_S2x1x1 (constantI Cert.Reference21Ideal.S_ 32 0#32))))
    (broadcastInDim S2x128x1024 ![1, 2] Cert.Reference21Ideal.Facts₀.bcast_S128x1024_S2x128x1024_1_2 x) old

/-- A constant on every entry. -/
def cst (b : BitVec 32) : FVec Ideal S128x1024 .f32 :=
  broadcastInDim S128x1024 ![] Cert.Reference21Ideal.Facts₀.bcast_S_S128x1024 (constant Cert.Reference21Ideal.S_ .f32 b)

/-- The first moment after the step. -/
def newM (g mo : FVec Ideal S128x1024 .f32) : FVec Ideal S128x1024 .f32 := addf (mulf (cst 0x3F666666#32) mo) (mulf (cst 0x3DCCCCCD#32) g)

/-- The second moment after the step. -/
def newV (g v : FVec Ideal S128x1024 .f32) : FVec Ideal S128x1024 .f32 := addf (mulf (cst 0x3F7FBE77#32) v) (mulf (cst 0x3A83126F#32) (mulf g g))

/-- The change of the weight. -/
def delta (g w mo v : FVec Ideal S128x1024 .f32) : FVec Ideal S128x1024 .f32 :=
  mulf (cst 0xBA83126F#32) (addf (Host.divf (Host.divf (newM g mo) (cst 0x3F26BD02#32))
    (addf (Host.sqrt (Host.divf (newV g v) (cst 0x3C231ACC#32))) (cst 0x322BCC77#32))) (mulf (cst 0x3C23D70A#32) w))

theorem cell : ∀ i : grid0.Coords, cc0_transform_15 i = ![0, (i 0).val, 0] := by decide +kernel

theorem me_at (c : Dev nD) {d : Fin 8} (hd : tbl m = tab d) (x : S1.Idx) : m ((c : Thread nD τ).loc main_arg2) x = num d := by
  obtain rfl : c = 0 := Subsingleton.elim _ _
  exact congrFun (congrFun hd 0) x

theorem grad_at (hO : Ok m) {d : Fin 8} (hd : tbl m = tab d) (c : Dev nD) (t : Fin (cfgM m hO).N) (r R : Fin 128) (q Q : Fin 1024)
    (hR : R.val = (grid0.coords t 0).val * 128 + r.val) (hQ : Q.val = q.val) :
    k0_pay4 (View.read (Elt Ideal) (ms0_0 m hO t).view ((hs0_0 m hO t).unread (iblk m hO c 0 t))) (View.read (Elt Ideal) (ms0_1 m hO t).view ((hs0_1 m hO t).unread (iblk m hO c 1 t))) (View.read (Elt Ideal) (ms0_2 m hO t).view ((hs0_2 m hO t).unread (iblk m hO c 2 t))) (View.read (Elt Ideal) (ms0_3 m hO t).view ((hs0_3 m hO t).unread (iblk m hO c 3 t))) (View.read (Elt Ideal) (ms0_4 m hO t).view ((hs0_4 m hO t).unread (iblk m hO c 4 t))) (View.read (Elt Ideal) (ms0_5 m hO t).view ((hs0_5 m hO t).unread (iblk m hO c 5 t))) (View.read (Elt Ideal) (ms0_6 m hO t).view ((hs0_6 m hO t).unread (iblk m hO c 6 t))) (View.read (Elt Ideal) (ms0_7 m hO t).view ((hs0_7 m hO t).unread (iblk m hO c 7 t))) (ix2 r q)
      = grad (m ((c : Thread nD τ).loc main_arg0)) (m ((c : Thread nD τ).loc main_arg1)) (m ((c : Thread nD τ).loc main_arg2)) (ix2 R Q) := by
  obtain ⟨e0, e1, e2, e3, e4, e5, e6, e7⟩ := idx m hO hd t
  have r0 : View.read (Elt Ideal) (ms0_0 m hO t).view ((hs0_0 m hO t).unread (iblk m hO c 0 t)) (ix3 0 r q) = m ((c : Thread nD τ).loc main_arg0) (ix3 (part d 0) R Q) :=
    (congrFun (Memref.IsWhole.read_unread _ _) _).trans (by blk_point [iblk, V, e0, hR, hQ])
  have r1 : View.read (Elt Ideal) (ms0_1 m hO t).view ((hs0_1 m hO t).unread (iblk m hO c 1 t)) (ix3 0 r q) = m ((c : Thread nD τ).loc main_arg1) (ix3 (part d 1) R Q) :=
    (congrFun (Memref.IsWhole.read_unread _ _) _).trans (by blk_point [iblk, V, e1, hR, hQ])
  have r2 : View.read (Elt Ideal) (ms0_2 m hO t).view ((hs0_2 m hO t).unread (iblk m hO c 2 t)) (ix3 0 r q) = m ((c : Thread nD τ).loc main_arg1) (ix3 (part d 2) R Q) :=
    (congrFun (Memref.IsWhole.read_unread _ _) _).trans (by blk_point [iblk, V, e2, hR, hQ])
  have r3 : View.read (Elt Ideal) (ms0_3 m hO t).view ((hs0_3 m hO t).unread (iblk m hO c 3 t)) (ix3 0 r q) = m ((c : Thread nD τ).loc main_arg1) (ix3 (part d 3) R Q) :=
    (congrFun (Memref.IsWhole.read_unread _ _) _).trans (by blk_point [iblk, V, e3, hR, hQ])
  have r4 : View.read (Elt Ideal) (ms0_4 m hO t).view ((hs0_4 m hO t).unread (iblk m hO c 4 t)) (ix3 0 r q) = m ((c : Thread nD τ).loc main_arg1) (ix3 (part d 4) R Q) :=
    (congrFun (Memref.IsWhole.read_unread _ _) _).trans (by blk_point [iblk, V, e4, hR, hQ])
  have r5 : View.read (Elt Ideal) (ms0_5 m hO t).view ((hs0_5 m hO t).unread (iblk m hO c 5 t)) (ix3 0 r q) = m ((c : Thread nD τ).loc main_arg1) (ix3 (part d 5) R Q) :=
    (congrFun (Memref.IsWhole.read_unread _ _) _).trans (by blk_point [iblk, V, e5, hR, hQ])
  have r6 : View.read (Elt Ideal) (ms0_6 m hO t).view ((hs0_6 m hO t).unread (iblk m hO c 6 t)) (ix3 0 r q) = m ((c : Thread nD τ).loc main_arg1) (ix3 (part d 6) R Q) :=
    (congrFun (Memref.IsWhole.read_unread _ _) _).trans (by blk_point [iblk, V, e6, hR, hQ])
  have r7 : View.read (Elt Ideal) (ms0_7 m hO t).view ((hs0_7 m hO t).unread (iblk m hO c 7 t)) (ix3 0 r q) = m ((c : Thread nD τ).loc main_arg1) (ix3 (part d 7) R Q) :=
    (congrFun (Memref.IsWhole.read_unread _ _) _).trans (by blk_point [iblk, V, e7, hR, hQ])
  pointwise [grad, k0_pay4]
  refine Eq.trans (add8 r0 r1 r2 r3 r4 r5 r6 r7) ?_
  refine (sum d (fun j => m ((c : Thread nD τ).loc main_arg0) (ix3 j R Q)) (fun j => m ((c : Thread nD τ).loc main_arg1) (ix3 j R Q))).trans ?_
  refine Finset.sum_congr rfl fun j _ => ?_
  rw [me_at m c hd]
  exact (choose d j _ _).symm

theorem w_at (hO : Ok m) (c : Dev nD) (t : Fin (cfgM m hO).N) (y : S1x128x1024.Idx) (R : Fin 128) (Q : Fin 1024)
    (hR : R.val = (grid0.coords t 0).val * 128 + (y 1).val) (hQ : Q.val = (y 2).val) :
    View.read (Elt Ideal) (ms0_8 m hO t).view ((hs0_8 m hO t).unread (iblk m hO c 8 t)) y = m ((c : Thread nD τ).loc main_arg3) (ix3 0 R Q) := by
  have e : ((cfgM m hO).win 8).index t = ![0, (grid0.coords t 0).val, 0] := cell _
  exact (congrFun (Memref.IsWhole.read_unread _ _) _).trans (by blk_point [iblk, V, e, hR, hQ])

theorem mo_at (hO : Ok m) (c : Dev nD) (t : Fin (cfgM m hO).N) (y : S1x128x1024.Idx) (R : Fin 128) (Q : Fin 1024)
    (hR : R.val = (grid0.coords t 0).val * 128 + (y 1).val) (hQ : Q.val = (y 2).val) :
    View.read (Elt Ideal) (ms0_9 m hO t).view ((hs0_9 m hO t).unread (iblk m hO c 9 t)) y = m ((c : Thread nD τ).loc main_arg4) (ix3 0 R Q) := by
  have e : ((cfgM m hO).win 9).index t = ![0, (grid0.coords t 0).val, 0] := cell _
  exact (congrFun (Memref.IsWhole.read_unread _ _) _).trans (by blk_point [iblk, V, e, hR, hQ])

theorem v_at (hO : Ok m) (c : Dev nD) (t : Fin (cfgM m hO).N) (y : S1x128x1024.Idx) (R : Fin 128) (Q : Fin 1024)
    (hR : R.val = (grid0.coords t 0).val * 128 + (y 1).val) (hQ : Q.val = (y 2).val) :
    View.read (Elt Ideal) (ms0_10 m hO t).view ((hs0_10 m hO t).unread (iblk m hO c 10 t)) y = m ((c : Thread nD τ).loc main_arg5) (ix3 0 R Q) := by
  have e : ((cfgM m hO).win 10).index t = ![0, (grid0.coords t 0).val, 0] := cell _
  exact (congrFun (Memref.IsWhole.read_unread _ _) _).trans (by blk_point [iblk, V, e, hR, hQ])

/-- An array of which the first layer is written holds the new layer and what it held before. -/
theorem put_eq (x : FVec Ideal S128x1024 .f32) (old A : FVec Ideal S2x128x1024 .f32) (h : A = old) :
    (fun i : S2x128x1024.Idx => if (i 0 : ℕ) / 1 = 0 then x (ix2 (i 1) (i 2)) else A i) = put x old := by
  subst h
  funext i
  pointwise [put]
  exact (layer _ _ _ (Nat.lt_of_lt_of_le (i 0).isLt (by decide))).symm

theorem final11 (hO : Ok m) {d : Fin 8} (hd : tbl m = tab d) (c : Dev nD) :
    (dats m hO 0 c).arrAt 11 (cfgM m hO).N = put (grad (m ((c : Thread nD τ).loc main_arg0)) (m ((c : Thread nD τ).loc main_arg1)) (m ((c : Thread nD τ).loc main_arg2))) (m ((c : Thread nD τ).loc main_arg6)) := by
  refine Eq.trans ?_ (put_eq _ _ ((dats m hO 0 c).A 11) (by rw [A_eq]; rfl))
  refine (dats m hO 0 c).arrAt_eq_of_coversWhere 11 (fun i : S2x128x1024.Idx => (_ : FVec Ideal S128x1024 .f32) (ix2 (i 1) (i 2))) (fun β => β (0 : Fin 3) = 0) (cov _) (fun t hf y => ?_) (fun j => Iff.rfl)
  blk_simp
  rw [after0_11]
  have e : ((pcfg0 (F := Ideal)).win (adm m hO) 11).index t = ![0, (grid0.coords t 0).val, 0] := cell _
  have e0 := congrFun e 1
  have e1 := congrFun e 2
  unfold outsAt0 out0_A_11
  rw [View.read_writes_junk_eq_canon]; frame_out
  pointwise [k0_pay7]
  exact grad_at m hO hd c t _ _ _ _ (by blk_simp; exact (tile e0 _ _).trans (by blk_simp)) (by blk_simp; exact (tile e1 _ _).trans (by blk_simp))

theorem final12 (hO : Ok m) {d : Fin 8} (hd : tbl m = tab d) (c : Dev nD) :
    (dats m hO 0 c).arrAt 12 (cfgM m hO).N = put (delta (grad (m ((c : Thread nD τ).loc main_arg0)) (m ((c : Thread nD τ).loc main_arg1)) (m ((c : Thread nD τ).loc main_arg2))) (first (m ((c : Thread nD τ).loc main_arg3))) (first (m ((c : Thread nD τ).loc main_arg4))) (first (m ((c : Thread nD τ).loc main_arg5)))) (m ((c : Thread nD τ).loc main_arg7)) := by
  refine Eq.trans ?_ (put_eq _ _ ((dats m hO 0 c).A 12) (by rw [A_eq]; rfl))
  refine (dats m hO 0 c).arrAt_eq_of_coversWhere 12 (fun i : S2x128x1024.Idx => (_ : FVec Ideal S128x1024 .f32) (ix2 (i 1) (i 2))) (fun β => β (0 : Fin 3) = 0) (cov _) (fun t hf y => ?_) (fun j => Iff.rfl)
  blk_simp
  rw [after0_12]
  have e : ((pcfg0 (F := Ideal)).win (adm m hO) 12).index t = ![0, (grid0.coords t 0).val, 0] := cell _
  have e0 := congrFun e 1
  have e1 := congrFun e 2
  unfold outsAt0 out0_A_12
  rw [View.read_writes_junk_eq_canon]; frame_out
  pointwise [k0_pay8, k0_pay5, k0_pay6, delta, newM, newV, cst, first]
  exact change (grad_at m hO hd c t _ _ _ _ (by blk_simp; exact (tile e0 _ _).trans (by blk_simp)) (by blk_simp; exact (tile e1 _ _).trans (by blk_simp))) (w_at m hO c t y _ _ (by blk_simp; exact (tile e0 _ _).trans (by blk_simp)) (by blk_simp; exact (tile e1 _ _).trans (by blk_simp))) (mo_at m hO c t y _ _ (by blk_simp; exact (tile e0 _ _).trans (by blk_simp)) (by blk_simp; exact (tile e1 _ _).trans (by blk_simp))) (v_at m hO c t y _ _ (by blk_simp; exact (tile e0 _ _).trans (by blk_simp)) (by blk_simp; exact (tile e1 _ _).trans (by blk_simp)))

theorem final13 (hO : Ok m) {d : Fin 8} (hd : tbl m = tab d) (c : Dev nD) :
    (dats m hO 0 c).arrAt 13 (cfgM m hO).N = put (newM (grad (m ((c : Thread nD τ).loc main_arg0)) (m ((c : Thread nD τ).loc main_arg1)) (m ((c : Thread nD τ).loc main_arg2))) (first (m ((c : Thread nD τ).loc main_arg4)))) (m ((c : Thread nD τ).loc main_arg8)) := by
  refine Eq.trans ?_ (put_eq _ _ ((dats m hO 0 c).A 13) (by rw [A_eq]; rfl))
  refine (dats m hO 0 c).arrAt_eq_of_coversWhere 13 (fun i : S2x128x1024.Idx => (_ : FVec Ideal S128x1024 .f32) (ix2 (i 1) (i 2))) (fun β => β (0 : Fin 3) = 0) (cov _) (fun t hf y => ?_) (fun j => Iff.rfl)
  blk_simp
  rw [after0_13]
  have e : ((pcfg0 (F := Ideal)).win (adm m hO) 13).index t = ![0, (grid0.coords t 0).val, 0] := cell _
  have e0 := congrFun e 1
  have e1 := congrFun e 2
  unfold outsAt0 out0_A_13
  rw [View.read_writes_junk_eq_canon]; frame_out
  pointwise [k0_pay1, k0_pay5, newM, cst, first]
  exact moment1 (grad_at m hO hd c t _ _ _ _ (by blk_simp; exact (tile e0 _ _).trans (by blk_simp)) (by blk_simp; exact (tile e1 _ _).trans (by blk_simp))) (mo_at m hO c t y _ _ (by blk_simp; exact (tile e0 _ _).trans (by blk_simp)) (by blk_simp; exact (tile e1 _ _).trans (by blk_simp)))

theorem final14 (hO : Ok m) {d : Fin 8} (hd : tbl m = tab d) (c : Dev nD) :
    (dats m hO 0 c).arrAt 14 (cfgM m hO).N = put (newV (grad (m ((c : Thread nD τ).loc main_arg0)) (m ((c : Thread nD τ).loc main_arg1)) (m ((c : Thread nD τ).loc main_arg2))) (first (m ((c : Thread nD τ).loc main_arg5)))) (m ((c : Thread nD τ).loc main_arg9)) := by
  refine Eq.trans ?_ (put_eq _ _ ((dats m hO 0 c).A 14) (by rw [A_eq]; rfl))
  refine (dats m hO 0 c).arrAt_eq_of_coversWhere 14 (fun i : S2x128x1024.Idx => (_ : FVec Ideal S128x1024 .f32) (ix2 (i 1) (i 2))) (fun β => β (0 : Fin 3) = 0) (cov _) (fun t hf y => ?_) (fun j => Iff.rfl)
  blk_simp
  rw [after0_14]
  have e : ((pcfg0 (F := Ideal)).win (adm m hO) 14).index t = ![0, (grid0.coords t 0).val, 0] := cell _
  have e0 := congrFun e 1
  have e1 := congrFun e 2
  unfold outsAt0 out0_A_14
  rw [View.read_writes_junk_eq_canon]; frame_out
  pointwise [k0_pay2, k0_pay6, newV, cst, first]
  exact moment2 (grad_at m hO hd c t _ _ _ _ (by blk_simp; exact (tile e0 _ _).trans (by blk_simp)) (by blk_simp; exact (tile e1 _ _).trans (by blk_simp))) (v_at m hO c t y _ _ (by blk_simp; exact (tile e0 _ _).trans (by blk_simp)) (by blk_simp; exact (tile e1 _ _).trans (by blk_simp)))

theorem algebraic : Cert.algebraic_Kernel21Ideal_Reference21Ideal := fun m g m' g' hp e => by
  obtain ⟨d, hd⟩ := table m hp
  have hO := okM m hp
  refine ⟨fun c => put (grad (m ((c : Thread nD τ).loc main_arg0)) (m ((c : Thread nD τ).loc main_arg1)) (m ((c : Thread nD τ).loc main_arg2))) (m ((c : Thread nD τ).loc main_arg6)), fun c => put (delta (grad (m ((c : Thread nD τ).loc main_arg0)) (m ((c : Thread nD τ).loc main_arg1)) (m ((c : Thread nD τ).loc main_arg2))) (first (m ((c : Thread nD τ).loc main_arg3))) (first (m ((c : Thread nD τ).loc main_arg4))) (first (m ((c : Thread nD τ).loc main_arg5)))) (m ((c : Thread nD τ).loc main_arg7)),
    fun c => put (newM (grad (m ((c : Thread nD τ).loc main_arg0)) (m ((c : Thread nD τ).loc main_arg1)) (m ((c : Thread nD τ).loc main_arg2))) (first (m ((c : Thread nD τ).loc main_arg4)))) (m ((c : Thread nD τ).loc main_arg8)), fun c => put (newV (grad (m ((c : Thread nD τ).loc main_arg0)) (m ((c : Thread nD τ).loc main_arg1)) (m ((c : Thread nD τ).loc main_arg2))) (first (m ((c : Thread nD τ).loc main_arg5)))) (m ((c : Thread nD τ).loc main_arg9)),
    (θ_run defs _ _).mono (fun r h c => ?_) (θ_run_and (run_main m g hO) (unchanged m g hO)), (θ_run Cert.Reference21Ideal.defs _ _).mono (fun r h c => ?_) (Cert.Reference21Ideal.Value.run m' g')⟩
  · exact ⟨(h.1.out_eq c 11).trans (final11 m hO hd c), (h.1.out_eq c 12).trans (final12 m hO hd c), (h.1.out_eq c 13).trans (final13 m hO hd c),
      (h.1.out_eq c 14).trans (final14 m hO hd c), h.2 c⟩
  · obtain ⟨a0, a1, a2, a3, a4, a5, a6, a7, a8, a9⟩ := e c
    exact ⟨(h c).1.trans (by rw [a0, a1, a2, a6]; rfl), (h c).2.1.trans (by rw [a0, a1, a2, a3, a4, a5, a7]; rfl),
      (h c).2.2.1.trans (by rw [a0, a1, a2, a4, a8]; rfl), (h c).2.2.2.1.trans (by rw [a0, a1, a2, a5, a9]; rfl), (h c).2.2.2.2⟩

end Cert.Kernel21Ideal.Opt

end
-- ==== Proof.Opt.P22.lean ====
/- The optimiser's step on one layer of the recurrence's input weight: the gradient's eight parts added, the change of the weight and
   the two moments; the other layer keeps what it held. -/
module

public import proofs.«01_k».proof.Proof.Gen.Kernel22Ideal.Frame
public import proofs.«01_k».proof.Proof.Gen.Reference22Ideal.Run
public import proofs.«01_k».proof.Defs
public import proofs.«01_k».proof.Proof.Gen.Pre_dn_w_in_device
public import proofs.«01_k».proof.Proof.Opt.Parts
public import Idealize.ShloMosaic.Lib.Pipeline.ValueKit

@[expose] public section

set_option maxRecDepth 16384

noncomputable section

namespace Cert.Kernel22Ideal.Opt

open Cert.Kernel22Ideal Cert.Kernel22Ideal.Gen Idealize.ShloMosaic Idealize.ShloMosaic.TcCoe Idealize.SL.Sem Cert.Parts

/-- Device `d`'s number as the contents of the one table. -/
def tab (d : Fin 8) : pre0.Contents (Elt Ideal) := fun | ⟨0, _⟩ => fun _ => num d | ⟨_ + 1, h⟩ => absurd h (by simp)

theorem ok : ∀ d : Fin 8, ok0 (F := Ideal) (tab d) := by decide +kernel

variable (m : (ℓ : Loc nD τ sig) → Buf (Elt Ideal) ℓ)

theorem table (hp : Cert.Pre_Kernel22Ideal m) : ∃ d : Fin 8, tbl m = tab d := by
  have e := congrFun (hp 0) (fun a => ⟨0, by revert a; decide⟩)
  simp only [Cert.Pre_dn_w_in_device.fn] at e
  pointwise at e
  obtain ⟨d, hd⟩ := device _ e
  refine ⟨d, ?_⟩
  funext j x
  match j with
  | ⟨0, _⟩ =>
    exact (congrArg _ (only x _)).trans hd

theorem okM (hp : Cert.Pre_Kernel22Ideal m) : Ok m := by
  obtain ⟨d, hd⟩ := table m hp
  rw [Ok, hd]; exact ok d

theorem idx_tab : ∀ (d : Fin 8) (i : grid0.Coords),
    cc0_transform_0 Facts₀.inb_S1_S1_0 Facts₀.numel1_S1 (tab d) i = ![(part d 0).val, (i 0).val, 0] ∧
    cc0_transform_1 Facts₀.inb_S1_S1_0 Facts₀.numel1_S1 (tab d) i = ![(part d 1).val, (i 0).val, 0] ∧
    cc0_transform_2 Facts₀.inb_S1_S1_0 Facts₀.numel1_S1 (tab d) i = ![(part d 2).val, (i 0).val, 0] ∧
    cc0_transform_3 Facts₀.inb_S1_S1_0 Facts₀.numel1_S1 (tab d) i = ![(part d 3).val, (i 0).val, 0] ∧
    cc0_transform_4 Facts₀.inb_S1_S1_0 Facts₀.numel1_S1 (tab d) i = ![(part d 4).val, (i 0).val, 0] ∧
    cc0_transform_5 Facts₀.inb_S1_S1_0 Facts₀.numel1_S1 (tab d) i = ![(part d 5).val, (i 0).val, 0] ∧
    cc0_transform_6 Facts₀.inb_S1_S1_0 Facts₀.numel1_S1 (tab d) i = ![(part d 6).val, (i 0).val, 0] ∧
    cc0_transform_7 Facts₀.inb_S1_S1_0 Facts₀.numel1_S1 (tab d) i = ![(part d 7).val, (i 0).val, 0] := by
  decide +kernel

theorem idx (hO : Ok m) {d : Fin 8} (hd : tbl m = tab d) (t : Fin (cfgM m hO).N) :
    ((cfgM m hO).win 0).index t = ![(part d 0).val, (grid0.coords t 0).val, 0] ∧
    ((cfgM m hO).win 1).index t = ![(part d 1).val, (grid0.coords t 0).val, 0] ∧
    ((cfgM m hO).win 2).index t = ![(part d 2).val, (grid0.coords t 0).val, 0] ∧
    ((cfgM m hO).win 3).index t = ![(part d 3).val, (grid0.coords t 0).val, 0] ∧
    ((cfgM m hO).win 4).index t = ![(part d 4).val, (grid0.coords t 0).val, 0] ∧
    ((cfgM m hO).win 5).index t = ![(part d 5).val, (grid0.coords t 0).val, 0] ∧
    ((cfgM m hO).win 6).index t = ![(part d 6).val, (grid0.coords t 0).val, 0] ∧
    ((cfgM m hO).win 7).index t = ![(part d 7).val, (grid0.coords t 0).val, 0] := by
  refine ⟨?_, ?_, ?_, ?_, ?_, ?_, ?_, ?_⟩
  · exact (congrArg (fun pf => cc0_transform_0 (F := Ideal) Facts₀.inb_S1_S1_0 Facts₀.numel1_S1 pf (grid0.coords t)) hd).trans (idx_tab d (grid0.coords t)).1
  · exact (congrArg (fun pf => cc0_transform_1 (F := Ideal) Facts₀.inb_S1_S1_0 Facts₀.numel1_S1 pf (grid0.coords t)) hd).trans (idx_tab d (grid0.coords t)).2.1
  · exact (congrArg (fun pf => cc0_transform_2 (F := Ideal) Facts₀.inb_S1_S1_0 Facts₀.numel1_S1 pf (grid0.coords t)) hd).trans (idx_tab d (grid0.coords t)).2.2.1
  · exact (congrArg (fun pf => cc0_transform_3 (F := Ideal) Facts₀.inb_S1_S1_0 Facts₀.numel1_S1 pf (grid0.coords t)) hd).trans (idx_tab d (grid0.coords t)).2.2.2.1
  · exact (congrArg (fun pf => cc0_transform_4 (F := Ideal) Facts₀.inb_S1_S1_0 Facts₀.numel1_S1 pf (grid0.coords t)) hd).trans (idx_tab d (grid0.coords t)).2.2.2.2.1
  · exact (congrArg (fun pf => cc0_transform_5 (F := Ideal) Facts₀.inb_S1_S1_0 Facts₀.numel1_S1 pf (grid0.coords t)) hd).trans (idx_tab d (grid0.coords t)).2.2.2.2.2.1
  · exact (congrArg (fun pf => cc0_transform_6 (F := Ideal) Facts₀.inb_S1_S1_0 Facts₀.numel1_S1 pf (grid0.coords t)) hd).trans (idx_tab d (grid0.coords t)).2.2.2.2.2.2.1
  · exact (congrArg (fun pf => cc0_transform_7 (F := Ideal) Facts₀.inb_S1_S1_0 Facts₀.numel1_S1 pf (grid0.coords t)) hd).trans (idx_tab d (grid0.coords t)).2.2.2.2.2.2.2

theorem cov (a : (pcfg0 (F := Ideal)).Adm) : ((cfg0 a).win 11).CoversWhere (fun β => β (0 : Fin 3) = 0) :=
  (by decide +kernel : ((cfg0 ⟨tab 0, ok 0⟩).win 11).CoversWhere (fun β => β (0 : Fin 3) = 0))

/-- The gradient of the layer: the sum of the eight parts. -/
def grad (own land : FVec Ideal S8x1024x514 .bf16) (me : IVec S1 32) : FVec Ideal Cert.Reference22Ideal.S1024x514 .f32 :=
  Host.reduceAdd (extf .f32 (select (broadcastInDim S8x1024x514 ![0, 1, 2] Cert.Reference22Ideal.Facts₀.bcast_S8x1x1_S8x1024x514_0_1_2 (cmpi .eq (broadcastInDim Cert.Reference22Ideal.S8x1x1 ![0] Cert.Reference22Ideal.Facts₀.bcast_S8_S8x1x1_0 (iotaInDim Cert.Reference22Ideal.S8 32 0)) (broadcastInDim Cert.Reference22Ideal.S8x1x1 ![] Cert.Reference22Ideal.Facts₀.bcast_S_S8x1x1 (shapeCast _ me Cert.Reference22Ideal.Facts₀.shapeCasts_S1_S_)))) own land) Cert.Reference22Ideal.Facts₀.bitsLt_bf16_f32) (constant Cert.Reference22Ideal.S_ .f32 0x00000000#32) Cert.Reference22Ideal.Facts₀.reducesTo_S8x1024x514_S1024x514_d0 Cert.Reference22Ideal.Facts₀.h_S_

/-- The first layer. -/
def first (x : FVec Ideal S2x1024x514 .f32) : FVec Ideal Cert.Reference22Ideal.S1024x514 .f32 :=
  shapeCast _ (extractStridedSlice Cert.Reference22Ideal.S1x1024x514 ![0, 0, 0] x Cert.Reference22Ideal.Facts₀.slices_S2x1024x514_S1x1024x514_0_0_0) Cert.Reference22Ideal.Facts₀.shapeCasts_S1x1024x514_S1024x514

/-- The first layer replaced by `x`, the others as they were. -/
def put (x : FVec Ideal Cert.Reference22Ideal.S1024x514 .f32) (old : FVec Ideal S2x1024x514 .f32) : FVec Ideal S2x1024x514 .f32 :=
  select (broadcastInDim S2x1024x514 ![0, 1, 2] Cert.Reference22Ideal.Facts₀.bcast_S2x1x1_S2x1024x514_0_1_2 (cmpi .eq (broadcastInDim Cert.Reference22Ideal.S2x1x1 ![0] Cert.Reference22Ideal.Facts₀.bcast_S2_S2x1x1_0 (iotaInDim Cert.Reference22Ideal.S2 32 0)) (broadcastInDim Cert.Reference22Ideal.S2x1x1 ![] Cert.Reference22Ideal.Facts₀.bcast_S_S2x1x1 (constantI Cert.Reference22Ideal.S_ 32 0#32))))
    (broadcastInDim S2x1024x514 ![1, 2] Cert.Reference22Ideal.Facts₀.bcast_S1024x514_S2x1024x514_1_2 x) old

/-- A constant on every entry. -/
def cst (b : BitVec 32) : FVec Ideal Cert.Reference22Ideal.S1024x514 .f32 :=
  broadcastInDim Cert.Reference22Ideal.S1024x514 ![] Cert.Reference22Ideal.Facts₀.bcast_S_S1024x514 (constant Cert.Reference22Ideal.S_ .f32 b)

/-- The first moment after the step. -/
def newM (g mo : FVec Ideal Cert.Reference22Ideal.S1024x514 .f32) : FVec Ideal Cert.Reference22Ideal.S1024x514 .f32 := addf (mulf (cst 0x3F666666#32) mo) (mulf (cst 0x3DCCCCCD#32) g)

/-- The second moment after the step. -/
def newV (g v : FVec Ideal Cert.Reference22Ideal.S1024x514 .f32) : FVec Ideal Cert.Reference22Ideal.S1024x514 .f32 := addf (mulf (cst 0x3F7FBE77#32) v) (mulf (cst 0x3A83126F#32) (mulf g g))

/-- The change of the weight. -/
def delta (g w mo v : FVec Ideal Cert.Reference22Ideal.S1024x514 .f32) : FVec Ideal Cert.Reference22Ideal.S1024x514 .f32 :=
  mulf (cst 0xBA83126F#32) (addf (Host.divf (Host.divf (newM g mo) (cst 0x3F26BD02#32))
    (addf (Host.sqrt (Host.divf (newV g v) (cst 0x3C231ACC#32))) (cst 0x322BCC77#32))) (mulf (cst 0x3C23D70A#32) w))

theorem cell : ∀ i : grid0.Coords, cc0_transform_15 i = ![0, (i 0).val, 0] := by decide +kernel

theorem me_at (c : Dev nD) {d : Fin 8} (hd : tbl m = tab d) (x : S1.Idx) : m ((c : Thread nD τ).loc main_arg2) x = num d := by
  obtain rfl : c = 0 := Subsingleton.elim _ _
  exact congrFun (congrFun hd 0) x

theorem grad_at (hO : Ok m) {d : Fin 8} (hd : tbl m = tab d) (c : Dev nD) (t : Fin (cfgM m hO).N) (r : Fin 256) (R : Fin 1024) (q Q : Fin 514)
    (hR : R.val = (grid0.coords t 0).val * 256 + r.val) (hQ : Q.val = q.val) :
    k0_pay4 (View.read (Elt Ideal) (ms0_0 m hO t).view ((hs0_0 m hO t).unread (iblk m hO c 0 t))) (View.read (Elt Ideal) (ms0_1 m hO t).view ((hs0_1 m hO t).unread (iblk m hO c 1 t))) (View.read (Elt Ideal) (ms0_2 m hO t).view ((hs0_2 m hO t).unread (iblk m hO c 2 t))) (View.read (Elt Ideal) (ms0_3 m hO t).view ((hs0_3 m hO t).unread (iblk m hO c 3 t))) (View.read (Elt Ideal) (ms0_4 m hO t).view ((hs0_4 m hO t).unread (iblk m hO c 4 t))) (View.read (Elt Ideal) (ms0_5 m hO t).view ((hs0_5 m hO t).unread (iblk m hO c 5 t))) (View.read (Elt Ideal) (ms0_6 m hO t).view ((hs0_6 m hO t).unread (iblk m hO c 6 t))) (View.read (Elt Ideal) (ms0_7 m hO t).view ((hs0_7 m hO t).unread (iblk m hO c 7 t))) (ix2 r q)
      = grad (m ((c : Thread nD τ).loc main_arg0)) (m ((c : Thread nD τ).loc main_arg1)) (m ((c : Thread nD τ).loc main_arg2)) (ix2 R Q) := by
  obtain ⟨e0, e1, e2, e3, e4, e5, e6, e7⟩ := idx m hO hd t
  have r0 : View.read (Elt Ideal) (ms0_0 m hO t).view ((hs0_0 m hO t).unread (iblk m hO c 0 t)) (ix3 0 r q) = m ((c : Thread nD τ).loc main_arg0) (ix3 (part d 0) R Q) :=
    (congrFun (Memref.IsWhole.read_unread _ _) _).trans (by blk_point [iblk, V, e0, hR, hQ])
  have r1 : View.read (Elt Ideal) (ms0_1 m hO t).view ((hs0_1 m hO t).unread (iblk m hO c 1 t)) (ix3 0 r q) = m ((c : Thread nD τ).loc main_arg1) (ix3 (part d 1) R Q) :=
    (congrFun (Memref.IsWhole.read_unread _ _) _).trans (by blk_point [iblk, V, e1, hR, hQ])
  have r2 : View.read (Elt Ideal) (ms0_2 m hO t).view ((hs0_2 m hO t).unread (iblk m hO c 2 t)) (ix3 0 r q) = m ((c : Thread nD τ).loc main_arg1) (ix3 (part d 2) R Q) :=
    (congrFun (Memref.IsWhole.read_unread _ _) _).trans (by blk_point [iblk, V, e2, hR, hQ])
  have r3 : View.read (Elt Ideal) (ms0_3 m hO t).view ((hs0_3 m hO t).unread (iblk m hO c 3 t)) (ix3 0 r q) = m ((c : Thread nD τ).loc main_arg1) (ix3 (part d 3) R Q) :=
    (congrFun (Memref.IsWhole.read_unread _ _) _).trans (by blk_point [iblk, V, e3, hR, hQ])
  have r4 : View.read (Elt Ideal) (ms0_4 m hO t).view ((hs0_4 m hO t).unread (iblk m hO c 4 t)) (ix3 0 r q) = m ((c : Thread nD τ).loc main_arg1) (ix3 (part d 4) R Q) :=
    (congrFun (Memref.IsWhole.read_unread _ _) _).trans (by blk_point [iblk, V, e4, hR, hQ])
  have r5 : View.read (Elt Ideal) (ms0_5 m hO t).view ((hs0_5 m hO t).unread (iblk m hO c 5 t)) (ix3 0 r q) = m ((c : Thread nD τ).loc main_arg1) (ix3 (part d 5) R Q) :=
    (congrFun (Memref.IsWhole.read_unread _ _) _).trans (by blk_point [iblk, V, e5, hR, hQ])
  have r6 : View.read (Elt Ideal) (ms0_6 m hO t).view ((hs0_6 m hO t).unread (iblk m hO c 6 t)) (ix3 0 r q) = m ((c : Thread nD τ).loc main_arg1) (ix3 (part d 6) R Q) :=
    (congrFun (Memref.IsWhole.read_unread _ _) _).trans (by blk_point [iblk, V, e6, hR, hQ])
  have r7 : View.read (Elt Ideal) (ms0_7 m hO t).view ((hs0_7 m hO t).unread (iblk m hO c 7 t)) (ix3 0 r q) = m ((c : Thread nD τ).loc main_arg1) (ix3 (part d 7) R Q) :=
    (congrFun (Memref.IsWhole.read_unread _ _) _).trans (by blk_point [iblk, V, e7, hR, hQ])
  pointwise [grad, k0_pay4]
  refine Eq.trans (add8 r0 r1 r2 r3 r4 r5 r6 r7) ?_
  refine (sum d (fun j => m ((c : Thread nD τ).loc main_arg0) (ix3 j R Q)) (fun j => m ((c : Thread nD τ).loc main_arg1) (ix3 j R Q))).trans ?_
  refine Finset.sum_congr rfl fun j _ => ?_
  rw [me_at m c hd]
  exact (choose d j _ _).symm

theorem w_at (hO : Ok m) (c : Dev nD) (t : Fin (cfgM m hO).N) (y : S1x256x514.Idx) (R : Fin 1024) (Q : Fin 514)
    (hR : R.val = (grid0.coords t 0).val * 256 + (y 1).val) (hQ : Q.val = (y 2).val) :
    View.read (Elt Ideal) (ms0_8 m hO t).view ((hs0_8 m hO t).unread (iblk m hO c 8 t)) y = m ((c : Thread nD τ).loc main_arg3) (ix3 0 R Q) := by
  have e : ((cfgM m hO).win 8).index t = ![0, (grid0.coords t 0).val, 0] := cell _
  exact (congrFun (Memref.IsWhole.read_unread _ _) _).trans (by blk_point [iblk, V, e, hR, hQ])

theorem mo_at (hO : Ok m) (c : Dev nD) (t : Fin (cfgM m hO).N) (y : S1x256x514.Idx) (R : Fin 1024) (Q : Fin 514)
    (hR : R.val = (grid0.coords t 0).val * 256 + (y 1).val) (hQ : Q.val = (y 2).val) :
    View.read (Elt Ideal) (ms0_9 m hO t).view ((hs0_9 m hO t).unread (iblk m hO c 9 t)) y = m ((c : Thread nD τ).loc main_arg4) (ix3 0 R Q) := by
  have e : ((cfgM m hO).win 9).index t = ![0, (grid0.coords t 0).val, 0] := cell _
  exact (congrFun (Memref.IsWhole.read_unread _ _) _).trans (by blk_point [iblk, V, e, hR, hQ])

theorem v_at (hO : Ok m) (c : Dev nD) (t : Fin (cfgM m hO).N) (y : S1x256x514.Idx) (R : Fin 1024) (Q : Fin 514)
    (hR : R.val = (grid0.coords t 0).val * 256 + (y 1).val) (hQ : Q.val = (y 2).val) :
    View.read (Elt Ideal) (ms0_10 m hO t).view ((hs0_10 m hO t).unread (iblk m hO c 10 t)) y = m ((c : Thread nD τ).loc main_arg5) (ix3 0 R Q) := by
  have e : ((cfgM m hO).win 10).index t = ![0, (grid0.coords t 0).val, 0] := cell _
  exact (congrFun (Memref.IsWhole.read_unread _ _) _).trans (by blk_point [iblk, V, e, hR, hQ])

/-- An array of which the first layer is written holds the new layer and what it held before. -/
theorem put_eq (x : FVec Ideal Cert.Reference22Ideal.S1024x514 .f32) (old A : FVec Ideal S2x1024x514 .f32) (h : A = old) :
    (fun i : S2x1024x514.Idx => if (i 0 : ℕ) / 1 = 0 then x (ix2 (i 1) (i 2)) else A i) = put x old := by
  subst h
  funext i
  pointwise [put]
  exact (layer _ _ _ (Nat.lt_of_lt_of_le (i 0).isLt (by decide))).symm

theorem final11 (hO : Ok m) {d : Fin 8} (hd : tbl m = tab d) (c : Dev nD) :
    (dats m hO 0 c).arrAt 11 (cfgM m hO).N = put (grad (m ((c : Thread nD τ).loc main_arg0)) (m ((c : Thread nD τ).loc main_arg1)) (m ((c : Thread nD τ).loc main_arg2))) (m ((c : Thread nD τ).loc main_arg6)) := by
  refine Eq.trans ?_ (put_eq _ _ ((dats m hO 0 c).A 11) (by rw [A_eq]; rfl))
  refine (dats m hO 0 c).arrAt_eq_of_coversWhere 11 (fun i : S2x1024x514.Idx => (_ : FVec Ideal Cert.Reference22Ideal.S1024x514 .f32) (ix2 (i 1) (i 2))) (fun β => β (0 : Fin 3) = 0) (cov _) (fun t hf y => ?_) (fun j => Iff.rfl)
  blk_simp
  rw [after0_11]
  have e : ((pcfg0 (F := Ideal)).win (adm m hO) 11).index t = ![0, (grid0.coords t 0).val, 0] := cell _
  have e0 := congrFun e 1
  have e1 := congrFun e 2
  unfold outsAt0 out0_A_11
  rw [View.read_writes_junk_eq_canon]; frame_out
  pointwise [k0_pay7]
  exact grad_at m hO hd c t _ _ _ _ (by blk_simp; exact (tile e0 _ _).trans (by blk_simp)) (by blk_simp; exact (tile e1 _ _).trans (by blk_simp))

theorem final12 (hO : Ok m) {d : Fin 8} (hd : tbl m = tab d) (c : Dev nD) :
    (dats m hO 0 c).arrAt 12 (cfgM m hO).N = put (delta (grad (m ((c : Thread nD τ).loc main_arg0)) (m ((c : Thread nD τ).loc main_arg1)) (m ((c : Thread nD τ).loc main_arg2))) (first (m ((c : Thread nD τ).loc main_arg3))) (first (m ((c : Thread nD τ).loc main_arg4))) (first (m ((c : Thread nD τ).loc main_arg5)))) (m ((c : Thread nD τ).loc main_arg7)) := by
  refine Eq.trans ?_ (put_eq _ _ ((dats m hO 0 c).A 12) (by rw [A_eq]; rfl))
  refine (dats m hO 0 c).arrAt_eq_of_coversWhere 12 (fun i : S2x1024x514.Idx => (_ : FVec Ideal Cert.Reference22Ideal.S1024x514 .f32) (ix2 (i 1) (i 2))) (fun β => β (0 : Fin 3) = 0) (cov _) (fun t hf y => ?_) (fun j => Iff.rfl)
  blk_simp
  rw [after0_12]
  have e : ((pcfg0 (F := Ideal)).win (adm m hO) 12).index t = ![0, (grid0.coords t 0).val, 0] := cell _
  have e0 := congrFun e 1
  have e1 := congrFun e 2
  unfold outsAt0 out0_A_12
  rw [View.read_writes_junk_eq_canon]; frame_out
  pointwise [k0_pay8, k0_pay5, k0_pay6, delta, newM, newV, cst, first]
  exact change (grad_at m hO hd c t _ _ _ _ (by blk_simp; exact (tile e0 _ _).trans (by blk_simp)) (by blk_simp; exact (tile e1 _ _).trans (by blk_simp))) (w_at m hO c t y _ _ (by blk_simp; exact (tile e0 _ _).trans (by blk_simp)) (by blk_simp; exact (tile e1 _ _).trans (by blk_simp))) (mo_at m hO c t y _ _ (by blk_simp; exact (tile e0 _ _).trans (by blk_simp)) (by blk_simp; exact (tile e1 _ _).trans (by blk_simp))) (v_at m hO c t y _ _ (by blk_simp; exact (tile e0 _ _).trans (by blk_simp)) (by blk_simp; exact (tile e1 _ _).trans (by blk_simp)))

theorem final13 (hO : Ok m) {d : Fin 8} (hd : tbl m = tab d) (c : Dev nD) :
    (dats m hO 0 c).arrAt 13 (cfgM m hO).N = put (newM (grad (m ((c : Thread nD τ).loc main_arg0)) (m ((c : Thread nD τ).loc main_arg1)) (m ((c : Thread nD τ).loc main_arg2))) (first (m ((c : Thread nD τ).loc main_arg4)))) (m ((c : Thread nD τ).loc main_arg8)) := by
  refine Eq.trans ?_ (put_eq _ _ ((dats m hO 0 c).A 13) (by rw [A_eq]; rfl))
  refine (dats m hO 0 c).arrAt_eq_of_coversWhere 13 (fun i : S2x1024x514.Idx => (_ : FVec Ideal Cert.Reference22Ideal.S1024x514 .f32) (ix2 (i 1) (i 2))) (fun β => β (0 : Fin 3) = 0) (cov _) (fun t hf y => ?_) (fun j => Iff.rfl)
  blk_simp
  rw [after0_13]
  have e : ((pcfg0 (F := Ideal)).win (adm m hO) 13).index t = ![0, (grid0.coords t 0).val, 0] := cell _
  have e0 := congrFun e 1
  have e1 := congrFun e 2
  unfold outsAt0 out0_A_13
  rw [View.read_writes_junk_eq_canon]; frame_out
  pointwise [k0_pay1, k0_pay5, newM, cst, first]
  exact moment1 (grad_at m hO hd c t _ _ _ _ (by blk_simp; exact (tile e0 _ _).trans (by blk_simp)) (by blk_simp; exact (tile e1 _ _).trans (by blk_simp))) (mo_at m hO c t y _ _ (by blk_simp; exact (tile e0 _ _).trans (by blk_simp)) (by blk_simp; exact (tile e1 _ _).trans (by blk_simp)))

theorem final14 (hO : Ok m) {d : Fin 8} (hd : tbl m = tab d) (c : Dev nD) :
    (dats m hO 0 c).arrAt 14 (cfgM m hO).N = put (newV (grad (m ((c : Thread nD τ).loc main_arg0)) (m ((c : Thread nD τ).loc main_arg1)) (m ((c : Thread nD τ).loc main_arg2))) (first (m ((c : Thread nD τ).loc main_arg5)))) (m ((c : Thread nD τ).loc main_arg9)) := by
  refine Eq.trans ?_ (put_eq _ _ ((dats m hO 0 c).A 14) (by rw [A_eq]; rfl))
  refine (dats m hO 0 c).arrAt_eq_of_coversWhere 14 (fun i : S2x1024x514.Idx => (_ : FVec Ideal Cert.Reference22Ideal.S1024x514 .f32) (ix2 (i 1) (i 2))) (fun β => β (0 : Fin 3) = 0) (cov _) (fun t hf y => ?_) (fun j => Iff.rfl)
  blk_simp
  rw [after0_14]
  have e : ((pcfg0 (F := Ideal)).win (adm m hO) 14).index t = ![0, (grid0.coords t 0).val, 0] := cell _
  have e0 := congrFun e 1
  have e1 := congrFun e 2
  unfold outsAt0 out0_A_14
  rw [View.read_writes_junk_eq_canon]; frame_out
  pointwise [k0_pay2, k0_pay6, newV, cst, first]
  exact moment2 (grad_at m hO hd c t _ _ _ _ (by blk_simp; exact (tile e0 _ _).trans (by blk_simp)) (by blk_simp; exact (tile e1 _ _).trans (by blk_simp))) (v_at m hO c t y _ _ (by blk_simp; exact (tile e0 _ _).trans (by blk_simp)) (by blk_simp; exact (tile e1 _ _).trans (by blk_simp)))

theorem algebraic : Cert.algebraic_Kernel22Ideal_Reference22Ideal := fun m g m' g' hp e => by
  obtain ⟨d, hd⟩ := table m hp
  have hO := okM m hp
  refine ⟨fun c => put (grad (m ((c : Thread nD τ).loc main_arg0)) (m ((c : Thread nD τ).loc main_arg1)) (m ((c : Thread nD τ).loc main_arg2))) (m ((c : Thread nD τ).loc main_arg6)), fun c => put (delta (grad (m ((c : Thread nD τ).loc main_arg0)) (m ((c : Thread nD τ).loc main_arg1)) (m ((c : Thread nD τ).loc main_arg2))) (first (m ((c : Thread nD τ).loc main_arg3))) (first (m ((c : Thread nD τ).loc main_arg4))) (first (m ((c : Thread nD τ).loc main_arg5)))) (m ((c : Thread nD τ).loc main_arg7)),
    fun c => put (newM (grad (m ((c : Thread nD τ).loc main_arg0)) (m ((c : Thread nD τ).loc main_arg1)) (m ((c : Thread nD τ).loc main_arg2))) (first (m ((c : Thread nD τ).loc main_arg4)))) (m ((c : Thread nD τ).loc main_arg8)), fun c => put (newV (grad (m ((c : Thread nD τ).loc main_arg0)) (m ((c : Thread nD τ).loc main_arg1)) (m ((c : Thread nD τ).loc main_arg2))) (first (m ((c : Thread nD τ).loc main_arg5)))) (m ((c : Thread nD τ).loc main_arg9)),
    (θ_run defs _ _).mono (fun r h c => ?_) (θ_run_and (run_main m g hO) (unchanged m g hO)), (θ_run Cert.Reference22Ideal.defs _ _).mono (fun r h c => ?_) (Cert.Reference22Ideal.Value.run m' g')⟩
  · exact ⟨(h.1.out_eq c 11).trans (final11 m hO hd c), (h.1.out_eq c 12).trans (final12 m hO hd c), (h.1.out_eq c 13).trans (final13 m hO hd c),
      (h.1.out_eq c 14).trans (final14 m hO hd c), h.2 c⟩
  · obtain ⟨a0, a1, a2, a3, a4, a5, a6, a7, a8, a9⟩ := e c
    exact ⟨(h c).1.trans (by rw [a0, a1, a2, a6]; rfl), (h c).2.1.trans (by rw [a0, a1, a2, a3, a4, a5, a7]; rfl),
      (h c).2.2.1.trans (by rw [a0, a1, a2, a4, a8]; rfl), (h c).2.2.2.1.trans (by rw [a0, a1, a2, a5, a9]; rfl), (h c).2.2.2.2⟩

end Cert.Kernel22Ideal.Opt

end
-- ==== Proof.Opt.P23.lean ====
/- The optimiser's step on one layer of the convolution mixer's input weight: the gradient's eight parts added, the change of the weight and
   the two moments; the other layer keeps what it held. -/
module

public import proofs.«01_k».proof.Proof.Gen.Kernel23Ideal.Frame
public import proofs.«01_k».proof.Proof.Gen.Reference23Ideal.Run
public import proofs.«01_k».proof.Defs
public import proofs.«01_k».proof.Proof.Gen.Pre_cf_w_in_device
public import proofs.«01_k».proof.Proof.Opt.Parts
public import Idealize.ShloMosaic.Lib.Pipeline.ValueKit

@[expose] public section

set_option maxRecDepth 16384

noncomputable section

namespace Cert.Kernel23Ideal.Opt

open Cert.Kernel23Ideal Cert.Kernel23Ideal.Gen Idealize.ShloMosaic Idealize.ShloMosaic.TcCoe Idealize.SL.Sem Cert.Parts

/-- Device `d`'s number as the contents of the one table. -/
def tab (d : Fin 8) : pre0.Contents (Elt Ideal) := fun | ⟨0, _⟩ => fun _ => num d | ⟨_ + 1, h⟩ => absurd h (by simp)

theorem ok : ∀ d : Fin 8, ok0 (F := Ideal) (tab d) := by decide +kernel

variable (m : (ℓ : Loc nD τ sig) → Buf (Elt Ideal) ℓ)

theorem table (hp : Cert.Pre_Kernel23Ideal m) : ∃ d : Fin 8, tbl m = tab d := by
  have e := congrFun (hp 0) (fun a => ⟨0, by revert a; decide⟩)
  simp only [Cert.Pre_cf_w_in_device.fn] at e
  pointwise at e
  obtain ⟨d, hd⟩ := device _ e
  refine ⟨d, ?_⟩
  funext j x
  match j with
  | ⟨0, _⟩ =>
    exact (congrArg _ (only x _)).trans hd

theorem okM (hp : Cert.Pre_Kernel23Ideal m) : Ok m := by
  obtain ⟨d, hd⟩ := table m hp
  rw [Ok, hd]; exact ok d

theorem idx_tab : ∀ (d : Fin 8) (i : grid0.Coords),
    cc0_transform_0 Facts₀.inb_S1_S1_0 Facts₀.numel1_S1 (tab d) i = ![(part d 0).val, (i 0).val, 0] ∧
    cc0_transform_1 Facts₀.inb_S1_S1_0 Facts₀.numel1_S1 (tab d) i = ![(part d 1).val, (i 0).val, 0] ∧
    cc0_transform_2 Facts₀.inb_S1_S1_0 Facts₀.numel1_S1 (tab d) i = ![(part d 2).val, (i 0).val, 0] ∧
    cc0_transform_3 Facts₀.inb_S1_S1_0 Facts₀.numel1_S1 (tab d) i = ![(part d 3).val, (i 0).val, 0] ∧
    cc0_transform_4 Facts₀.inb_S1_S1_0 Facts₀.numel1_S1 (tab d) i = ![(part d 4).val, (i 0).val, 0] ∧
    cc0_transform_5 Facts₀.inb_S1_S1_0 Facts₀.numel1_S1 (tab d) i = ![(part d 5).val, (i 0).val, 0] ∧
    cc0_transform_6 Facts₀.inb_S1_S1_0 Facts₀.numel1_S1 (tab d) i = ![(part d 6).val, (i 0).val, 0] ∧
    cc0_transform_7 Facts₀.inb_S1_S1_0 Facts₀.numel1_S1 (tab d) i = ![(part d 7).val, (i 0).val, 0] := by
  decide +kernel

theorem idx (hO : Ok m) {d : Fin 8} (hd : tbl m = tab d) (t : Fin (cfgM m hO).N) :
    ((cfgM m hO).win 0).index t = ![(part d 0).val, (grid0.coords t 0).val, 0] ∧
    ((cfgM m hO).win 1).index t = ![(part d 1).val, (grid0.coords t 0).val, 0] ∧
    ((cfgM m hO).win 2).index t = ![(part d 2).val, (grid0.coords t 0).val, 0] ∧
    ((cfgM m hO).win 3).index t = ![(part d 3).val, (grid0.coords t 0).val, 0] ∧
    ((cfgM m hO).win 4).index t = ![(part d 4).val, (grid0.coords t 0).val, 0] ∧
    ((cfgM m hO).win 5).index t = ![(part d 5).val, (grid0.coords t 0).val, 0] ∧
    ((cfgM m hO).win 6).index t = ![(part d 6).val, (grid0.coords t 0).val, 0] ∧
    ((cfgM m hO).win 7).index t = ![(part d 7).val, (grid0.coords t 0).val, 0] := by
  refine ⟨?_, ?_, ?_, ?_, ?_, ?_, ?_, ?_⟩
  · exact (congrArg (fun pf => cc0_transform_0 (F := Ideal) Facts₀.inb_S1_S1_0 Facts₀.numel1_S1 pf (grid0.coords t)) hd).trans (idx_tab d (grid0.coords t)).1
  · exact (congrArg (fun pf => cc0_transform_1 (F := Ideal) Facts₀.inb_S1_S1_0 Facts₀.numel1_S1 pf (grid0.coords t)) hd).trans (idx_tab d (grid0.coords t)).2.1
  · exact (congrArg (fun pf => cc0_transform_2 (F := Ideal) Facts₀.inb_S1_S1_0 Facts₀.numel1_S1 pf (grid0.coords t)) hd).trans (idx_tab d (grid0.coords t)).2.2.1
  · exact (congrArg (fun pf => cc0_transform_3 (F := Ideal) Facts₀.inb_S1_S1_0 Facts₀.numel1_S1 pf (grid0.coords t)) hd).trans (idx_tab d (grid0.coords t)).2.2.2.1
  · exact (congrArg (fun pf => cc0_transform_4 (F := Ideal) Facts₀.inb_S1_S1_0 Facts₀.numel1_S1 pf (grid0.coords t)) hd).trans (idx_tab d (grid0.coords t)).2.2.2.2.1
  · exact (congrArg (fun pf => cc0_transform_5 (F := Ideal) Facts₀.inb_S1_S1_0 Facts₀.numel1_S1 pf (grid0.coords t)) hd).trans (idx_tab d (grid0.coords t)).2.2.2.2.2.1
  · exact (congrArg (fun pf => cc0_transform_6 (F := Ideal) Facts₀.inb_S1_S1_0 Facts₀.numel1_S1 pf (grid0.coords t)) hd).trans (idx_tab d (grid0.coords t)).2.2.2.2.2.2.1
  · exact (congrArg (fun pf => cc0_transform_7 (F := Ideal) Facts₀.inb_S1_S1_0 Facts₀.numel1_S1 pf (grid0.coords t)) hd).trans (idx_tab d (grid0.coords t)).2.2.2.2.2.2.2

theorem cov (a : (pcfg0 (F := Ideal)).Adm) : ((cfg0 a).win 11).CoversWhere (fun β => β (0 : Fin 3) = 0) :=
  (by decide +kernel : ((cfg0 ⟨tab 0, ok 0⟩).win 11).CoversWhere (fun β => β (0 : Fin 3) = 0))

/-- The gradient of the layer: the sum of the eight parts. -/
def grad (own land : FVec Ideal S8x1024x256 .bf16) (me : IVec S1 32) : FVec Ideal Cert.Reference23Ideal.S1024x256 .f32 :=
  Host.reduceAdd (extf .f32 (select (broadcastInDim S8x1024x256 ![0, 1, 2] Cert.Reference23Ideal.Facts₀.bcast_S8x1x1_S8x1024x256_0_1_2 (cmpi .eq (broadcastInDim Cert.Reference23Ideal.S8x1x1 ![0] Cert.Reference23Ideal.Facts₀.bcast_S8_S8x1x1_0 (iotaInDim Cert.Reference23Ideal.S8 32 0)) (broadcastInDim Cert.Reference23Ideal.S8x1x1 ![] Cert.Reference23Ideal.Facts₀.bcast_S_S8x1x1 (shapeCast _ me Cert.Reference23Ideal.Facts₀.shapeCasts_S1_S_)))) own land) Cert.Reference23Ideal.Facts₀.bitsLt_bf16_f32) (constant Cert.Reference23Ideal.S_ .f32 0x00000000#32) Cert.Reference23Ideal.Facts₀.reducesTo_S8x1024x256_S1024x256_d0 Cert.Reference23Ideal.Facts₀.h_S_

/-- The first layer. -/
def first (x : FVec Ideal S2x1024x256 .f32) : FVec Ideal Cert.Reference23Ideal.S1024x256 .f32 :=
  shapeCast _ (extractStridedSlice Cert.Reference23Ideal.S1x1024x256 ![0, 0, 0] x Cert.Reference23Ideal.Facts₀.slices_S2x1024x256_S1x1024x256_0_0_0) Cert.Reference23Ideal.Facts₀.shapeCasts_S1x1024x256_S1024x256

/-- The first layer replaced by `x`, the others as they were. -/
def put (x : FVec Ideal Cert.Reference23Ideal.S1024x256 .f32) (old : FVec Ideal S2x1024x256 .f32) : FVec Ideal S2x1024x256 .f32 :=
  select (broadcastInDim S2x1024x256 ![0, 1, 2] Cert.Reference23Ideal.Facts₀.bcast_S2x1x1_S2x1024x256_0_1_2 (cmpi .eq (broadcastInDim Cert.Reference23Ideal.S2x1x1 ![0] Cert.Reference23Ideal.Facts₀.bcast_S2_S2x1x1_0 (iotaInDim Cert.Reference23Ideal.S2 32 0)) (broadcastInDim Cert.Reference23Ideal.S2x1x1 ![] Cert.Reference23Ideal.Facts₀.bcast_S_S2x1x1 (constantI Cert.Reference23Ideal.S_ 32 0#32))))
    (broadcastInDim S2x1024x256 ![1, 2] Cert.Reference23Ideal.Facts₀.bcast_S1024x256_S2x1024x256_1_2 x) old

/-- A constant on every entry. -/
def cst (b : BitVec 32) : FVec Ideal Cert.Reference23Ideal.S1024x256 .f32 :=
  broadcastInDim Cert.Reference23Ideal.S1024x256 ![] Cert.Reference23Ideal.Facts₀.bcast_S_S1024x256 (constant Cert.Reference23Ideal.S_ .f32 b)

/-- The first moment after the step. -/
def newM (g mo : FVec Ideal Cert.Reference23Ideal.S1024x256 .f32) : FVec Ideal Cert.Reference23Ideal.S1024x256 .f32 := addf (mulf (cst 0x3F666666#32) mo) (mulf (cst 0x3DCCCCCD#32) g)

/-- The second moment after the step. -/
def newV (g v : FVec Ideal Cert.Reference23Ideal.S1024x256 .f32) : FVec Ideal Cert.Reference23Ideal.S1024x256 .f32 := addf (mulf (cst 0x3F7FBE77#32) v) (mulf (cst 0x3A83126F#32) (mulf g g))

/-- The change of the weight. -/
def delta (g w mo v : FVec Ideal Cert.Reference23Ideal.S1024x256 .f32) : FVec Ideal Cert.Reference23Ideal.S1024x256 .f32 :=
  mulf (cst 0xBA83126F#32) (addf (Host.divf (Host.divf (newM g mo) (cst 0x3F26BD02#32))
    (addf (Host.sqrt (Host.divf (newV g v) (cst 0x3C231ACC#32))) (cst 0x322BCC77#32))) (mulf (cst 0x3C23D70A#32) w))

theorem cell : ∀ i : grid0.Coords, cc0_transform_15 i = ![0, (i 0).val, 0] := by decide +kernel

theorem me_at (c : Dev nD) {d : Fin 8} (hd : tbl m = tab d) (x : S1.Idx) : m ((c : Thread nD τ).loc main_arg2) x = num d := by
  obtain rfl : c = 0 := Subsingleton.elim _ _
  exact congrFun (congrFun hd 0) x

theorem grad_at (hO : Ok m) {d : Fin 8} (hd : tbl m = tab d) (c : Dev nD) (t : Fin (cfgM m hO).N) (r : Fin 256) (R : Fin 1024) (q Q : Fin 256)
    (hR : R.val = (grid0.coords t 0).val * 256 + r.val) (hQ : Q.val = q.val) :
    k0_pay4 (View.read (Elt Ideal) (ms0_0 m hO t).view ((hs0_0 m hO t).unread (iblk m hO c 0 t))) (View.read (Elt Ideal) (ms0_1 m hO t).view ((hs0_1 m hO t).unread (iblk m hO c 1 t))) (View.read (Elt Ideal) (ms0_2 m hO t).view ((hs0_2 m hO t).unread (iblk m hO c 2 t))) (View.read (Elt Ideal) (ms0_3 m hO t).view ((hs0_3 m hO t).unread (iblk m hO c 3 t))) (View.read (Elt Ideal) (ms0_4 m hO t).view ((hs0_4 m hO t).unread (iblk m hO c 4 t))) (View.read (Elt Ideal) (ms0_5 m hO t).view ((hs0_5 m hO t).unread (iblk m hO c 5 t))) (View.read (Elt Ideal) (ms0_6 m hO t).view ((hs0_6 m hO t).unread (iblk m hO c 6 t))) (View.read (Elt Ideal) (ms0_7 m hO t).view ((hs0_7 m hO t).unread (iblk m hO c 7 t))) (ix2 r q)
      = grad (m ((c : Thread nD τ).loc main_arg0)) (m ((c : Thread nD τ).loc main_arg1)) (m ((c : Thread nD τ).loc main_arg2)) (ix2 R Q) := by
  obtain ⟨e0, e1, e2, e3, e4, e5, e6, e7⟩ := idx m hO hd t
  have r0 : View.read (Elt Ideal) (ms0_0 m hO t).view ((hs0_0 m hO t).unread (iblk m hO c 0 t)) (ix3 0 r q) = m ((c : Thread nD τ).loc main_arg0) (ix3 (part d 0) R Q) :=
    (congrFun (Memref.IsWhole.read_unread _ _) _).trans (by blk_point [iblk, V, e0, hR, hQ])
  have r1 : View.read (Elt Ideal) (ms0_1 m hO t).view ((hs0_1 m hO t).unread (iblk m hO c 1 t)) (ix3 0 r q) = m ((c : Thread nD τ).loc main_arg1) (ix3 (part d 1) R Q) :=
    (congrFun (Memref.IsWhole.read_unread _ _) _).trans (by blk_point [iblk, V, e1, hR, hQ])
  have r2 : View.read (Elt Ideal) (ms0_2 m hO t).view ((hs0_2 m hO t).unread (iblk m hO c 2 t)) (ix3 0 r q) = m ((c : Thread nD τ).loc main_arg1) (ix3 (part d 2) R Q) :=
    (congrFun (Memref.IsWhole.read_unread _ _) _).trans (by blk_point [iblk, V, e2, hR, hQ])
  have r3 : View.read (Elt Ideal) (ms0_3 m hO t).view ((hs0_3 m hO t).unread (iblk m hO c 3 t)) (ix3 0 r q) = m ((c : Thread nD τ).loc main_arg1) (ix3 (part d 3) R Q) :=
    (congrFun (Memref.IsWhole.read_unread _ _) _).trans (by blk_point [iblk, V, e3, hR, hQ])
  have r4 : View.read (Elt Ideal) (ms0_4 m hO t).view ((hs0_4 m hO t).unread (iblk m hO c 4 t)) (ix3 0 r q) = m ((c : Thread nD τ).loc main_arg1) (ix3 (part d 4) R Q) :=
    (congrFun (Memref.IsWhole.read_unread _ _) _).trans (by blk_point [iblk, V, e4, hR, hQ])
  have r5 : View.read (Elt Ideal) (ms0_5 m hO t).view ((hs0_5 m hO t).unread (iblk m hO c 5 t)) (ix3 0 r q) = m ((c : Thread nD τ).loc main_arg1) (ix3 (part d 5) R Q) :=
    (congrFun (Memref.IsWhole.read_unread _ _) _).trans (by blk_point [iblk, V, e5, hR, hQ])
  have r6 : View.read (Elt Ideal) (ms0_6 m hO t).view ((hs0_6 m hO t).unread (iblk m hO c 6 t)) (ix3 0 r q) = m ((c : Thread nD τ).loc main_arg1) (ix3 (part d 6) R Q) :=
    (congrFun (Memref.IsWhole.read_unread _ _) _).trans (by blk_point [iblk, V, e6, hR, hQ])
  have r7 : View.read (Elt Ideal) (ms0_7 m hO t).view ((hs0_7 m hO t).unread (iblk m hO c 7 t)) (ix3 0 r q) = m ((c : Thread nD τ).loc main_arg1) (ix3 (part d 7) R Q) :=
    (congrFun (Memref.IsWhole.read_unread _ _) _).trans (by blk_point [iblk, V, e7, hR, hQ])
  pointwise [grad, k0_pay4]
  refine Eq.trans (add8 r0 r1 r2 r3 r4 r5 r6 r7) ?_
  refine (sum d (fun j => m ((c : Thread nD τ).loc main_arg0) (ix3 j R Q)) (fun j => m ((c : Thread nD τ).loc main_arg1) (ix3 j R Q))).trans ?_
  refine Finset.sum_congr rfl fun j _ => ?_
  rw [me_at m c hd]
  exact (choose d j _ _).symm

theorem w_at (hO : Ok m) (c : Dev nD) (t : Fin (cfgM m hO).N) (y : S1x256x256.Idx) (R : Fin 1024) (Q : Fin 256)
    (hR : R.val = (grid0.coords t 0).val * 256 + (y 1).val) (hQ : Q.val = (y 2).val) :
    View.read (Elt Ideal) (ms0_8 m hO t).view ((hs0_8 m hO t).unread (iblk m hO c 8 t)) y = m ((c : Thread nD τ).loc main_arg3) (ix3 0 R Q) := by
  have e : ((cfgM m hO).win 8).index t = ![0, (grid0.coords t 0).val, 0] := cell _
  exact (congrFun (Memref.IsWhole.read_unread _ _) _).trans (by blk_point [iblk, V, e, hR, hQ])

theorem mo_at (hO : Ok m) (c : Dev nD) (t : Fin (cfgM m hO).N) (y : S1x256x256.Idx) (R : Fin 1024) (Q : Fin 256)
    (hR : R.val = (grid0.coords t 0).val * 256 + (y 1).val) (hQ : Q.val = (y 2).val) :
    View.read (Elt Ideal) (ms0_9 m hO t).view ((hs0_9 m hO t).unread (iblk m hO c 9 t)) y = m ((c : Thread nD τ).loc main_arg4) (ix3 0 R Q) := by
  have e : ((cfgM m hO).win 9).index t = ![0, (grid0.coords t 0).val, 0] := cell _
  exact (congrFun (Memref.IsWhole.read_unread _ _) _).trans (by blk_point [iblk, V, e, hR, hQ])

theorem v_at (hO : Ok m) (c : Dev nD) (t : Fin (cfgM m hO).N) (y : S1x256x256.Idx) (R : Fin 1024) (Q : Fin 256)
    (hR : R.val = (grid0.coords t 0).val * 256 + (y 1).val) (hQ : Q.val = (y 2).val) :
    View.read (Elt Ideal) (ms0_10 m hO t).view ((hs0_10 m hO t).unread (iblk m hO c 10 t)) y = m ((c : Thread nD τ).loc main_arg5) (ix3 0 R Q) := by
  have e : ((cfgM m hO).win 10).index t = ![0, (grid0.coords t 0).val, 0] := cell _
  exact (congrFun (Memref.IsWhole.read_unread _ _) _).trans (by blk_point [iblk, V, e, hR, hQ])

/-- An array of which the first layer is written holds the new layer and what it held before. -/
theorem put_eq (x : FVec Ideal Cert.Reference23Ideal.S1024x256 .f32) (old A : FVec Ideal S2x1024x256 .f32) (h : A = old) :
    (fun i : S2x1024x256.Idx => if (i 0 : ℕ) / 1 = 0 then x (ix2 (i 1) (i 2)) else A i) = put x old := by
  subst h
  funext i
  pointwise [put]
  exact (layer _ _ _ (Nat.lt_of_lt_of_le (i 0).isLt (by decide))).symm

theorem final11 (hO : Ok m) {d : Fin 8} (hd : tbl m = tab d) (c : Dev nD) :
    (dats m hO 0 c).arrAt 11 (cfgM m hO).N = put (grad (m ((c : Thread nD τ).loc main_arg0)) (m ((c : Thread nD τ).loc main_arg1)) (m ((c : Thread nD τ).loc main_arg2))) (m ((c : Thread nD τ).loc main_arg6)) := by
  refine Eq.trans ?_ (put_eq _ _ ((dats m hO 0 c).A 11) (by rw [A_eq]; rfl))
  refine (dats m hO 0 c).arrAt_eq_of_coversWhere 11 (fun i : S2x1024x256.Idx => (_ : FVec Ideal Cert.Reference23Ideal.S1024x256 .f32) (ix2 (i 1) (i 2))) (fun β => β (0 : Fin 3) = 0) (cov _) (fun t hf y => ?_) (fun j => Iff.rfl)
  blk_simp
  rw [after0_11]
  have e : ((pcfg0 (F := Ideal)).win (adm m hO) 11).index t = ![0, (grid0.coords t 0).val, 0] := cell _
  have e0 := congrFun e 1
  have e1 := congrFun e 2
  unfold outsAt0 out0_A_11
  rw [View.read_writes_junk_eq_canon]; frame_out
  pointwise [k0_pay7]
  exact grad_at m hO hd c t _ _ _ _ (by blk_simp; exact (tile e0 _ _).trans (by blk_simp)) (by blk_simp; exact (tile e1 _ _).trans (by blk_simp))

theorem final12 (hO : Ok m) {d : Fin 8} (hd : tbl m = tab d) (c : Dev nD) :
    (dats m hO 0 c).arrAt 12 (cfgM m hO).N = put (delta (grad (m ((c : Thread nD τ).loc main_arg0)) (m ((c : Thread nD τ).loc main_arg1)) (m ((c : Thread nD τ).loc main_arg2))) (first (m ((c : Thread nD τ).loc main_arg3))) (first (m ((c : Thread nD τ).loc main_arg4))) (first (m ((c : Thread nD τ).loc main_arg5)))) (m ((c : Thread nD τ).loc main_arg7)) := by
  refine Eq.trans ?_ (put_eq _ _ ((dats m hO 0 c).A 12) (by rw [A_eq]; rfl))
  refine (dats m hO 0 c).arrAt_eq_of_coversWhere 12 (fun i : S2x1024x256.Idx => (_ : FVec Ideal Cert.Reference23Ideal.S1024x256 .f32) (ix2 (i 1) (i 2))) (fun β => β (0 : Fin 3) = 0) (cov _) (fun t hf y => ?_) (fun j => Iff.rfl)
  blk_simp
  rw [after0_12]
  have e : ((pcfg0 (F := Ideal)).win (adm m hO) 12).index t = ![0, (grid0.coords t 0).val, 0] := cell _
  have e0 := congrFun e 1
  have e1 := congrFun e 2
  unfold outsAt0 out0_A_12
  rw [View.read_writes_junk_eq_canon]; frame_out
  pointwise [k0_pay8, k0_pay5, k0_pay6, delta, newM, newV, cst, first]
  exact change (grad_at m hO hd c t _ _ _ _ (by blk_simp; exact (tile e0 _ _).trans (by blk_simp)) (by blk_simp; exact (tile e1 _ _).trans (by blk_simp))) (w_at m hO c t y _ _ (by blk_simp; exact (tile e0 _ _).trans (by blk_simp)) (by blk_simp; exact (tile e1 _ _).trans (by blk_simp))) (mo_at m hO c t y _ _ (by blk_simp; exact (tile e0 _ _).trans (by blk_simp)) (by blk_simp; exact (tile e1 _ _).trans (by blk_simp))) (v_at m hO c t y _ _ (by blk_simp; exact (tile e0 _ _).trans (by blk_simp)) (by blk_simp; exact (tile e1 _ _).trans (by blk_simp)))

theorem final13 (hO : Ok m) {d : Fin 8} (hd : tbl m = tab d) (c : Dev nD) :
    (dats m hO 0 c).arrAt 13 (cfgM m hO).N = put (newM (grad (m ((c : Thread nD τ).loc main_arg0)) (m ((c : Thread nD τ).loc main_arg1)) (m ((c : Thread nD τ).loc main_arg2))) (first (m ((c : Thread nD τ).loc main_arg4)))) (m ((c : Thread nD τ).loc main_arg8)) := by
  refine Eq.trans ?_ (put_eq _ _ ((dats m hO 0 c).A 13) (by rw [A_eq]; rfl))
  refine (dats m hO 0 c).arrAt_eq_of_coversWhere 13 (fun i : S2x1024x256.Idx => (_ : FVec Ideal Cert.Reference23Ideal.S1024x256 .f32) (ix2 (i 1) (i 2))) (fun β => β (0 : Fin 3) = 0) (cov _) (fun t hf y => ?_) (fun j => Iff.rfl)
  blk_simp
  rw [after0_13]
  have e : ((pcfg0 (F := Ideal)).win (adm m hO) 13).index t = ![0, (grid0.coords t 0).val, 0] := cell _
  have e0 := congrFun e 1
  have e1 := congrFun e 2
  unfold outsAt0 out0_A_13
  rw [View.read_writes_junk_eq_canon]; frame_out
  pointwise [k0_pay1, k0_pay5, newM, cst, first]
  exact moment1 (grad_at m hO hd c t _ _ _ _ (by blk_simp; exact (tile e0 _ _).trans (by blk_simp)) (by blk_simp; exact (tile e1 _ _).trans (by blk_simp))) (mo_at m hO c t y _ _ (by blk_simp; exact (tile e0 _ _).trans (by blk_simp)) (by blk_simp; exact (tile e1 _ _).trans (by blk_simp)))

theorem final14 (hO : Ok m) {d : Fin 8} (hd : tbl m = tab d) (c : Dev nD) :
    (dats m hO 0 c).arrAt 14 (cfgM m hO).N = put (newV (grad (m ((c : Thread nD τ).loc main_arg0)) (m ((c : Thread nD τ).loc main_arg1)) (m ((c : Thread nD τ).loc main_arg2))) (first (m ((c : Thread nD τ).loc main_arg5)))) (m ((c : Thread nD τ).loc main_arg9)) := by
  refine Eq.trans ?_ (put_eq _ _ ((dats m hO 0 c).A 14) (by rw [A_eq]; rfl))
  refine (dats m hO 0 c).arrAt_eq_of_coversWhere 14 (fun i : S2x1024x256.Idx => (_ : FVec Ideal Cert.Reference23Ideal.S1024x256 .f32) (ix2 (i 1) (i 2))) (fun β => β (0 : Fin 3) = 0) (cov _) (fun t hf y => ?_) (fun j => Iff.rfl)
  blk_simp
  rw [after0_14]
  have e : ((pcfg0 (F := Ideal)).win (adm m hO) 14).index t = ![0, (grid0.coords t 0).val, 0] := cell _
  have e0 := congrFun e 1
  have e1 := congrFun e 2
  unfold outsAt0 out0_A_14
  rw [View.read_writes_junk_eq_canon]; frame_out
  pointwise [k0_pay2, k0_pay6, newV, cst, first]
  exact moment2 (grad_at m hO hd c t _ _ _ _ (by blk_simp; exact (tile e0 _ _).trans (by blk_simp)) (by blk_simp; exact (tile e1 _ _).trans (by blk_simp))) (v_at m hO c t y _ _ (by blk_simp; exact (tile e0 _ _).trans (by blk_simp)) (by blk_simp; exact (tile e1 _ _).trans (by blk_simp)))

theorem algebraic : Cert.algebraic_Kernel23Ideal_Reference23Ideal := fun m g m' g' hp e => by
  obtain ⟨d, hd⟩ := table m hp
  have hO := okM m hp
  refine ⟨fun c => put (grad (m ((c : Thread nD τ).loc main_arg0)) (m ((c : Thread nD τ).loc main_arg1)) (m ((c : Thread nD τ).loc main_arg2))) (m ((c : Thread nD τ).loc main_arg6)), fun c => put (delta (grad (m ((c : Thread nD τ).loc main_arg0)) (m ((c : Thread nD τ).loc main_arg1)) (m ((c : Thread nD τ).loc main_arg2))) (first (m ((c : Thread nD τ).loc main_arg3))) (first (m ((c : Thread nD τ).loc main_arg4))) (first (m ((c : Thread nD τ).loc main_arg5)))) (m ((c : Thread nD τ).loc main_arg7)),
    fun c => put (newM (grad (m ((c : Thread nD τ).loc main_arg0)) (m ((c : Thread nD τ).loc main_arg1)) (m ((c : Thread nD τ).loc main_arg2))) (first (m ((c : Thread nD τ).loc main_arg4)))) (m ((c : Thread nD τ).loc main_arg8)), fun c => put (newV (grad (m ((c : Thread nD τ).loc main_arg0)) (m ((c : Thread nD τ).loc main_arg1)) (m ((c : Thread nD τ).loc main_arg2))) (first (m ((c : Thread nD τ).loc main_arg5)))) (m ((c : Thread nD τ).loc main_arg9)),
    (θ_run defs _ _).mono (fun r h c => ?_) (θ_run_and (run_main m g hO) (unchanged m g hO)), (θ_run Cert.Reference23Ideal.defs _ _).mono (fun r h c => ?_) (Cert.Reference23Ideal.Value.run m' g')⟩
  · exact ⟨(h.1.out_eq c 11).trans (final11 m hO hd c), (h.1.out_eq c 12).trans (final12 m hO hd c), (h.1.out_eq c 13).trans (final13 m hO hd c),
      (h.1.out_eq c 14).trans (final14 m hO hd c), h.2 c⟩
  · obtain ⟨a0, a1, a2, a3, a4, a5, a6, a7, a8, a9⟩ := e c
    exact ⟨(h c).1.trans (by rw [a0, a1, a2, a6]; rfl), (h c).2.1.trans (by rw [a0, a1, a2, a3, a4, a5, a7]; rfl),
      (h c).2.2.1.trans (by rw [a0, a1, a2, a4, a8]; rfl), (h c).2.2.2.1.trans (by rw [a0, a1, a2, a5, a9]; rfl), (h c).2.2.2.2⟩

end Cert.Kernel23Ideal.Opt

end
-- ==== Proof.Opt.P24.lean ====
/- The optimiser's step on one layer of the feed-forward's first weight: the gradient's eight parts added, the change of the weight and
   the two moments; the other layers keep what they held. -/
module

public import proofs.«01_k».proof.Proof.Gen.Kernel24Ideal.Frame
public import proofs.«01_k».proof.Proof.Gen.Reference24Ideal.Run
public import proofs.«01_k».proof.Defs
public import proofs.«01_k».proof.Proof.Gen.Pre_ff_w1_device
public import proofs.«01_k».proof.Proof.Opt.Parts
public import Idealize.ShloMosaic.Lib.Pipeline.ValueKit

@[expose] public section

set_option maxRecDepth 16384

noncomputable section

namespace Cert.Kernel24Ideal.Opt

open Cert.Kernel24Ideal Cert.Kernel24Ideal.Gen Idealize.ShloMosaic Idealize.ShloMosaic.TcCoe Idealize.SL.Sem Cert.Parts

/-- Device `d`'s number as the contents of the one table. -/
def tab (d : Fin 8) : pre0.Contents (Elt Ideal) := fun | ⟨0, _⟩ => fun _ => num d | ⟨_ + 1, h⟩ => absurd h (by simp)

theorem ok : ∀ d : Fin 8, ok0 (F := Ideal) (tab d) := by decide +kernel

variable (m : (ℓ : Loc nD τ sig) → Buf (Elt Ideal) ℓ)

theorem table (hp : Cert.Pre_Kernel24Ideal m) : ∃ d : Fin 8, tbl m = tab d := by
  have e := congrFun (hp 0) (fun a => ⟨0, by revert a; decide⟩)
  simp only [Cert.Pre_ff_w1_device.fn] at e
  pointwise at e
  obtain ⟨d, hd⟩ := device _ e
  refine ⟨d, ?_⟩
  funext j x
  match j with
  | ⟨0, _⟩ =>
    exact (congrArg _ (only x _)).trans hd

theorem okM (hp : Cert.Pre_Kernel24Ideal m) : Ok m := by
  obtain ⟨d, hd⟩ := table m hp
  rw [Ok, hd]; exact ok d

theorem idx_tab : ∀ (d : Fin 8) (i : grid0.Coords),
    cc0_transform_0 Facts₀.inb_S1_S1_0 Facts₀.numel1_S1 (tab d) i = ![(part d 0).val, (i 0).val, 0] ∧
    cc0_transform_1 Facts₀.inb_S1_S1_0 Facts₀.numel1_S1 (tab d) i = ![(part d 1).val, (i 0).val, 0] ∧
    cc0_transform_2 Facts₀.inb_S1_S1_0 Facts₀.numel1_S1 (tab d) i = ![(part d 2).val, (i 0).val, 0] ∧
    cc0_transform_3 Facts₀.inb_S1_S1_0 Facts₀.numel1_S1 (tab d) i = ![(part d 3).val, (i 0).val, 0] ∧
    cc0_transform_4 Facts₀.inb_S1_S1_0 Facts₀.numel1_S1 (tab d) i = ![(part d 4).val, (i 0).val, 0] ∧
    cc0_transform_5 Facts₀.inb_S1_S1_0 Facts₀.numel1_S1 (tab d) i = ![(part d 5).val, (i 0).val, 0] ∧
    cc0_transform_6 Facts₀.inb_S1_S1_0 Facts₀.numel1_S1 (tab d) i = ![(part d 6).val, (i 0).val, 0] ∧
    cc0_transform_7 Facts₀.inb_S1_S1_0 Facts₀.numel1_S1 (tab d) i = ![(part d 7).val, (i 0).val, 0] := by
  decide +kernel

theorem idx (hO : Ok m) {d : Fin 8} (hd : tbl m = tab d) (t : Fin (cfgM m hO).N) :
    ((cfgM m hO).win 0).index t = ![(part d 0).val, (grid0.coords t 0).val, 0] ∧
    ((cfgM m hO).win 1).index t = ![(part d 1).val, (grid0.coords t 0).val, 0] ∧
    ((cfgM m hO).win 2).index t = ![(part d 2).val, (grid0.coords t 0).val, 0] ∧
    ((cfgM m hO).win 3).index t = ![(part d 3).val, (grid0.coords t 0).val, 0] ∧
    ((cfgM m hO).win 4).index t = ![(part d 4).val, (grid0.coords t 0).val, 0] ∧
    ((cfgM m hO).win 5).index t = ![(part d 5).val, (grid0.coords t 0).val, 0] ∧
    ((cfgM m hO).win 6).index t = ![(part d 6).val, (grid0.coords t 0).val, 0] ∧
    ((cfgM m hO).win 7).index t = ![(part d 7).val, (grid0.coords t 0).val, 0] := by
  refine ⟨?_, ?_, ?_, ?_, ?_, ?_, ?_, ?_⟩
  · exact (congrArg (fun pf => cc0_transform_0 (F := Ideal) Facts₀.inb_S1_S1_0 Facts₀.numel1_S1 pf (grid0.coords t)) hd).trans (idx_tab d (grid0.coords t)).1
  · exact (congrArg (fun pf => cc0_transform_1 (F := Ideal) Facts₀.inb_S1_S1_0 Facts₀.numel1_S1 pf (grid0.coords t)) hd).trans (idx_tab d (grid0.coords t)).2.1
  · exact (congrArg (fun pf => cc0_transform_2 (F := Ideal) Facts₀.inb_S1_S1_0 Facts₀.numel1_S1 pf (grid0.coords t)) hd).trans (idx_tab d (grid0.coords t)).2.2.1
  · exact (congrArg (fun pf => cc0_transform_3 (F := Ideal) Facts₀.inb_S1_S1_0 Facts₀.numel1_S1 pf (grid0.coords t)) hd).trans (idx_tab d (grid0.coords t)).2.2.2.1
  · exact (congrArg (fun pf => cc0_transform_4 (F := Ideal) Facts₀.inb_S1_S1_0 Facts₀.numel1_S1 pf (grid0.coords t)) hd).trans (idx_tab d (grid0.coords t)).2.2.2.2.1
  · exact (congrArg (fun pf => cc0_transform_5 (F := Ideal) Facts₀.inb_S1_S1_0 Facts₀.numel1_S1 pf (grid0.coords t)) hd).trans (idx_tab d (grid0.coords t)).2.2.2.2.2.1
  · exact (congrArg (fun pf => cc0_transform_6 (F := Ideal) Facts₀.inb_S1_S1_0 Facts₀.numel1_S1 pf (grid0.coords t)) hd).trans (idx_tab d (grid0.coords t)).2.2.2.2.2.2.1
  · exact (congrArg (fun pf => cc0_transform_7 (F := Ideal) Facts₀.inb_S1_S1_0 Facts₀.numel1_S1 pf (grid0.coords t)) hd).trans (idx_tab d (grid0.coords t)).2.2.2.2.2.2.2

theorem cov (a : (pcfg0 (F := Ideal)).Adm) : ((cfg0 a).win 11).CoversWhere (fun β => β (0 : Fin 3) = 0) :=
  (by decide +kernel : ((cfg0 ⟨tab 0, ok 0⟩).win 11).CoversWhere (fun β => β (0 : Fin 3) = 0))

/-- The gradient of the layer: the sum of the eight parts. -/
def grad (own land : FVec Ideal S8x1024x512 .bf16) (me : IVec S1 32) : FVec Ideal Cert.Reference24Ideal.S1024x512 .f32 :=
  Host.reduceAdd (extf .f32 (select (broadcastInDim S8x1024x512 ![0, 1, 2] Cert.Reference24Ideal.Facts₀.bcast_S8x1x1_S8x1024x512_0_1_2 (cmpi .eq (broadcastInDim Cert.Reference24Ideal.S8x1x1 ![0] Cert.Reference24Ideal.Facts₀.bcast_S8_S8x1x1_0 (iotaInDim Cert.Reference24Ideal.S8 32 0)) (broadcastInDim Cert.Reference24Ideal.S8x1x1 ![] Cert.Reference24Ideal.Facts₀.bcast_S_S8x1x1 (shapeCast _ me Cert.Reference24Ideal.Facts₀.shapeCasts_S1_S_)))) own land) Cert.Reference24Ideal.Facts₀.bitsLt_bf16_f32) (constant Cert.Reference24Ideal.S_ .f32 0x00000000#32) Cert.Reference24Ideal.Facts₀.reducesTo_S8x1024x512_S1024x512_d0 Cert.Reference24Ideal.Facts₀.h_S_

/-- The first layer. -/
def first (x : FVec Ideal S4x1024x512 .f32) : FVec Ideal Cert.Reference24Ideal.S1024x512 .f32 :=
  shapeCast _ (extractStridedSlice Cert.Reference24Ideal.S1x1024x512 ![0, 0, 0] x Cert.Reference24Ideal.Facts₀.slices_S4x1024x512_S1x1024x512_0_0_0) Cert.Reference24Ideal.Facts₀.shapeCasts_S1x1024x512_S1024x512

/-- The first layer replaced by `x`, the others as they were. -/
def put (x : FVec Ideal Cert.Reference24Ideal.S1024x512 .f32) (old : FVec Ideal S4x1024x512 .f32) : FVec Ideal S4x1024x512 .f32 :=
  select (broadcastInDim S4x1024x512 ![0, 1, 2] Cert.Reference24Ideal.Facts₀.bcast_S4x1x1_S4x1024x512_0_1_2 (cmpi .eq (broadcastInDim Cert.Reference24Ideal.S4x1x1 ![0] Cert.Reference24Ideal.Facts₀.bcast_S4_S4x1x1_0 (iotaInDim Cert.Reference24Ideal.S4 32 0)) (broadcastInDim Cert.Reference24Ideal.S4x1x1 ![] Cert.Reference24Ideal.Facts₀.bcast_S_S4x1x1 (constantI Cert.Reference24Ideal.S_ 32 0#32))))
    (broadcastInDim S4x1024x512 ![1, 2] Cert.Reference24Ideal.Facts₀.bcast_S1024x512_S4x1024x512_1_2 x) old

/-- A constant on every entry. -/
def cst (b : BitVec 32) : FVec Ideal Cert.Reference24Ideal.S1024x512 .f32 :=
  broadcastInDim Cert.Reference24Ideal.S1024x512 ![] Cert.Reference24Ideal.Facts₀.bcast_S_S1024x512 (constant Cert.Reference24Ideal.S_ .f32 b)

/-- The first moment after the step. -/
def newM (g mo : FVec Ideal Cert.Reference24Ideal.S1024x512 .f32) : FVec Ideal Cert.Reference24Ideal.S1024x512 .f32 := addf (mulf (cst 0x3F666666#32) mo) (mulf (cst 0x3DCCCCCD#32) g)

/-- The second moment after the step. -/
def newV (g v : FVec Ideal Cert.Reference24Ideal.S1024x512 .f32) : FVec Ideal Cert.Reference24Ideal.S1024x512 .f32 := addf (mulf (cst 0x3F7FBE77#32) v) (mulf (cst 0x3A83126F#32) (mulf g g))

/-- The change of the weight. -/
def delta (g w mo v : FVec Ideal Cert.Reference24Ideal.S1024x512 .f32) : FVec Ideal Cert.Reference24Ideal.S1024x512 .f32 :=
  mulf (cst 0xBA83126F#32) (addf (Host.divf (Host.divf (newM g mo) (cst 0x3F26BD02#32))
    (addf (Host.sqrt (Host.divf (newV g v) (cst 0x3C231ACC#32))) (cst 0x322BCC77#32))) (mulf (cst 0x3C23D70A#32) w))

theorem cell : ∀ i : grid0.Coords, cc0_transform_15 i = ![0, (i 0).val, 0] := by decide +kernel

theorem me_at (c : Dev nD) {d : Fin 8} (hd : tbl m = tab d) (x : S1.Idx) : m ((c : Thread nD τ).loc main_arg2) x = num d := by
  obtain rfl : c = 0 := Subsingleton.elim _ _
  exact congrFun (congrFun hd 0) x

theorem grad_at (hO : Ok m) {d : Fin 8} (hd : tbl m = tab d) (c : Dev nD) (t : Fin (cfgM m hO).N) (r : Fin 256) (R : Fin 1024) (q Q : Fin 512)
    (hR : R.val = (grid0.coords t 0).val * 256 + r.val) (hQ : Q.val = q.val) :
    k0_pay4 (View.read (Elt Ideal) (ms0_0 m hO t).view ((hs0_0 m hO t).unread (iblk m hO c 0 t))) (View.read (Elt Ideal) (ms0_1 m hO t).view ((hs0_1 m hO t).unread (iblk m hO c 1 t))) (View.read (Elt Ideal) (ms0_2 m hO t).view ((hs0_2 m hO t).unread (iblk m hO c 2 t))) (View.read (Elt Ideal) (ms0_3 m hO t).view ((hs0_3 m hO t).unread (iblk m hO c 3 t))) (View.read (Elt Ideal) (ms0_4 m hO t).view ((hs0_4 m hO t).unread (iblk m hO c 4 t))) (View.read (Elt Ideal) (ms0_5 m hO t).view ((hs0_5 m hO t).unread (iblk m hO c 5 t))) (View.read (Elt Ideal) (ms0_6 m hO t).view ((hs0_6 m hO t).unread (iblk m hO c 6 t))) (View.read (Elt Ideal) (ms0_7 m hO t).view ((hs0_7 m hO t).unread (iblk m hO c 7 t))) (ix2 r q)
      = grad (m ((c : Thread nD τ).loc main_arg0)) (m ((c : Thread nD τ).loc main_arg1)) (m ((c : Thread nD τ).loc main_arg2)) (ix2 R Q) := by
  obtain ⟨e0, e1, e2, e3, e4, e5, e6, e7⟩ := idx m hO hd t
  have r0 : View.read (Elt Ideal) (ms0_0 m hO t).view ((hs0_0 m hO t).unread (iblk m hO c 0 t)) (ix3 0 r q) = m ((c : Thread nD τ).loc main_arg0) (ix3 (part d 0) R Q) :=
    (congrFun (Memref.IsWhole.read_unread _ _) _).trans (by blk_point [iblk, V, e0, hR, hQ])
  have r1 : View.read (Elt Ideal) (ms0_1 m hO t).view ((hs0_1 m hO t).unread (iblk m hO c 1 t)) (ix3 0 r q) = m ((c : Thread nD τ).loc main_arg1) (ix3 (part d 1) R Q) :=
    (congrFun (Memref.IsWhole.read_unread _ _) _).trans (by blk_point [iblk, V, e1, hR, hQ])
  have r2 : View.read (Elt Ideal) (ms0_2 m hO t).view ((hs0_2 m hO t).unread (iblk m hO c 2 t)) (ix3 0 r q) = m ((c : Thread nD τ).loc main_arg1) (ix3 (part d 2) R Q) :=
    (congrFun (Memref.IsWhole.read_unread _ _) _).trans (by blk_point [iblk, V, e2, hR, hQ])
  have r3 : View.read (Elt Ideal) (ms0_3 m hO t).view ((hs0_3 m hO t).unread (iblk m hO c 3 t)) (ix3 0 r q) = m ((c : Thread nD τ).loc main_arg1) (ix3 (part d 3) R Q) :=
    (congrFun (Memref.IsWhole.read_unread _ _) _).trans (by blk_point [iblk, V, e3, hR, hQ])
  have r4 : View.read (Elt Ideal) (ms0_4 m hO t).view ((hs0_4 m hO t).unread (iblk m hO c 4 t)) (ix3 0 r q) = m ((c : Thread nD τ).loc main_arg1) (ix3 (part d 4) R Q) :=
    (congrFun (Memref.IsWhole.read_unread _ _) _).trans (by blk_point [iblk, V, e4, hR, hQ])
  have r5 : View.read (Elt Ideal) (ms0_5 m hO t).view ((hs0_5 m hO t).unread (iblk m hO c 5 t)) (ix3 0 r q) = m ((c : Thread nD τ).loc main_arg1) (ix3 (part d 5) R Q) :=
    (congrFun (Memref.IsWhole.read_unread _ _) _).trans (by blk_point [iblk, V, e5, hR, hQ])
  have r6 : View.read (Elt Ideal) (ms0_6 m hO t).view ((hs0_6 m hO t).unread (iblk m hO c 6 t)) (ix3 0 r q) = m ((c : Thread nD τ).loc main_arg1) (ix3 (part d 6) R Q) :=
    (congrFun (Memref.IsWhole.read_unread _ _) _).trans (by blk_point [iblk, V, e6, hR, hQ])
  have r7 : View.read (Elt Ideal) (ms0_7 m hO t).view ((hs0_7 m hO t).unread (iblk m hO c 7 t)) (ix3 0 r q) = m ((c : Thread nD τ).loc main_arg1) (ix3 (part d 7) R Q) :=
    (congrFun (Memref.IsWhole.read_unread _ _) _).trans (by blk_point [iblk, V, e7, hR, hQ])
  pointwise [grad, k0_pay4]
  refine Eq.trans (add8 r0 r1 r2 r3 r4 r5 r6 r7) ?_
  refine (sum d (fun j => m ((c : Thread nD τ).loc main_arg0) (ix3 j R Q)) (fun j => m ((c : Thread nD τ).loc main_arg1) (ix3 j R Q))).trans ?_
  refine Finset.sum_congr rfl fun j _ => ?_
  rw [me_at m c hd]
  exact (choose d j _ _).symm

theorem w_at (hO : Ok m) (c : Dev nD) (t : Fin (cfgM m hO).N) (y : S1x256x512.Idx) (R : Fin 1024) (Q : Fin 512)
    (hR : R.val = (grid0.coords t 0).val * 256 + (y 1).val) (hQ : Q.val = (y 2).val) :
    View.read (Elt Ideal) (ms0_8 m hO t).view ((hs0_8 m hO t).unread (iblk m hO c 8 t)) y = m ((c : Thread nD τ).loc main_arg3) (ix3 0 R Q) := by
  have e : ((cfgM m hO).win 8).index t = ![0, (grid0.coords t 0).val, 0] := cell _
  exact (congrFun (Memref.IsWhole.read_unread _ _) _).trans (by blk_point [iblk, V, e, hR, hQ])

theorem mo_at (hO : Ok m) (c : Dev nD) (t : Fin (cfgM m hO).N) (y : S1x256x512.Idx) (R : Fin 1024) (Q : Fin 512)
    (hR : R.val = (grid0.coords t 0).val * 256 + (y 1).val) (hQ : Q.val = (y 2).val) :
    View.read (Elt Ideal) (ms0_9 m hO t).view ((hs0_9 m hO t).unread (iblk m hO c 9 t)) y = m ((c : Thread nD τ).loc main_arg4) (ix3 0 R Q) := by
  have e : ((cfgM m hO).win 9).index t = ![0, (grid0.coords t 0).val, 0] := cell _
  exact (congrFun (Memref.IsWhole.read_unread _ _) _).trans (by blk_point [iblk, V, e, hR, hQ])

theorem v_at (hO : Ok m) (c : Dev nD) (t : Fin (cfgM m hO).N) (y : S1x256x512.Idx) (R : Fin 1024) (Q : Fin 512)
    (hR : R.val = (grid0.coords t 0).val * 256 + (y 1).val) (hQ : Q.val = (y 2).val) :
    View.read (Elt Ideal) (ms0_10 m hO t).view ((hs0_10 m hO t).unread (iblk m hO c 10 t)) y = m ((c : Thread nD τ).loc main_arg5) (ix3 0 R Q) := by
  have e : ((cfgM m hO).win 10).index t = ![0, (grid0.coords t 0).val, 0] := cell _
  exact (congrFun (Memref.IsWhole.read_unread _ _) _).trans (by blk_point [iblk, V, e, hR, hQ])

/-- An array of which the first layer is written holds the new layer and what it held before. -/
theorem put_eq (x : FVec Ideal Cert.Reference24Ideal.S1024x512 .f32) (old A : FVec Ideal S4x1024x512 .f32) (h : A = old) :
    (fun i : S4x1024x512.Idx => if (i 0 : ℕ) / 1 = 0 then x (ix2 (i 1) (i 2)) else A i) = put x old := by
  subst h
  funext i
  pointwise [put]
  exact (layer _ _ _ (Nat.lt_of_lt_of_le (i 0).isLt (by decide))).symm

theorem final11 (hO : Ok m) {d : Fin 8} (hd : tbl m = tab d) (c : Dev nD) :
    (dats m hO 0 c).arrAt 11 (cfgM m hO).N = put (grad (m ((c : Thread nD τ).loc main_arg0)) (m ((c : Thread nD τ).loc main_arg1)) (m ((c : Thread nD τ).loc main_arg2))) (m ((c : Thread nD τ).loc main_arg6)) := by
  refine Eq.trans ?_ (put_eq _ _ ((dats m hO 0 c).A 11) (by rw [A_eq]; rfl))
  refine (dats m hO 0 c).arrAt_eq_of_coversWhere 11 (fun i : S4x1024x512.Idx => (_ : FVec Ideal Cert.Reference24Ideal.S1024x512 .f32) (ix2 (i 1) (i 2))) (fun β => β (0 : Fin 3) = 0) (cov _) (fun t hf y => ?_) (fun j => Iff.rfl)
  blk_simp
  rw [after0_11]
  have e : ((pcfg0 (F := Ideal)).win (adm m hO) 11).index t = ![0, (grid0.coords t 0).val, 0] := cell _
  have e0 := congrFun e 1
  have e1 := congrFun e 2
  unfold outsAt0 out0_A_11
  rw [View.read_writes_junk_eq_canon]; frame_out
  pointwise [k0_pay7]
  exact grad_at m hO hd c t _ _ _ _ (by blk_simp; exact (tile e0 _ _).trans (by blk_simp)) (by blk_simp; exact (tile e1 _ _).trans (by blk_simp))

theorem final12 (hO : Ok m) {d : Fin 8} (hd : tbl m = tab d) (c : Dev nD) :
    (dats m hO 0 c).arrAt 12 (cfgM m hO).N = put (delta (grad (m ((c : Thread nD τ).loc main_arg0)) (m ((c : Thread nD τ).loc main_arg1)) (m ((c : Thread nD τ).loc main_arg2))) (first (m ((c : Thread nD τ).loc main_arg3))) (first (m ((c : Thread nD τ).loc main_arg4))) (first (m ((c : Thread nD τ).loc main_arg5)))) (m ((c : Thread nD τ).loc main_arg7)) := by
  refine Eq.trans ?_ (put_eq _ _ ((dats m hO 0 c).A 12) (by rw [A_eq]; rfl))
  refine (dats m hO 0 c).arrAt_eq_of_coversWhere 12 (fun i : S4x1024x512.Idx => (_ : FVec Ideal Cert.Reference24Ideal.S1024x512 .f32) (ix2 (i 1) (i 2))) (fun β => β (0 : Fin 3) = 0) (cov _) (fun t hf y => ?_) (fun j => Iff.rfl)
  blk_simp
  rw [after0_12]
  have e : ((pcfg0 (F := Ideal)).win (adm m hO) 12).index t = ![0, (grid0.coords t 0).val, 0] := cell _
  have e0 := congrFun e 1
  have e1 := congrFun e 2
  unfold outsAt0 out0_A_12
  rw [View.read_writes_junk_eq_canon]; frame_out
  pointwise [k0_pay8, k0_pay5, k0_pay6, delta, newM, newV, cst, first]
  exact change (grad_at m hO hd c t _ _ _ _ (by blk_simp; exact (tile e0 _ _).trans (by blk_simp)) (by blk_simp; exact (tile e1 _ _).trans (by blk_simp))) (w_at m hO c t y _ _ (by blk_simp; exact (tile e0 _ _).trans (by blk_simp)) (by blk_simp; exact (tile e1 _ _).trans (by blk_simp))) (mo_at m hO c t y _ _ (by blk_simp; exact (tile e0 _ _).trans (by blk_simp)) (by blk_simp; exact (tile e1 _ _).trans (by blk_simp))) (v_at m hO c t y _ _ (by blk_simp; exact (tile e0 _ _).trans (by blk_simp)) (by blk_simp; exact (tile e1 _ _).trans (by blk_simp)))

theorem final13 (hO : Ok m) {d : Fin 8} (hd : tbl m = tab d) (c : Dev nD) :
    (dats m hO 0 c).arrAt 13 (cfgM m hO).N = put (newM (grad (m ((c : Thread nD τ).loc main_arg0)) (m ((c : Thread nD τ).loc main_arg1)) (m ((c : Thread nD τ).loc main_arg2))) (first (m ((c : Thread nD τ).loc main_arg4)))) (m ((c : Thread nD τ).loc main_arg8)) := by
  refine Eq.trans ?_ (put_eq _ _ ((dats m hO 0 c).A 13) (by rw [A_eq]; rfl))
  refine (dats m hO 0 c).arrAt_eq_of_coversWhere 13 (fun i : S4x1024x512.Idx => (_ : FVec Ideal Cert.Reference24Ideal.S1024x512 .f32) (ix2 (i 1) (i 2))) (fun β => β (0 : Fin 3) = 0) (cov _) (fun t hf y => ?_) (fun j => Iff.rfl)
  blk_simp
  rw [after0_13]
  have e : ((pcfg0 (F := Ideal)).win (adm m hO) 13).index t = ![0, (grid0.coords t 0).val, 0] := cell _
  have e0 := congrFun e 1
  have e1 := congrFun e 2
  unfold outsAt0 out0_A_13
  rw [View.read_writes_junk_eq_canon]; frame_out
  pointwise [k0_pay1, k0_pay5, newM, cst, first]
  exact moment1 (grad_at m hO hd c t _ _ _ _ (by blk_simp; exact (tile e0 _ _).trans (by blk_simp)) (by blk_simp; exact (tile e1 _ _).trans (by blk_simp))) (mo_at m hO c t y _ _ (by blk_simp; exact (tile e0 _ _).trans (by blk_simp)) (by blk_simp; exact (tile e1 _ _).trans (by blk_simp)))

theorem final14 (hO : Ok m) {d : Fin 8} (hd : tbl m = tab d) (c : Dev nD) :
    (dats m hO 0 c).arrAt 14 (cfgM m hO).N = put (newV (grad (m ((c : Thread nD τ).loc main_arg0)) (m ((c : Thread nD τ).loc main_arg1)) (m ((c : Thread nD τ).loc main_arg2))) (first (m ((c : Thread nD τ).loc main_arg5)))) (m ((c : Thread nD τ).loc main_arg9)) := by
  refine Eq.trans ?_ (put_eq _ _ ((dats m hO 0 c).A 14) (by rw [A_eq]; rfl))
  refine (dats m hO 0 c).arrAt_eq_of_coversWhere 14 (fun i : S4x1024x512.Idx => (_ : FVec Ideal Cert.Reference24Ideal.S1024x512 .f32) (ix2 (i 1) (i 2))) (fun β => β (0 : Fin 3) = 0) (cov _) (fun t hf y => ?_) (fun j => Iff.rfl)
  blk_simp
  rw [after0_14]
  have e : ((pcfg0 (F := Ideal)).win (adm m hO) 14).index t = ![0, (grid0.coords t 0).val, 0] := cell _
  have e0 := congrFun e 1
  have e1 := congrFun e 2
  unfold outsAt0 out0_A_14
  rw [View.read_writes_junk_eq_canon]; frame_out
  pointwise [k0_pay2, k0_pay6, newV, cst, first]
  exact moment2 (grad_at m hO hd c t _ _ _ _ (by blk_simp; exact (tile e0 _ _).trans (by blk_simp)) (by blk_simp; exact (tile e1 _ _).trans (by blk_simp))) (v_at m hO c t y _ _ (by blk_simp; exact (tile e0 _ _).trans (by blk_simp)) (by blk_simp; exact (tile e1 _ _).trans (by blk_simp)))

theorem algebraic : Cert.algebraic_Kernel24Ideal_Reference24Ideal := fun m g m' g' hp e => by
  obtain ⟨d, hd⟩ := table m hp
  have hO := okM m hp
  refine ⟨fun c => put (grad (m ((c : Thread nD τ).loc main_arg0)) (m ((c : Thread nD τ).loc main_arg1)) (m ((c : Thread nD τ).loc main_arg2))) (m ((c : Thread nD τ).loc main_arg6)), fun c => put (delta (grad (m ((c : Thread nD τ).loc main_arg0)) (m ((c : Thread nD τ).loc main_arg1)) (m ((c : Thread nD τ).loc main_arg2))) (first (m ((c : Thread nD τ).loc main_arg3))) (first (m ((c : Thread nD τ).loc main_arg4))) (first (m ((c : Thread nD τ).loc main_arg5)))) (m ((c : Thread nD τ).loc main_arg7)),
    fun c => put (newM (grad (m ((c : Thread nD τ).loc main_arg0)) (m ((c : Thread nD τ).loc main_arg1)) (m ((c : Thread nD τ).loc main_arg2))) (first (m ((c : Thread nD τ).loc main_arg4)))) (m ((c : Thread nD τ).loc main_arg8)), fun c => put (newV (grad (m ((c : Thread nD τ).loc main_arg0)) (m ((c : Thread nD τ).loc main_arg1)) (m ((c : Thread nD τ).loc main_arg2))) (first (m ((c : Thread nD τ).loc main_arg5)))) (m ((c : Thread nD τ).loc main_arg9)),
    (θ_run defs _ _).mono (fun r h c => ?_) (θ_run_and (run_main m g hO) (unchanged m g hO)), (θ_run Cert.Reference24Ideal.defs _ _).mono (fun r h c => ?_) (Cert.Reference24Ideal.Value.run m' g')⟩
  · exact ⟨(h.1.out_eq c 11).trans (final11 m hO hd c), (h.1.out_eq c 12).trans (final12 m hO hd c), (h.1.out_eq c 13).trans (final13 m hO hd c),
      (h.1.out_eq c 14).trans (final14 m hO hd c), h.2 c⟩
  · obtain ⟨a0, a1, a2, a3, a4, a5, a6, a7, a8, a9⟩ := e c
    exact ⟨(h c).1.trans (by rw [a0, a1, a2, a6]; rfl), (h c).2.1.trans (by rw [a0, a1, a2, a3, a4, a5, a7]; rfl),
      (h c).2.2.1.trans (by rw [a0, a1, a2, a4, a8]; rfl), (h c).2.2.2.1.trans (by rw [a0, a1, a2, a5, a9]; rfl), (h c).2.2.2.2⟩

end Cert.Kernel24Ideal.Opt

end
-- ==== Proof.Opt.P25.lean ====
/- The optimiser's step on one layer of the feed-forward's second weight: the gradient's eight parts added, the change of the weight and
   the two moments; the other layers keep what they held. -/
module

public import proofs.«01_k».proof.Proof.Gen.Kernel25Ideal.Frame
public import proofs.«01_k».proof.Proof.Gen.Reference25Ideal.Run
public import proofs.«01_k».proof.Defs
public import proofs.«01_k».proof.Proof.Gen.Pre_ff_w2_device
public import proofs.«01_k».proof.Proof.Opt.Parts
public import Idealize.ShloMosaic.Lib.Pipeline.ValueKit

@[expose] public section

set_option maxRecDepth 16384

noncomputable section

namespace Cert.Kernel25Ideal.Opt

open Cert.Kernel25Ideal Cert.Kernel25Ideal.Gen Idealize.ShloMosaic Idealize.ShloMosaic.TcCoe Idealize.SL.Sem Cert.Parts

/-- Device `d`'s number as the contents of the one table. -/
def tab (d : Fin 8) : pre0.Contents (Elt Ideal) := fun | ⟨0, _⟩ => fun _ => num d | ⟨_ + 1, h⟩ => absurd h (by simp)

theorem ok : ∀ d : Fin 8, ok0 (F := Ideal) (tab d) := by decide +kernel

variable (m : (ℓ : Loc nD τ sig) → Buf (Elt Ideal) ℓ)

theorem table (hp : Cert.Pre_Kernel25Ideal m) : ∃ d : Fin 8, tbl m = tab d := by
  have e := congrFun (hp 0) (fun a => ⟨0, by revert a; decide⟩)
  simp only [Cert.Pre_ff_w2_device.fn] at e
  pointwise at e
  obtain ⟨d, hd⟩ := device _ e
  refine ⟨d, ?_⟩
  funext j x
  match j with
  | ⟨0, _⟩ =>
    exact (congrArg _ (only x _)).trans hd

theorem okM (hp : Cert.Pre_Kernel25Ideal m) : Ok m := by
  obtain ⟨d, hd⟩ := table m hp
  rw [Ok, hd]; exact ok d

theorem idx_tab : ∀ (d : Fin 8) (i : grid0.Coords),
    cc0_transform_0 Facts₀.inb_S1_S1_0 Facts₀.numel1_S1 (tab d) i = ![(part d 0).val, (i 0).val, 0] ∧
    cc0_transform_1 Facts₀.inb_S1_S1_0 Facts₀.numel1_S1 (tab d) i = ![(part d 1).val, (i 0).val, 0] ∧
    cc0_transform_2 Facts₀.inb_S1_S1_0 Facts₀.numel1_S1 (tab d) i = ![(part d 2).val, (i 0).val, 0] ∧
    cc0_transform_3 Facts₀.inb_S1_S1_0 Facts₀.numel1_S1 (tab d) i = ![(part d 3).val, (i 0).val, 0] ∧
    cc0_transform_4 Facts₀.inb_S1_S1_0 Facts₀.numel1_S1 (tab d) i = ![(part d 4).val, (i 0).val, 0] ∧
    cc0_transform_5 Facts₀.inb_S1_S1_0 Facts₀.numel1_S1 (tab d) i = ![(part d 5).val, (i 0).val, 0] ∧
    cc0_transform_6 Facts₀.inb_S1_S1_0 Facts₀.numel1_S1 (tab d) i = ![(part d 6).val, (i 0).val, 0] ∧
    cc0_transform_7 Facts₀.inb_S1_S1_0 Facts₀.numel1_S1 (tab d) i = ![(part d 7).val, (i 0).val, 0] := by
  decide +kernel

theorem idx (hO : Ok m) {d : Fin 8} (hd : tbl m = tab d) (t : Fin (cfgM m hO).N) :
    ((cfgM m hO).win 0).index t = ![(part d 0).val, (grid0.coords t 0).val, 0] ∧
    ((cfgM m hO).win 1).index t = ![(part d 1).val, (grid0.coords t 0).val, 0] ∧
    ((cfgM m hO).win 2).index t = ![(part d 2).val, (grid0.coords t 0).val, 0] ∧
    ((cfgM m hO).win 3).index t = ![(part d 3).val, (grid0.coords t 0).val, 0] ∧
    ((cfgM m hO).win 4).index t = ![(part d 4).val, (grid0.coords t 0).val, 0] ∧
    ((cfgM m hO).win 5).index t = ![(part d 5).val, (grid0.coords t 0).val, 0] ∧
    ((cfgM m hO).win 6).index t = ![(part d 6).val, (grid0.coords t 0).val, 0] ∧
    ((cfgM m hO).win 7).index t = ![(part d 7).val, (grid0.coords t 0).val, 0] := by
  refine ⟨?_, ?_, ?_, ?_, ?_, ?_, ?_, ?_⟩
  · exact (congrArg (fun pf => cc0_transform_0 (F := Ideal) Facts₀.inb_S1_S1_0 Facts₀.numel1_S1 pf (grid0.coords t)) hd).trans (idx_tab d (grid0.coords t)).1
  · exact (congrArg (fun pf => cc0_transform_1 (F := Ideal) Facts₀.inb_S1_S1_0 Facts₀.numel1_S1 pf (grid0.coords t)) hd).trans (idx_tab d (grid0.coords t)).2.1
  · exact (congrArg (fun pf => cc0_transform_2 (F := Ideal) Facts₀.inb_S1_S1_0 Facts₀.numel1_S1 pf (grid0.coords t)) hd).trans (idx_tab d (grid0.coords t)).2.2.1
  · exact (congrArg (fun pf => cc0_transform_3 (F := Ideal) Facts₀.inb_S1_S1_0 Facts₀.numel1_S1 pf (grid0.coords t)) hd).trans (idx_tab d (grid0.coords t)).2.2.2.1
  · exact (congrArg (fun pf => cc0_transform_4 (F := Ideal) Facts₀.inb_S1_S1_0 Facts₀.numel1_S1 pf (grid0.coords t)) hd).trans (idx_tab d (grid0.coords t)).2.2.2.2.1
  · exact (congrArg (fun pf => cc0_transform_5 (F := Ideal) Facts₀.inb_S1_S1_0 Facts₀.numel1_S1 pf (grid0.coords t)) hd).trans (idx_tab d (grid0.coords t)).2.2.2.2.2.1
  · exact (congrArg (fun pf => cc0_transform_6 (F := Ideal) Facts₀.inb_S1_S1_0 Facts₀.numel1_S1 pf (grid0.coords t)) hd).trans (idx_tab d (grid0.coords t)).2.2.2.2.2.2.1
  · exact (congrArg (fun pf => cc0_transform_7 (F := Ideal) Facts₀.inb_S1_S1_0 Facts₀.numel1_S1 pf (grid0.coords t)) hd).trans (idx_tab d (grid0.coords t)).2.2.2.2.2.2.2

theorem cov (a : (pcfg0 (F := Ideal)).Adm) : ((cfg0 a).win 11).CoversWhere (fun β => β (0 : Fin 3) = 0) :=
  (by decide +kernel : ((cfg0 ⟨tab 0, ok 0⟩).win 11).CoversWhere (fun β => β (0 : Fin 3) = 0))

/-- The gradient of the layer: the sum of the eight parts. -/
def grad (own land : FVec Ideal S8x512x1024 .bf16) (me : IVec S1 32) : FVec Ideal Cert.Reference25Ideal.S512x1024 .f32 :=
  Host.reduceAdd (extf .f32 (select (broadcastInDim S8x512x1024 ![0, 1, 2] Cert.Reference25Ideal.Facts₀.bcast_S8x1x1_S8x512x1024_0_1_2 (cmpi .eq (broadcastInDim Cert.Reference25Ideal.S8x1x1 ![0] Cert.Reference25Ideal.Facts₀.bcast_S8_S8x1x1_0 (iotaInDim Cert.Reference25Ideal.S8 32 0)) (broadcastInDim Cert.Reference25Ideal.S8x1x1 ![] Cert.Reference25Ideal.Facts₀.bcast_S_S8x1x1 (shapeCast _ me Cert.Reference25Ideal.Facts₀.shapeCasts_S1_S_)))) own land) Cert.Reference25Ideal.Facts₀.bitsLt_bf16_f32) (constant Cert.Reference25Ideal.S_ .f32 0x00000000#32) Cert.Reference25Ideal.Facts₀.reducesTo_S8x512x1024_S512x1024_d0 Cert.Reference25Ideal.Facts₀.h_S_

/-- The first layer. -/
def first (x : FVec Ideal S4x512x1024 .f32) : FVec Ideal Cert.Reference25Ideal.S512x1024 .f32 :=
  shapeCast _ (extractStridedSlice Cert.Reference25Ideal.S1x512x1024 ![0, 0, 0] x Cert.Reference25Ideal.Facts₀.slices_S4x512x1024_S1x512x1024_0_0_0) Cert.Reference25Ideal.Facts₀.shapeCasts_S1x512x1024_S512x1024

/-- The first layer replaced by `x`, the others as they were. -/
def put (x : FVec Ideal Cert.Reference25Ideal.S512x1024 .f32) (old : FVec Ideal S4x512x1024 .f32) : FVec Ideal S4x512x1024 .f32 :=
  select (broadcastInDim S4x512x1024 ![0, 1, 2] Cert.Reference25Ideal.Facts₀.bcast_S4x1x1_S4x512x1024_0_1_2 (cmpi .eq (broadcastInDim Cert.Reference25Ideal.S4x1x1 ![0] Cert.Reference25Ideal.Facts₀.bcast_S4_S4x1x1_0 (iotaInDim Cert.Reference25Ideal.S4 32 0)) (broadcastInDim Cert.Reference25Ideal.S4x1x1 ![] Cert.Reference25Ideal.Facts₀.bcast_S_S4x1x1 (constantI Cert.Reference25Ideal.S_ 32 0#32))))
    (broadcastInDim S4x512x1024 ![1, 2] Cert.Reference25Ideal.Facts₀.bcast_S512x1024_S4x512x1024_1_2 x) old

/-- A constant on every entry. -/
def cst (b : BitVec 32) : FVec Ideal Cert.Reference25Ideal.S512x1024 .f32 :=
  broadcastInDim Cert.Reference25Ideal.S512x1024 ![] Cert.Reference25Ideal.Facts₀.bcast_S_S512x1024 (constant Cert.Reference25Ideal.S_ .f32 b)

/-- The first moment after the step. -/
def newM (g mo : FVec Ideal Cert.Reference25Ideal.S512x1024 .f32) : FVec Ideal Cert.Reference25Ideal.S512x1024 .f32 := addf (mulf (cst 0x3F666666#32) mo) (mulf (cst 0x3DCCCCCD#32) g)

/-- The second moment after the step. -/
def newV (g v : FVec Ideal Cert.Reference25Ideal.S512x1024 .f32) : FVec Ideal Cert.Reference25Ideal.S512x1024 .f32 := addf (mulf (cst 0x3F7FBE77#32) v) (mulf (cst 0x3A83126F#32) (mulf g g))

/-- The change of the weight. -/
def delta (g w mo v : FVec Ideal Cert.Reference25Ideal.S512x1024 .f32) : FVec Ideal Cert.Reference25Ideal.S512x1024 .f32 :=
  mulf (cst 0xBA83126F#32) (addf (Host.divf (Host.divf (newM g mo) (cst 0x3F26BD02#32))
    (addf (Host.sqrt (Host.divf (newV g v) (cst 0x3C231ACC#32))) (cst 0x322BCC77#32))) (mulf (cst 0x3C23D70A#32) w))

theorem cell : ∀ i : grid0.Coords, cc0_transform_15 i = ![0, (i 0).val, 0] := by decide +kernel

theorem me_at (c : Dev nD) {d : Fin 8} (hd : tbl m = tab d) (x : S1.Idx) : m ((c : Thread nD τ).loc main_arg2) x = num d := by
  obtain rfl : c = 0 := Subsingleton.elim _ _
  exact congrFun (congrFun hd 0) x

theorem grad_at (hO : Ok m) {d : Fin 8} (hd : tbl m = tab d) (c : Dev nD) (t : Fin (cfgM m hO).N) (r : Fin 256) (R : Fin 512) (q Q : Fin 1024)
    (hR : R.val = (grid0.coords t 0).val * 256 + r.val) (hQ : Q.val = q.val) :
    k0_pay4 (View.read (Elt Ideal) (ms0_0 m hO t).view ((hs0_0 m hO t).unread (iblk m hO c 0 t))) (View.read (Elt Ideal) (ms0_1 m hO t).view ((hs0_1 m hO t).unread (iblk m hO c 1 t))) (View.read (Elt Ideal) (ms0_2 m hO t).view ((hs0_2 m hO t).unread (iblk m hO c 2 t))) (View.read (Elt Ideal) (ms0_3 m hO t).view ((hs0_3 m hO t).unread (iblk m hO c 3 t))) (View.read (Elt Ideal) (ms0_4 m hO t).view ((hs0_4 m hO t).unread (iblk m hO c 4 t))) (View.read (Elt Ideal) (ms0_5 m hO t).view ((hs0_5 m hO t).unread (iblk m hO c 5 t))) (View.read (Elt Ideal) (ms0_6 m hO t).view ((hs0_6 m hO t).unread (iblk m hO c 6 t))) (View.read (Elt Ideal) (ms0_7 m hO t).view ((hs0_7 m hO t).unread (iblk m hO c 7 t))) (ix2 r q)
      = grad (m ((c : Thread nD τ).loc main_arg0)) (m ((c : Thread nD τ).loc main_arg1)) (m ((c : Thread nD τ).loc main_arg2)) (ix2 R Q) := by
  obtain ⟨e0, e1, e2, e3, e4, e5, e6, e7⟩ := idx m hO hd t
  have r0 : View.read (Elt Ideal) (ms0_0 m hO t).view ((hs0_0 m hO t).unread (iblk m hO c 0 t)) (ix3 0 r q) = m ((c : Thread nD τ).loc main_arg0) (ix3 (part d 0) R Q) :=
    (congrFun (Memref.IsWhole.read_unread _ _) _).trans (by blk_point [iblk, V, e0, hR, hQ])
  have r1 : View.read (Elt Ideal) (ms0_1 m hO t).view ((hs0_1 m hO t).unread (iblk m hO c 1 t)) (ix3 0 r q) = m ((c : Thread nD τ).loc main_arg1) (ix3 (part d 1) R Q) :=
    (congrFun (Memref.IsWhole.read_unread _ _) _).trans (by blk_point [iblk, V, e1, hR, hQ])
  have r2 : View.read (Elt Ideal) (ms0_2 m hO t).view ((hs0_2 m hO t).unread (iblk m hO c 2 t)) (ix3 0 r q) = m ((c : Thread nD τ).loc main_arg1) (ix3 (part d 2) R Q) :=
    (congrFun (Memref.IsWhole.read_unread _ _) _).trans (by blk_point [iblk, V, e2, hR, hQ])
  have r3 : View.read (Elt Ideal) (ms0_3 m hO t).view ((hs0_3 m hO t).unread (iblk m hO c 3 t)) (ix3 0 r q) = m ((c : Thread nD τ).loc main_arg1) (ix3 (part d 3) R Q) :=
    (congrFun (Memref.IsWhole.read_unread _ _) _).trans (by blk_point [iblk, V, e3, hR, hQ])
  have r4 : View.read (Elt Ideal) (ms0_4 m hO t).view ((hs0_4 m hO t).unread (iblk m hO c 4 t)) (ix3 0 r q) = m ((c : Thread nD τ).loc main_arg1) (ix3 (part d 4) R Q) :=
    (congrFun (Memref.IsWhole.read_unread _ _) _).trans (by blk_point [iblk, V, e4, hR, hQ])
  have r5 : View.read (Elt Ideal) (ms0_5 m hO t).view ((hs0_5 m hO t).unread (iblk m hO c 5 t)) (ix3 0 r q) = m ((c : Thread nD τ).loc main_arg1) (ix3 (part d 5) R Q) :=
    (congrFun (Memref.IsWhole.read_unread _ _) _).trans (by blk_point [iblk, V, e5, hR, hQ])
  have r6 : View.read (Elt Ideal) (ms0_6 m hO t).view ((hs0_6 m hO t).unread (iblk m hO c 6 t)) (ix3 0 r q) = m ((c : Thread nD τ).loc main_arg1) (ix3 (part d 6) R Q) :=
    (congrFun (Memref.IsWhole.read_unread _ _) _).trans (by blk_point [iblk, V, e6, hR, hQ])
  have r7 : View.read (Elt Ideal) (ms0_7 m hO t).view ((hs0_7 m hO t).unread (iblk m hO c 7 t)) (ix3 0 r q) = m ((c : Thread nD τ).loc main_arg1) (ix3 (part d 7) R Q) :=
    (congrFun (Memref.IsWhole.read_unread _ _) _).trans (by blk_point [iblk, V, e7, hR, hQ])
  pointwise [grad, k0_pay4]
  refine Eq.trans (add8 r0 r1 r2 r3 r4 r5 r6 r7) ?_
  refine (sum d (fun j => m ((c : Thread nD τ).loc main_arg0) (ix3 j R Q)) (fun j => m ((c : Thread nD τ).loc main_arg1) (ix3 j R Q))).trans ?_
  refine Finset.sum_congr rfl fun j _ => ?_
  rw [me_at m c hd]
  exact (choose d j _ _).symm

theorem w_at (hO : Ok m) (c : Dev nD) (t : Fin (cfgM m hO).N) (y : S1x256x1024.Idx) (R : Fin 512) (Q : Fin 1024)
    (hR : R.val = (grid0.coords t 0).val * 256 + (y 1).val) (hQ : Q.val = (y 2).val) :
    View.read (Elt Ideal) (ms0_8 m hO t).view ((hs0_8 m hO t).unread (iblk m hO c 8 t)) y = m ((c : Thread nD τ).loc main_arg3) (ix3 0 R Q) := by
  have e : ((cfgM m hO).win 8).index t = ![0, (grid0.coords t 0).val, 0] := cell _
  exact (congrFun (Memref.IsWhole.read_unread _ _) _).trans (by blk_point [iblk, V, e, hR, hQ])

theorem mo_at (hO : Ok m) (c : Dev nD) (t : Fin (cfgM m hO).N) (y : S1x256x1024.Idx) (R : Fin 512) (Q : Fin 1024)
    (hR : R.val = (grid0.coords t 0).val * 256 + (y 1).val) (hQ : Q.val = (y 2).val) :
    View.read (Elt Ideal) (ms0_9 m hO t).view ((hs0_9 m hO t).unread (iblk m hO c 9 t)) y = m ((c : Thread nD τ).loc main_arg4) (ix3 0 R Q) := by
  have e : ((cfgM m hO).win 9).index t = ![0, (grid0.coords t 0).val, 0] := cell _
  exact (congrFun (Memref.IsWhole.read_unread _ _) _).trans (by blk_point [iblk, V, e, hR, hQ])

theorem v_at (hO : Ok m) (c : Dev nD) (t : Fin (cfgM m hO).N) (y : S1x256x1024.Idx) (R : Fin 512) (Q : Fin 1024)
    (hR : R.val = (grid0.coords t 0).val * 256 + (y 1).val) (hQ : Q.val = (y 2).val) :
    View.read (Elt Ideal) (ms0_10 m hO t).view ((hs0_10 m hO t).unread (iblk m hO c 10 t)) y = m ((c : Thread nD τ).loc main_arg5) (ix3 0 R Q) := by
  have e : ((cfgM m hO).win 10).index t = ![0, (grid0.coords t 0).val, 0] := cell _
  exact (congrFun (Memref.IsWhole.read_unread _ _) _).trans (by blk_point [iblk, V, e, hR, hQ])

/-- An array of which the first layer is written holds the new layer and what it held before. -/
theorem put_eq (x : FVec Ideal Cert.Reference25Ideal.S512x1024 .f32) (old A : FVec Ideal S4x512x1024 .f32) (h : A = old) :
    (fun i : S4x512x1024.Idx => if (i 0 : ℕ) / 1 = 0 then x (ix2 (i 1) (i 2)) else A i) = put x old := by
  subst h
  funext i
  pointwise [put]
  exact (layer _ _ _ (Nat.lt_of_lt_of_le (i 0).isLt (by decide))).symm

theorem final11 (hO : Ok m) {d : Fin 8} (hd : tbl m = tab d) (c : Dev nD) :
    (dats m hO 0 c).arrAt 11 (cfgM m hO).N = put (grad (m ((c : Thread nD τ).loc main_arg0)) (m ((c : Thread nD τ).loc main_arg1)) (m ((c : Thread nD τ).loc main_arg2))) (m ((c : Thread nD τ).loc main_arg6)) := by
  refine Eq.trans ?_ (put_eq _ _ ((dats m hO 0 c).A 11) (by rw [A_eq]; rfl))
  refine (dats m hO 0 c).arrAt_eq_of_coversWhere 11 (fun i : S4x512x1024.Idx => (_ : FVec Ideal Cert.Reference25Ideal.S512x1024 .f32) (ix2 (i 1) (i 2))) (fun β => β (0 : Fin 3) = 0) (cov _) (fun t hf y => ?_) (fun j => Iff.rfl)
  blk_simp
  rw [after0_11]
  have e : ((pcfg0 (F := Ideal)).win (adm m hO) 11).index t = ![0, (grid0.coords t 0).val, 0] := cell _
  have e0 := congrFun e 1
  have e1 := congrFun e 2
  unfold outsAt0 out0_A_11
  rw [View.read_writes_junk_eq_canon]; frame_out
  pointwise [k0_pay7]
  exact grad_at m hO hd c t _ _ _ _ (by blk_simp; exact (tile e0 _ _).trans (by blk_simp)) (by blk_simp; exact (tile e1 _ _).trans (by blk_simp))

theorem final12 (hO : Ok m) {d : Fin 8} (hd : tbl m = tab d) (c : Dev nD) :
    (dats m hO 0 c).arrAt 12 (cfgM m hO).N = put (delta (grad (m ((c : Thread nD τ).loc main_arg0)) (m ((c : Thread nD τ).loc main_arg1)) (m ((c : Thread nD τ).loc main_arg2))) (first (m ((c : Thread nD τ).loc main_arg3))) (first (m ((c : Thread nD τ).loc main_arg4))) (first (m ((c : Thread nD τ).loc main_arg5)))) (m ((c : Thread nD τ).loc main_arg7)) := by
  refine Eq.trans ?_ (put_eq _ _ ((dats m hO 0 c).A 12) (by rw [A_eq]; rfl))
  refine (dats m hO 0 c).arrAt_eq_of_coversWhere 12 (fun i : S4x512x1024.Idx => (_ : FVec Ideal Cert.Reference25Ideal.S512x1024 .f32) (ix2 (i 1) (i 2))) (fun β => β (0 : Fin 3) = 0) (cov _) (fun t hf y => ?_) (fun j => Iff.rfl)
  blk_simp
  rw [after0_12]
  have e : ((pcfg0 (F := Ideal)).win (adm m hO) 12).index t = ![0, (grid0.coords t 0).val, 0] := cell _
  have e0 := congrFun e 1
  have e1 := congrFun e 2
  unfold outsAt0 out0_A_12
  rw [View.read_writes_junk_eq_canon]; frame_out
  pointwise [k0_pay8, k0_pay5, k0_pay6, delta, newM, newV, cst, first]
  exact change (grad_at m hO hd c t _ _ _ _ (by blk_simp; exact (tile e0 _ _).trans (by blk_simp)) (by blk_simp; exact (tile e1 _ _).trans (by blk_simp))) (w_at m hO c t y _ _ (by blk_simp; exact (tile e0 _ _).trans (by blk_simp)) (by blk_simp; exact (tile e1 _ _).trans (by blk_simp))) (mo_at m hO c t y _ _ (by blk_simp; exact (tile e0 _ _).trans (by blk_simp)) (by blk_simp; exact (tile e1 _ _).trans (by blk_simp))) (v_at m hO c t y _ _ (by blk_simp; exact (tile e0 _ _).trans (by blk_simp)) (by blk_simp; exact (tile e1 _ _).trans (by blk_simp)))

theorem final13 (hO : Ok m) {d : Fin 8} (hd : tbl m = tab d) (c : Dev nD) :
    (dats m hO 0 c).arrAt 13 (cfgM m hO).N = put (newM (grad (m ((c : Thread nD τ).loc main_arg0)) (m ((c : Thread nD τ).loc main_arg1)) (m ((c : Thread nD τ).loc main_arg2))) (first (m ((c : Thread nD τ).loc main_arg4)))) (m ((c : Thread nD τ).loc main_arg8)) := by
  refine Eq.trans ?_ (put_eq _ _ ((dats m hO 0 c).A 13) (by rw [A_eq]; rfl))
  refine (dats m hO 0 c).arrAt_eq_of_coversWhere 13 (fun i : S4x512x1024.Idx => (_ : FVec Ideal Cert.Reference25Ideal.S512x1024 .f32) (ix2 (i 1) (i 2))) (fun β => β (0 : Fin 3) = 0) (cov _) (fun t hf y => ?_) (fun j => Iff.rfl)
  blk_simp
  rw [after0_13]
  have e : ((pcfg0 (F := Ideal)).win (adm m hO) 13).index t = ![0, (grid0.coords t 0).val, 0] := cell _
  have e0 := congrFun e 1
  have e1 := congrFun e 2
  unfold outsAt0 out0_A_13
  rw [View.read_writes_junk_eq_canon]; frame_out
  pointwise [k0_pay1, k0_pay5, newM, cst, first]
  exact moment1 (grad_at m hO hd c t _ _ _ _ (by blk_simp; exact (tile e0 _ _).trans (by blk_simp)) (by blk_simp; exact (tile e1 _ _).trans (by blk_simp))) (mo_at m hO c t y _ _ (by blk_simp; exact (tile e0 _ _).trans (by blk_simp)) (by blk_simp; exact (tile e1 _ _).trans (by blk_simp)))

theorem final14 (hO : Ok m) {d : Fin 8} (hd : tbl m = tab d) (c : Dev nD) :
    (dats m hO 0 c).arrAt 14 (cfgM m hO).N = put (newV (grad (m ((c : Thread nD τ).loc main_arg0)) (m ((c : Thread nD τ).loc main_arg1)) (m ((c : Thread nD τ).loc main_arg2))) (first (m ((c : Thread nD τ).loc main_arg5)))) (m ((c : Thread nD τ).loc main_arg9)) := by
  refine Eq.trans ?_ (put_eq _ _ ((dats m hO 0 c).A 14) (by rw [A_eq]; rfl))
  refine (dats m hO 0 c).arrAt_eq_of_coversWhere 14 (fun i : S4x512x1024.Idx => (_ : FVec Ideal Cert.Reference25Ideal.S512x1024 .f32) (ix2 (i 1) (i 2))) (fun β => β (0 : Fin 3) = 0) (cov _) (fun t hf y => ?_) (fun j => Iff.rfl)
  blk_simp
  rw [after0_14]
  have e : ((pcfg0 (F := Ideal)).win (adm m hO) 14).index t = ![0, (grid0.coords t 0).val, 0] := cell _
  have e0 := congrFun e 1
  have e1 := congrFun e 2
  unfold outsAt0 out0_A_14
  rw [View.read_writes_junk_eq_canon]; frame_out
  pointwise [k0_pay2, k0_pay6, newV, cst, first]
  exact moment2 (grad_at m hO hd c t _ _ _ _ (by blk_simp; exact (tile e0 _ _).trans (by blk_simp)) (by blk_simp; exact (tile e1 _ _).trans (by blk_simp))) (v_at m hO c t y _ _ (by blk_simp; exact (tile e0 _ _).trans (by blk_simp)) (by blk_simp; exact (tile e1 _ _).trans (by blk_simp)))

theorem algebraic : Cert.algebraic_Kernel25Ideal_Reference25Ideal := fun m g m' g' hp e => by
  obtain ⟨d, hd⟩ := table m hp
  have hO := okM m hp
  refine ⟨fun c => put (grad (m ((c : Thread nD τ).loc main_arg0)) (m ((c : Thread nD τ).loc main_arg1)) (m ((c : Thread nD τ).loc main_arg2))) (m ((c : Thread nD τ).loc main_arg6)), fun c => put (delta (grad (m ((c : Thread nD τ).loc main_arg0)) (m ((c : Thread nD τ).loc main_arg1)) (m ((c : Thread nD τ).loc main_arg2))) (first (m ((c : Thread nD τ).loc main_arg3))) (first (m ((c : Thread nD τ).loc main_arg4))) (first (m ((c : Thread nD τ).loc main_arg5)))) (m ((c : Thread nD τ).loc main_arg7)),
    fun c => put (newM (grad (m ((c : Thread nD τ).loc main_arg0)) (m ((c : Thread nD τ).loc main_arg1)) (m ((c : Thread nD τ).loc main_arg2))) (first (m ((c : Thread nD τ).loc main_arg4)))) (m ((c : Thread nD τ).loc main_arg8)), fun c => put (newV (grad (m ((c : Thread nD τ).loc main_arg0)) (m ((c : Thread nD τ).loc main_arg1)) (m ((c : Thread nD τ).loc main_arg2))) (first (m ((c : Thread nD τ).loc main_arg5)))) (m ((c : Thread nD τ).loc main_arg9)),
    (θ_run defs _ _).mono (fun r h c => ?_) (θ_run_and (run_main m g hO) (unchanged m g hO)), (θ_run Cert.Reference25Ideal.defs _ _).mono (fun r h c => ?_) (Cert.Reference25Ideal.Value.run m' g')⟩
  · exact ⟨(h.1.out_eq c 11).trans (final11 m hO hd c), (h.1.out_eq c 12).trans (final12 m hO hd c), (h.1.out_eq c 13).trans (final13 m hO hd c),
      (h.1.out_eq c 14).trans (final14 m hO hd c), h.2 c⟩
  · obtain ⟨a0, a1, a2, a3, a4, a5, a6, a7, a8, a9⟩ := e c
    exact ⟨(h c).1.trans (by rw [a0, a1, a2, a6]; rfl), (h c).2.1.trans (by rw [a0, a1, a2, a3, a4, a5, a7]; rfl),
      (h c).2.2.1.trans (by rw [a0, a1, a2, a4, a8]; rfl), (h c).2.2.2.1.trans (by rw [a0, a1, a2, a5, a9]; rfl), (h c).2.2.2.2⟩

end Cert.Kernel25Ideal.Opt

end
-- ==== Proof.Opt.Norm.lean ====
/- A row of a normalisation, over the reals extended by infinities. -/
module

public import Idealize.ShloMosaic.Lib.Pipeline.ValueKit

@[expose] public section

noncomputable section

namespace Cert.Norm

open Idealize.ShloMosaic

/-- A row less its mean. -/
def centred (a : Fin 1024 → EReal) (q : Fin 1024) : EReal := a q - Ideal.div (∑ k, a k) (Ideal.ofBits .f32 0x44800000#32)

/-- A row normalised. -/
def unit (a : Fin 1024 → EReal) (q : Fin 1024) : EReal :=
  centred a q * Ideal.rsqrt (Ideal.div (∑ k, centred a k * centred a k) (Ideal.ofBits .f32 0x44800000#32) + Ideal.ofBits .f32 0x3727C5AC#32)

/-- The gradient of `y` times its logistic. -/
def swish (y d : EReal) : EReal := d * Ideal.logistic y + y * d * (Ideal.logistic y * (1 - Ideal.logistic y))

/-- The gradient that reaches a normalised row after its gain and bias, at one entry; and that times the normalised entry. -/
def bias (a d g b : Fin 1024 → EReal) (q : Fin 1024) : EReal := swish (unit a q * g q + b q) (d q)
def gain (a d g b : Fin 1024 → EReal) (q : Fin 1024) : EReal := unit a q * bias a d g b q

/-- A row of the last normalisation's input, a row of the output less the target, and the gradients of the bias and of the gain at
    one entry, for the mean of the squares. -/
def mix (x y md : Fin 1024 → EReal) (q : Fin 1024) : EReal := Ideal.ofBits .f32 0x3FD744FD#32 * x q + (1 + md q) * y q
def miss (x y tg md g b : Fin 1024 → EReal) (q : Fin 1024) : EReal := unit (mix x y md) q * g q + b q - tg q
def lastBias (x y tg md g b : Fin 1024 → EReal) (q : Fin 1024) : EReal := miss x y tg md g b q * Ideal.ofBits .f32 0x3A800000#32
def lastGain (x y tg md g b : Fin 1024 → EReal) (q : Fin 1024) : EReal := unit (mix x y md) q * lastBias x y tg md g b q

/-- Half of a 1024th of twice an error is a 1024th of the error. -/
theorem mean_grad (e : EReal) :
    Ideal.div (Ideal.ofBits .f32 0x3F000000#32) (Ideal.ofBits .f32 0x44800000#32) * (Ideal.ofBits .f32 0x40000000#32 * e) = e * Ideal.ofBits .f32 0x3A800000#32 := by
  have h0 : Ideal.ofBits .f32 0x3F000000#32 = ((1 / 2 : ℝ) : EReal) := by
    simp [Ideal.ofBits, Ideal.ieee, -EReal.coe_mul]; norm_num
  have h1 : Ideal.ofBits .f32 0x44800000#32 = ((1024 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h3 : Ideal.ofBits .f32 0x3A800000#32 = ((1 / 1024 : ℝ) : EReal) := by
    simp [Ideal.ofBits, Ideal.ieee, -EReal.coe_mul]; norm_num
  rw [h0, h1, h2, h3, Ideal.div, if_neg (EReal.coe_ne_zero.mpr (by norm_num)), ← EReal.coe_inv, ← EReal.coe_mul, ← mul_assoc, ← EReal.coe_mul, mul_comm e]
  norm_num

theorem mean_gain (x e : EReal) : x * (Ideal.div (Ideal.ofBits .f32 0x3F000000#32) (Ideal.ofBits .f32 0x44800000#32) * (Ideal.ofBits .f32 0x40000000#32 * e)) = x * (e * Ideal.ofBits .f32 0x3A800000#32) :=
  congrArg (x * ·) (mean_grad e)

end Cert.Norm

end
-- ==== Proof.Opt.P26.lean ====
/- The gradients of the gain and the bias of the convolution layer's normalisation, summed over the rows 512 at a time. -/
module

public import proofs.«01_k».proof.Proof.Gen.Kernel26Ideal.Value
public import proofs.«01_k».proof.Proof.Gen.Reference26Ideal.Run
public import proofs.«01_k».proof.Defs
public import proofs.«01_k».proof.Proof.Opt.Blocks
public import proofs.«01_k».proof.Proof.Opt.Norm
public import Idealize.ShloMosaic.Lib.Pipeline.ValueKit

@[expose] public section

set_option maxRecDepth 16384

noncomputable section

namespace Cert.Kernel26Ideal.Opt

open Cert.Kernel26Ideal Cert.Kernel26Ideal.Gen Idealize.ShloMosaic Idealize.ShloMosaic.TcCoe Idealize.SL.Sem

variable (m : (ℓ : Loc nD τ sig) → Buf (Elt Ideal) ℓ)

/-- A function of a row of each argument and of a column. -/
abbrev Entry := (Fin 1024 → EReal) → (Fin 1024 → EReal) → (Fin 1024 → EReal) → (Fin 1024 → EReal) → Fin 1024 → EReal

/-- Its entries in column `q`, and their sum over the rows, as an array. -/
def column (f : Entry) (x d : FVec Ideal S2048x1024 .f32) (g b : FVec Ideal S1x1024 .f32) (q : Fin 1024) (r : Fin 2048) : EReal :=
  f (fun k => x (ix2 r k)) (fun k => d (ix2 r k)) (fun k => g (ix2 0 k)) (fun k => b (ix2 0 k)) q
def cols (f : Entry) (x d : FVec Ideal S2048x1024 .f32) (g b : FVec Ideal S1x1024 .f32) : FVec Ideal S1x1024 .f32 :=
  fun y => ∑ r, column f x d g b (y 1) r

theorem idx (t : Fin cfg0.N) : win0_0.index t = ![t.val, 0] ∧ win0_1.index t = ![t.val, 0] ∧ win0_2.index t = ![0, 0] ∧ win0_3.index t = ![0, 0] :=
  (by decide +kernel : ∀ t : Fin grid0.N, win0_0.index t = ![t.val, 0] ∧ win0_1.index t = ![t.val, 0] ∧ win0_2.index t = ![0, 0] ∧ win0_3.index t = ![0, 0]) t

theorem lt_rows (t : Fin cfg0.N) (k : Fin 512) : t.val * 512 + k.val < 2048 := by
  have hN : t.val < 4 := lt_of_lt_of_eq t.isLt (show cfg0.N = 4 from N_0)
  omega

/-- The entries of `f` on the device's arrays, in column `q`. -/
def entries (f : Entry) (c : Dev nD) (q : Fin 1024) : Fin 2048 → EReal :=
  column f (m ((c : Thread nD τ).loc main_arg0)) (m ((c : Thread nD τ).loc main_arg1)) (m ((c : Thread nD τ).loc main_arg2)) (m ((c : Thread nD τ).loc main_arg3)) q

theorem entry_congr (f : Entry) {x x' d d' g g' b b' : Fin 1024 → EReal} (hx : ∀ q, x q = x' q) (hd : ∀ q, d q = d' q)
    (hg : ∀ q, g q = g' q) (hb : ∀ q, b q = b' q) (q : Fin 1024) : f x d g b q = f x' d' g' b' q := by
  obtain rfl := funext hx; obtain rfl := funext hd; obtain rfl := funext hg; obtain rfl := funext hb
  rfl

theorem entry_at (f : Entry) (c : Dev nD) (t : Fin cfg0.N) (k : Fin 512) (q : Fin 1024) :
    f (fun q => iblk m c 0 t (ix2 k q)) (fun q => iblk m c 1 t (ix2 k q)) (fun q => iblk m c 2 t (ix2 0 q)) (fun q => iblk m c 3 t (ix2 0 q)) q
      = Sums.ext (entries m f c q) (t.val * 512 + k.val) := by
  obtain ⟨e0, e1, e2, e3⟩ := idx t
  rw [Sums.ext_at (entries m f c q) _ (lt_rows t k)]
  refine entry_congr f (fun q => ?_) (fun q => ?_) (fun q => ?_) (fun q => ?_) q
  · blk_point [iblk, V, e0]
  · blk_point [iblk, V, e1]
  · blk_point [iblk, V, e2]
  · blk_point [iblk, V, e3]

theorem gain_A (c : Dev nD) (t : Fin cfg0.N) (h0 : t.val % 4 = 0) (h1 : ¬1 ≤ t.val) (y : S1x1024.Idx) :
    (outsAt0 m c t.val t.isLt).2.1 y = ∑ k : Fin 512, Sums.ext (entries m Norm.gain c (y 1)) (t.val * 512 + k.val) := by
  rw [outsAt0_A m c t h0 h1]
  unfold out0_A_5
  rw [View.read_writes_junk_eq_canon]; frame_out
  pointwise [k0_pay1, k0_pay15, k0_pay13, k0_pay12, k0_pay10, k0_pay9, k0_pay8, k0_pay6, k0_pay5]
  exact Finset.sum_congr rfl fun k _ => entry_at m Norm.gain c t k _

theorem gain_B (c : Dev nD) (t : Fin cfg0.N) (h0 : ¬t.val % 4 = 0) (h1 : 1 ≤ t.val) (y : S1x1024.Idx) :
    (outsAt0 m c t.val t.isLt).2.1 y = (outsAt0 m c (t.val - 1) (Nat.lt_of_le_of_lt (Nat.sub_le _ _) t.isLt)).2.1 y + ∑ k : Fin 512, Sums.ext (entries m Norm.gain c (y 1)) (t.val * 512 + k.val) := by
  rw [outsAt0_B m c t h0 h1]
  unfold out0_B_5
  rw [View.read_writes_junk_eq_canon]; frame_out
  pointwise [k0_pay3, k0_pay1, k0_pay15, k0_pay13, k0_pay12, k0_pay10, k0_pay9, k0_pay8, k0_pay6, k0_pay5]
  exact congrArg (_ + ·) (Finset.sum_congr rfl fun k _ => entry_at m Norm.gain c t k _)

theorem bias_A (c : Dev nD) (t : Fin cfg0.N) (h0 : t.val % 4 = 0) (h1 : ¬1 ≤ t.val) (y : S1x1024.Idx) :
    (outsAt0 m c t.val t.isLt).2.2 y = ∑ k : Fin 512, Sums.ext (entries m Norm.bias c (y 1)) (t.val * 512 + k.val) := by
  rw [outsAt0_A m c t h0 h1]
  unfold out0_A_6
  rw [View.read_writes_junk_eq_canon]; frame_out
  pointwise [k0_pay14, k0_pay13, k0_pay12, k0_pay10, k0_pay9, k0_pay8, k0_pay6, k0_pay5]
  exact Finset.sum_congr rfl fun k _ => entry_at m Norm.bias c t k _

theorem bias_B (c : Dev nD) (t : Fin cfg0.N) (h0 : ¬t.val % 4 = 0) (h1 : 1 ≤ t.val) (y : S1x1024.Idx) :
    (outsAt0 m c t.val t.isLt).2.2 y = (outsAt0 m c (t.val - 1) (Nat.lt_of_le_of_lt (Nat.sub_le _ _) t.isLt)).2.2 y + ∑ k : Fin 512, Sums.ext (entries m Norm.bias c (y 1)) (t.val * 512 + k.val) := by
  rw [outsAt0_B m c t h0 h1]
  unfold out0_B_6
  rw [View.read_writes_junk_eq_canon]; frame_out
  pointwise [k0_pay4, k0_pay14, k0_pay13, k0_pay12, k0_pay10, k0_pay9, k0_pay8, k0_pay6, k0_pay5]
  exact congrArg (_ + ·) (Finset.sum_congr rfl fun k _ => entry_at m Norm.bias c t k _)

theorem lt4 {n : ℕ} (h : n + 1 < cfg0.N) : n + 1 < 4 := lt_of_lt_of_eq h (show cfg0.N = 4 from N_0)

theorem last5 (t : Fin cfg0.N) (hf : (cfg0.win 5).flush t = true) : t.val = 3 ∧ win0_5.index t = ![0, 0] :=
  (by decide +kernel : ∀ t : Fin grid0.N, (cfg0.win 5).flush t = true → t.val = 3 ∧ win0_5.index t = ![0, 0]) t hf

theorem last6 (t : Fin cfg0.N) (hf : (cfg0.win 6).flush t = true) : t.val = 3 ∧ win0_6.index t = ![0, 0] :=
  (by decide +kernel : ∀ t : Fin grid0.N, (cfg0.win 6).flush t = true → t.val = 3 ∧ win0_6.index t = ![0, 0]) t hf

theorem final5 (c : Dev nD) : (dats m 0 c).arrAt 5 cfg0.N = cols Norm.gain (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨ht, e⟩ := last5 t hf
  blk_simp
  rw [after0_5, Sums.grow 512 (Sums.ext (entries m Norm.gain c (y 1))) (fun n h => (outsAt0 m c n h).2.1 y)
    (fun h => gain_A m c ⟨0, h⟩ rfl (Nat.not_succ_le_zero 0) y)
    (fun n h => gain_B m c ⟨n + 1, h⟩ (by have := lt4 h; dsimp only; omega) (by dsimp only; omega) y) t.val t.isLt, ht]
  refine (Sums.all (entries m Norm.gain c (y 1))).trans ?_
  exact congrArg (fun q => ∑ r, column _ _ _ _ _ q r) (Fin.ext (by blk_simp; simp [e]))

theorem final6 (c : Dev nD) : (dats m 0 c).arrAt 6 cfg0.N = cols Norm.bias (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  obtain ⟨ht, e⟩ := last6 t hf
  blk_simp
  rw [after0_6, Sums.grow 512 (Sums.ext (entries m Norm.bias c (y 1))) (fun n h => (outsAt0 m c n h).2.2 y)
    (fun h => bias_A m c ⟨0, h⟩ rfl (Nat.not_succ_le_zero 0) y)
    (fun n h => bias_B m c ⟨n + 1, h⟩ (by have := lt4 h; dsimp only; omega) (by dsimp only; omega) y) t.val t.isLt, ht]
  refine (Sums.all (entries m Norm.bias c (y 1))).trans ?_
  exact congrArg (fun q => ∑ r, column _ _ _ _ _ q r) (Fin.ext (by blk_simp; simp [e]))

/-- The reference's two results. -/
theorem ref_gain (m : (ℓ : Loc Cert.Reference26Ideal.nD Cert.Reference26Ideal.τ Cert.Reference26Ideal.sig) → Buf (Elt Ideal) ℓ) (c : Dev Cert.Reference26Ideal.nD) :
    Cert.Reference26Ideal.Value.res_main_v28 m c = cols Norm.gain (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3)) := by
  funext y
  unfold Cert.Reference26Ideal.Value.res_main_v28
  pointwise
  rfl

theorem ref_bias (m : (ℓ : Loc Cert.Reference26Ideal.nD Cert.Reference26Ideal.τ Cert.Reference26Ideal.sig) → Buf (Elt Ideal) ℓ) (c : Dev Cert.Reference26Ideal.nD) :
    Cert.Reference26Ideal.Value.res_main_v25 m c = cols Norm.bias (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3)) := by
  funext y
  unfold Cert.Reference26Ideal.Value.res_main_v25
  pointwise
  rfl

theorem algebraic : Cert.algebraic_Kernel26Ideal_Reference26Ideal := fun m g m' g' _ e =>
  ⟨fun c => cols Norm.gain (m ((c : Thread nD τ).loc main_arg0)) (m ((c : Thread nD τ).loc main_arg1)) (m ((c : Thread nD τ).loc main_arg2)) (m ((c : Thread nD τ).loc main_arg3)),
    fun c => cols Norm.bias (m ((c : Thread nD τ).loc main_arg0)) (m ((c : Thread nD τ).loc main_arg1)) (m ((c : Thread nD τ).loc main_arg2)) (m ((c : Thread nD τ).loc main_arg3)),
    (θ_run defs _ _).mono (fun _ h c => ⟨(h c).2.1.trans (final5 m c), (h c).2.2.1.trans (final6 m c), (h c).2.2.2⟩) (Value.run_blocks m g),
    (θ_run Cert.Reference26Ideal.defs _ _).mono
      (fun _ h c => by
        obtain ⟨a0, a1, a2, a3⟩ := e c
        exact ⟨(h c).1.trans ((ref_gain m' c).trans (by rw [a0, a1, a2, a3])), (h c).2.1.trans ((ref_bias m' c).trans (by rw [a0, a1, a2, a3])), (h c).2.2⟩)
      (Cert.Reference26Ideal.Value.run m' g')⟩

end Cert.Kernel26Ideal.Opt

end
-- ==== Proof.Opt.P27.lean ====
/- The gradients of the gain and the bias of the last normalisation, summed over the rows 512 at a time. -/
module

public import proofs.«01_k».proof.Proof.Gen.Kernel27Ideal.Value
public import proofs.«01_k».proof.Proof.Gen.Reference27Ideal.Run
public import proofs.«01_k».proof.Defs
public import proofs.«01_k».proof.Proof.Opt.Blocks
public import proofs.«01_k».proof.Proof.Opt.Norm
public import Idealize.ShloMosaic.Lib.Pipeline.ValueKit

@[expose] public section

set_option maxRecDepth 16384

noncomputable section

namespace Cert.Kernel27Ideal.Opt

open Cert.Kernel27Ideal Cert.Kernel27Ideal.Gen Idealize.ShloMosaic Idealize.ShloMosaic.TcCoe Idealize.SL.Sem

variable (m : (ℓ : Loc nD τ sig) → Buf (Elt Ideal) ℓ)

/-- A function of a row of each argument and of a column. -/
abbrev Entry := (Fin 1024 → EReal) → (Fin 1024 → EReal) → (Fin 1024 → EReal) → (Fin 1024 → EReal) → (Fin 1024 → EReal) → (Fin 1024 → EReal) → Fin 1024 → EReal

/-- Its entries in column `q`, and their sum over the rows, as an array. -/
def column (f : Entry) (x y tg : FVec Ideal S2048x1024 .f32) (md : FVec Ideal S24x1x1024 .f32) (g b : FVec Ideal S8x1x1024 .f32) (q : Fin 1024) (r : Fin 2048) : EReal :=
  f (fun k => x (ix2 r k)) (fun k => y (ix2 r k)) (fun k => tg (ix2 r k)) (fun k => md (ix3 23 0 k)) (fun k => g (ix3 7 0 k)) (fun k => b (ix3 7 0 k)) q
def cols (f : Entry) (x y tg : FVec Ideal S2048x1024 .f32) (md : FVec Ideal S24x1x1024 .f32) (g b : FVec Ideal S8x1x1024 .f32) : FVec Ideal S1x1024 .f32 :=
  fun i => ∑ r, column f x y tg md g b (i 1) r

theorem idx (t : Fin cfg0.N) : win0_0.index t = ![t.val, 0] ∧ win0_1.index t = ![t.val, 0] ∧ win0_2.index t = ![t.val, 0] ∧ win0_3.index t = ![23, 0, 0] ∧ win0_4.index t = ![7, 0, 0] ∧ win0_5.index t = ![7, 0, 0] :=
  (by decide +kernel : ∀ t : Fin grid0.N, win0_0.index t = ![t.val, 0] ∧ win0_1.index t = ![t.val, 0] ∧ win0_2.index t = ![t.val, 0] ∧ win0_3.index t = ![23, 0, 0] ∧ win0_4.index t = ![7, 0, 0] ∧ win0_5.index t = ![7, 0, 0]) t

theorem lt_rows (t : Fin cfg0.N) (k : Fin 512) : t.val * 512 + k.val < 2048 := by
  have hN : t.val < 4 := lt_of_lt_of_eq t.isLt (show cfg0.N = 4 from N_0)
  omega

/-- The entries of `f` on the device's arrays, in column `q`. -/
def entries (f : Entry) (c : Dev nD) (q : Fin 1024) : Fin 2048 → EReal :=
  column f (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q

theorem entry_congr (f : Entry) {x x' y y' tg tg' md md' g g' b b' : Fin 1024 → EReal} (hx : ∀ q, x q = x' q) (hy : ∀ q, y q = y' q)
    (ht : ∀ q, tg q = tg' q) (hm : ∀ q, md q = md' q) (hg : ∀ q, g q = g' q) (hb : ∀ q, b q = b' q) (q : Fin 1024) : f x y tg md g b q = f x' y' tg' md' g' b' q := by
  obtain rfl := funext hx; obtain rfl := funext hy; obtain rfl := funext ht; obtain rfl := funext hm; obtain rfl := funext hg; obtain rfl := funext hb
  rfl

theorem entry_at (f : Entry) (c : Dev nD) (t : Fin cfg0.N) (k : Fin 512) (q : Fin 1024) :
    f (fun q => iblk m c 0 t (ix2 k q)) (fun q => iblk m c 1 t (ix2 k q)) (fun q => iblk m c 2 t (ix2 k q)) (fun q => iblk m c 3 t (ix3 0 0 q)) (fun q => iblk m c 4 t (ix3 0 0 q)) (fun q => iblk m c 5 t (ix3 0 0 q)) q
      = Sums.ext (entries m f c q) (t.val * 512 + k.val) := by
  obtain ⟨e0, e1, e2, e3, e4, e5⟩ := idx t
  rw [Sums.ext_at (entries m f c q) _ (lt_rows t k)]
  refine entry_congr f (fun q => ?_) (fun q => ?_) (fun q => ?_) (fun q => ?_) (fun q => ?_) (fun q => ?_) q
  · blk_point [iblk, V, e0]
  · blk_point [iblk, V, e1]
  · blk_point [iblk, V, e2]
  · blk_point [iblk, V, e3]
  · blk_point [iblk, V, e4]
  · blk_point [iblk, V, e5]

theorem gain_A (c : Dev nD) (t : Fin cfg0.N) (h0 : t.val % 4 = 0) (h1 : ¬1 ≤ t.val) (y : S1x1024.Idx) :
    (outsAt0 m c t.val t.isLt).2.2.2.2.1 y = ∑ k : Fin 512, Sums.ext (entries m Norm.lastGain c (y 1)) (t.val * 512 + k.val) := by
  rw [outsAt0_A m c t h0 h1]
  unfold out0_A_10
  rw [View.read_writes_junk_eq_canon]; frame_out
  pointwise [k0_pay24, k0_pay22, k0_pay21, k0_pay20, k0_pay18, k0_pay17, k0_pay16, k0_pay14, k0_pay13, k0_pay12, k0_pay11, k0_pay10, k0_pay9]
  exact Finset.sum_congr rfl fun k _ => entry_at m Norm.lastGain c t k _

theorem gain_B (c : Dev nD) (t : Fin cfg0.N) (h0 : ¬t.val % 4 = 0) (h1 : 1 ≤ t.val) (y : S1x1024.Idx) :
    (outsAt0 m c t.val t.isLt).2.2.2.2.1 y = (outsAt0 m c (t.val - 1) (Nat.lt_of_le_of_lt (Nat.sub_le _ _) t.isLt)).2.2.2.2.1 y + ∑ k : Fin 512, Sums.ext (entries m Norm.lastGain c (y 1)) (t.val * 512 + k.val) := by
  rw [outsAt0_B m c t h0 h1]
  unfold out0_B_10
  rw [View.read_writes_junk_eq_canon]; frame_out
  pointwise [k0_pay7, k0_pay24, k0_pay22, k0_pay21, k0_pay20, k0_pay18, k0_pay17, k0_pay16, k0_pay14, k0_pay13, k0_pay12, k0_pay11, k0_pay10, k0_pay9]
  exact congrArg (_ + ·) (Finset.sum_congr rfl fun k _ => entry_at m Norm.lastGain c t k _)

theorem bias_A (c : Dev nD) (t : Fin cfg0.N) (h0 : t.val % 4 = 0) (h1 : ¬1 ≤ t.val) (y : S1x1024.Idx) :
    (outsAt0 m c t.val t.isLt).2.2.2.2.2 y = ∑ k : Fin 512, Sums.ext (entries m Norm.lastBias c (y 1)) (t.val * 512 + k.val) := by
  rw [outsAt0_A m c t h0 h1]
  unfold out0_A_11
  rw [View.read_writes_junk_eq_canon]; frame_out
  pointwise [k0_pay23, k0_pay22, k0_pay21, k0_pay20, k0_pay18, k0_pay17, k0_pay16, k0_pay14, k0_pay13, k0_pay12, k0_pay11, k0_pay10, k0_pay9]
  exact Finset.sum_congr rfl fun k _ => entry_at m Norm.lastBias c t k _

theorem bias_B (c : Dev nD) (t : Fin cfg0.N) (h0 : ¬t.val % 4 = 0) (h1 : 1 ≤ t.val) (y : S1x1024.Idx) :
    (outsAt0 m c t.val t.isLt).2.2.2.2.2 y = (outsAt0 m c (t.val - 1) (Nat.lt_of_le_of_lt (Nat.sub_le _ _) t.isLt)).2.2.2.2.2 y + ∑ k : Fin 512, Sums.ext (entries m Norm.lastBias c (y 1)) (t.val * 512 + k.val) := by
  rw [outsAt0_B m c t h0 h1]
  unfold out0_B_11
  rw [View.read_writes_junk_eq_canon]; frame_out
  pointwise [k0_pay8, k0_pay23, k0_pay22, k0_pay21, k0_pay20, k0_pay18, k0_pay17, k0_pay16, k0_pay14, k0_pay13, k0_pay12, k0_pay11, k0_pay10, k0_pay9]
  exact congrArg (_ + ·) (Finset.sum_congr rfl fun k _ => entry_at m Norm.lastBias c t k _)

theorem lt4 {n : ℕ} (h : n + 1 < cfg0.N) : n + 1 < 4 := lt_of_lt_of_eq h (show cfg0.N = 4 from N_0)

theorem last10 (t : Fin cfg0.N) (hf : (cfg0.win 10).flush t = true) : t.val = 3 ∧ win0_10.index t = ![0, 0] :=
  (by decide +kernel : ∀ t : Fin grid0.N, (cfg0.win 10).flush t = true → t.val = 3 ∧ win0_10.index t = ![0, 0]) t hf

theorem last11 (t : Fin cfg0.N) (hf : (cfg0.win 11).flush t = true) : t.val = 3 ∧ win0_11.index t = ![0, 0] :=
  (by decide +kernel : ∀ t : Fin grid0.N, (cfg0.win 11).flush t = true → t.val = 3 ∧ win0_11.index t = ![0, 0]) t hf

theorem final10 (c : Dev nD) : (dats m 0 c).arrAt 10 cfg0.N = cols Norm.lastGain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  obtain ⟨ht, e⟩ := last10 t hf
  blk_simp
  rw [after0_10, Sums.grow 512 (Sums.ext (entries m Norm.lastGain c (y 1))) (fun n h => (outsAt0 m c n h).2.2.2.2.1 y)
    (fun h => gain_A m c ⟨0, h⟩ rfl (Nat.not_succ_le_zero 0) y)
    (fun n h => gain_B m c ⟨n + 1, h⟩ (by have := lt4 h; dsimp only; omega) (by dsimp only; omega) y) t.val t.isLt, ht]
  refine (Sums.all (entries m Norm.lastGain c (y 1))).trans ?_
  exact congrArg (fun q => ∑ r, column _ _ _ _ _ _ _ q r) (Fin.ext (by blk_simp; simp [e]))

theorem final11 (c : Dev nD) : (dats m 0 c).arrAt 11 cfg0.N = cols Norm.lastBias (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  obtain ⟨ht, e⟩ := last11 t hf
  blk_simp
  rw [after0_11, Sums.grow 512 (Sums.ext (entries m Norm.lastBias c (y 1))) (fun n h => (outsAt0 m c n h).2.2.2.2.2 y)
    (fun h => bias_A m c ⟨0, h⟩ rfl (Nat.not_succ_le_zero 0) y)
    (fun n h => bias_B m c ⟨n + 1, h⟩ (by have := lt4 h; dsimp only; omega) (by dsimp only; omega) y) t.val t.isLt, ht]
  refine (Sums.all (entries m Norm.lastBias c (y 1))).trans ?_
  exact congrArg (fun q => ∑ r, column _ _ _ _ _ _ _ q r) (Fin.ext (by blk_simp; simp [e]))

/-- The reference's two results. -/
theorem ref_gain (m : (ℓ : Loc Cert.Reference27Ideal.nD Cert.Reference27Ideal.τ Cert.Reference27Ideal.sig) → Buf (Elt Ideal) ℓ) (c : Dev Cert.Reference27Ideal.nD) :
    Cert.Reference27Ideal.Value.res_main_v54 m c = cols Norm.lastGain (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5)) := by
  funext y
  unfold Cert.Reference27Ideal.Value.res_main_v54
  pointwise
  exact Finset.sum_congr (M := EReal) rfl fun r _ => (Norm.mean_gain _ _).trans rfl

theorem ref_bias (m : (ℓ : Loc Cert.Reference27Ideal.nD Cert.Reference27Ideal.τ Cert.Reference27Ideal.sig) → Buf (Elt Ideal) ℓ) (c : Dev Cert.Reference27Ideal.nD) :
    Cert.Reference27Ideal.Value.res_main_v51 m c = cols Norm.lastBias (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5)) := by
  funext y
  unfold Cert.Reference27Ideal.Value.res_main_v51
  pointwise
  exact Finset.sum_congr (M := EReal) rfl fun r _ => Norm.mean_grad _

theorem algebraic : Cert.algebraic_Kernel27Ideal_Reference27Ideal := fun m g m' g' _ e =>
  ⟨fun c => cols Norm.lastGain (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => cols Norm.lastBias (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    (θ_run defs _ _).mono (fun _ h c => ⟨(h c).2.2.2.2.1.trans (final10 m c), (h c).2.2.2.2.2.1.trans (final11 m c), (h c).2.2.2.2.2.2⟩) (Value.run_blocks m g),
    (θ_run Cert.Reference27Ideal.defs _ _).mono
      (fun _ h c => by
        obtain ⟨a0, a1, a2, a3, a4, a5⟩ := e c
        exact ⟨(h c).1.trans ((ref_gain m' c).trans (by rw [a0, a1, a2, a3, a4, a5])), (h c).2.1.trans ((ref_bias m' c).trans (by rw [a0, a1, a2, a3, a4, a5])), (h c).2.2⟩)
      (Cert.Reference27Ideal.Value.run m' g')⟩

end Cert.Kernel27Ideal.Opt

end
-- ==== Proof.Opt.P28.lean ====
/- The gradient of the convolution's bias: the sums of the columns of the gradient that reaches it, 128 columns per grid point. -/
module

public import proofs.«01_k».proof.Proof.Gen.Kernel28Ideal.Value
public import proofs.«01_k».proof.Proof.Gen.Reference28Ideal.Run
public import proofs.«01_k».proof.Defs
public import Idealize.ShloMosaic.Lib.Pipeline.ValueKit

@[expose] public section

set_option maxRecDepth 16384

noncomputable section

namespace Cert.Kernel28Ideal.Opt

open Cert.Kernel28Ideal Cert.Kernel28Ideal.Gen Idealize.ShloMosaic Idealize.ShloMosaic.TcCoe Idealize.SL.Sem

variable (m : (ℓ : Loc nD τ sig) → Buf (Elt Ideal) ℓ)

/-- The sums of the columns, as a row. -/
def cols (d : FVec Ideal S2048x1024 .f32) : FVec Ideal S1x1024 .f32 := fun y => ∑ r : Fin 2048, d (ix2 r (y 1))

theorem idx (t : Fin cfg0.N) : win0_3.index t = ![0, t.val] ∧ win0_7.index t = ![0, t.val] :=
  (by decide +kernel : ∀ t : Fin grid0.N, win0_3.index t = ![0, t.val] ∧ win0_7.index t = ![0, t.val]) t

theorem final7 (c : Dev nD) : (dats m 0 c).arrAt 7 cfg0.N = cols (m ((c : Thread nD τ).loc main_arg2)) := by
  refine (dats m 0 c).arrAt_eq_of_covers 7 _ (by decide +kernel) fun t hf y => ?_
  obtain ⟨e3, e7⟩ := idx t
  blk_simp
  rw [after0_7]; frame_out
  pointwise [k0_pay64]
  refine Finset.sum_congr (M := EReal) rfl fun r _ => ?_
  blk_point [iblk, V, e3, e7]

theorem ref (d : FVec Ideal S2048x1024 .f32) :
    shapeCast S1x1024 (Host.reduceAdd d (constant Cert.Reference28Ideal.S_ .f32 0x00000000#32) Cert.Reference28Ideal.Facts₀.reducesTo_S2048x1024_S1024_d0 Cert.Reference28Ideal.Facts₀.h_S_) Cert.Reference28Ideal.Facts₀.shapeCasts_S1024_S1x1024 = cols d := by
  funext y
  pointwise
  rfl

theorem algebraic : Cert.algebraic_Kernel28Ideal_Reference28Ideal := fun m g m' g' _ e =>
  ⟨fun c => cols (m ((c : Thread nD τ).loc main_arg2)),
    (θ_run defs _ _).mono (fun _ h c => ⟨(h c).2.2.2.1.trans (final7 m c), (h c).2.2.2.2⟩) (Value.run_blocks m g),
    (θ_run Cert.Reference28Ideal.defs _ _).mono
      (fun _ h c => ⟨(h c).1.trans ((ref _).trans (congrArg cols (e c).2.2)), (h c).2⟩)
      (Cert.Reference28Ideal.Value.run m' g')⟩

end Cert.Kernel28Ideal.Opt

end
-- ==== Proof.Opt.P29.lean ====
/- The gradient of the gain of the delta layer's head normalisation: summed over the heads of a row and over the rows, 512 rows at a
   time. -/
module

public import proofs.«01_k».proof.Proof.Gen.Kernel29Ideal.Value
public import proofs.«01_k».proof.Proof.Gen.Reference29Ideal.Run
public import proofs.«01_k».proof.Defs
public import proofs.«01_k».proof.Proof.Opt.Blocks
public import Idealize.ShloMosaic.Lib.Pipeline.ValueKit

@[expose] public section

set_option maxRecDepth 16384

noncomputable section

namespace Cert.Kernel29Ideal.Opt

open Cert.Kernel29Ideal Cert.Kernel29Ideal.Gen Idealize.ShloMosaic Idealize.ShloMosaic.TcCoe Idealize.SL.Sem

variable (m : (ℓ : Loc nD τ sig) → Buf (Elt Ideal) ℓ)

/-- Entry `q` of head `h` in a row. -/
def at_ (h : Fin 8) (q : Fin 128) : Fin 1024 := ⟨h.val * 128 + q.val, by omega⟩

theorem at_eq (q : Fin 128) : at_ 0 q = ⟨q.val, by omega⟩ ∧ at_ 1 q = ⟨128 + q.val, by omega⟩ ∧ at_ 2 q = ⟨256 + q.val, by omega⟩ ∧ at_ 3 q = ⟨384 + q.val, by omega⟩
    ∧ at_ 4 q = ⟨512 + q.val, by omega⟩ ∧ at_ 5 q = ⟨640 + q.val, by omega⟩ ∧ at_ 6 q = ⟨768 + q.val, by omega⟩ ∧ at_ 7 q = ⟨896 + q.val, by omega⟩ :=
  ⟨Fin.ext (by simp [at_]), rfl, rfl, rfl, rfl, rfl, rfl, rfl⟩

/-- What entry `q` of head `h` adds to the gradient: the normalised output of the head, times the gradient that reaches it through the gate. -/
def entry (o z d : Fin 1024 → EReal) (h : Fin 8) (q : Fin 128) : EReal :=
  o (at_ h q) * Ideal.rsqrt (Ideal.div (∑ k, o (at_ h k) * o (at_ h k)) (Ideal.ofBits .f32 0x43000000#32) + Ideal.ofBits .f32 0x358637BD#32)
    * (d (at_ h q) * (z (at_ h q) * Ideal.logistic (z (at_ h q))))

/-- A row's part of the gradient, and the gradient. -/
def row (o : FVec Ideal S2048x1024 .f32) (p : FVec Ideal S2048x4224 .f32) (d : FVec Ideal S2048x1024 .f32) (q : Fin 128) (r : Fin 2048) : EReal :=
  ∑ h, entry (fun k => o (ix2 r k)) (fun k => p (ix2 r ⟨3072 + k.val, by omega⟩)) (fun k => d (ix2 r k)) h q
def grad (o : FVec Ideal S2048x1024 .f32) (p : FVec Ideal S2048x4224 .f32) (d : FVec Ideal S2048x1024 .f32) : FVec Ideal S1x128 .f32 :=
  fun y => ∑ r, row o p d (y 1) r

theorem idx (t : Fin cfg0.N) : win0_0.index t = ![t.val, 0] ∧ win0_1.index t = ![t.val, 3] ∧ win0_2.index t = ![t.val, 0] :=
  (by decide +kernel : ∀ t : Fin grid0.N, win0_0.index t = ![t.val, 0] ∧ win0_1.index t = ![t.val, 3] ∧ win0_2.index t = ![t.val, 0]) t

theorem lt_rows (t : Fin cfg0.N) (k : Fin 512) : t.val * 512 + k.val < 2048 := by
  have hN : t.val < 4 := lt_of_lt_of_eq t.isLt (show cfg0.N = 4 from N_0)
  omega

/-- The rows of the device's arrays. -/
def rows (c : Dev nD) (q : Fin 128) : Fin 2048 → EReal :=
  row (m ((c : Thread nD τ).loc main_arg0)) (m ((c : Thread nD τ).loc main_arg1)) (m ((c : Thread nD τ).loc main_arg2)) q

theorem gate_at (c : Dev nD) (t : Fin cfg0.N) (k : Fin 512) (q : Fin 1024) :
    X0_1 m c t (ix2 k q) = (m ((c : Thread nD τ).loc main_arg1) : FVec Ideal S2048x4224 .f32) (ix2 ⟨t.val * 512 + k.val, lt_rows t k⟩ ⟨3072 + q.val, by omega⟩) := by
  obtain ⟨e0, e1, e2⟩ := idx t
  unfold X0_1 Pipeline.Window.fill
  rw [dif_pos (moved0_1 t _)]
  blk_point [iblk, V, e1]

theorem row_at (c : Dev nD) (t : Fin cfg0.N) (k : Fin 512) (q : Fin 128) :
    ∑ h, entry (fun q => iblk m c 0 t (ix2 k q)) (fun q => X0_1 m c t (ix2 k q)) (fun q => iblk m c 2 t (ix2 k q)) h q
      = Sums.ext (rows m c q) (t.val * 512 + k.val) := by
  obtain ⟨e0, e1, e2⟩ := idx t
  rw [Sums.ext_at (rows m c q) _ (lt_rows t k)]
  have h0 : (fun q : Fin 1024 => iblk m c 0 t (ix2 k q)) = fun q => (m ((c : Thread nD τ).loc main_arg0) : FVec Ideal S2048x1024 .f32) (ix2 ⟨t.val * 512 + k.val, lt_rows t k⟩ q) := by
    funext q; blk_point [iblk, V, e0]
  have h2 : (fun q : Fin 1024 => iblk m c 2 t (ix2 k q)) = fun q => (m ((c : Thread nD τ).loc main_arg2) : FVec Ideal S2048x1024 .f32) (ix2 ⟨t.val * 512 + k.val, lt_rows t k⟩ q) := by
    funext q; blk_point [iblk, V, e2]
  rw [h0, h2, funext (gate_at m c t k)]
  rfl

/-- The sums of eight columns, added one after another. -/
theorem heads {n : ℕ} (f : Fin 8 → Fin n → EReal) :
    0 + ∑ k, f 0 k + ∑ k, f 1 k + ∑ k, f 2 k + ∑ k, f 3 k + ∑ k, f 4 k + ∑ k, f 5 k + ∑ k, f 6 k + ∑ k, f 7 k = ∑ k, ∑ h, f h k := by
  rw [Finset.sum_comm, Fin.sum_univ_eight, zero_add]

theorem step (c : Dev nD) (t : Fin cfg0.N) (y : S1x128.Idx) :
    k0_pay1 (F := Ideal) (k0_pay113 (k0_pay98 (k0_pay83 (k0_pay67 (k0_pay52 (k0_pay37 (k0_pay21 k0_pay5 (k0_pay16 (iblk m c 0 t) (X0_1 m c t) (iblk m c 2 t))) (k0_pay32 (iblk m c 0 t) (X0_1 m c t) (iblk m c 2 t))) (k0_pay47 (iblk m c 0 t) (X0_1 m c t) (iblk m c 2 t)))
        (k0_pay62 (iblk m c 0 t) (X0_1 m c t) (iblk m c 2 t))) (k0_pay77 (iblk m c 0 t) (X0_1 m c t) (iblk m c 2 t))) (k0_pay93 (iblk m c 0 t) (X0_1 m c t) (iblk m c 2 t))) (k0_pay108 (iblk m c 0 t) (X0_1 m c t) (iblk m c 2 t))) (k0_pay123 (iblk m c 0 t) (X0_1 m c t) (iblk m c 2 t)) y
      = ∑ k : Fin 512, Sums.ext (rows m c (y 1)) (t.val * 512 + k.val) := by
  refine Eq.trans ?_ ((heads fun h k => entry (fun q => iblk m c 0 t (ix2 k q)) (fun q => X0_1 m c t (ix2 k q)) (fun q => iblk m c 2 t (ix2 k q)) h (y 1)).trans
    (Finset.sum_congr rfl fun k _ => row_at m c t k (y 1)))
  simp only [entry, at_eq, at_eq (y 1)]
  pointwise [k0_pay5, k0_pay21, k0_pay37, k0_pay52, k0_pay67, k0_pay83, k0_pay98, k0_pay113, k0_pay1, k0_pay6, k0_pay7, k0_pay8, k0_pay9, k0_pay11, k0_pay12, k0_pay13, k0_pay14, k0_pay16, k0_pay22, k0_pay23, k0_pay24, k0_pay25, k0_pay27, k0_pay28, k0_pay29, k0_pay30, k0_pay32, k0_pay38, k0_pay39, k0_pay40, k0_pay41, k0_pay42, k0_pay43, k0_pay44, k0_pay45, k0_pay47, k0_pay53, k0_pay54, k0_pay55, k0_pay56, k0_pay57, k0_pay58, k0_pay59, k0_pay60, k0_pay62, k0_pay68, k0_pay69, k0_pay70, k0_pay71, k0_pay72, k0_pay73, k0_pay74, k0_pay75, k0_pay77, k0_pay84, k0_pay85, k0_pay86, k0_pay87, k0_pay88, k0_pay89, k0_pay90, k0_pay91, k0_pay93, k0_pay99, k0_pay100, k0_pay101, k0_pay102, k0_pay103, k0_pay104, k0_pay105, k0_pay106, k0_pay108, k0_pay114, k0_pay115, k0_pay116, k0_pay117, k0_pay118, k0_pay119, k0_pay120, k0_pay121, k0_pay123]

/-- A sum over the first two of three axes. -/
theorem reduce01 {n0 n1 n2 : ℕ} {s : Shape} (h : (⟨3, ![n0, n1, n2]⟩ : Shape).ReducesTo [0, 1] s) (v : (⟨3, ![n0, n1, n2]⟩ : Shape).Idx → EReal) (z : EReal) (j : s.Idx)
    (h0 : 0 < s.rank) (hs : s.size ⟨0, h0⟩ = n2) (h1 : s.rank = 1) :
    Ideal.hostReduceAdd h v z j = z + ∑ a : Fin n0, ∑ b : Fin n1, v (ix3 a b ⟨(j ⟨0, h0⟩).val, Shape.coordLt (j ⟨0, h0⟩) hs⟩) := by
  refine congrArg (z + ·) ((Finset.sum_filter_eq_sum_of_fiber _ (fun k : Fin n0 × Fin n1 => ix3 k.1 k.2 ⟨(j ⟨0, h0⟩).val, Shape.coordLt (j ⟨0, h0⟩) hs⟩)
    (fun _ _ e => Prod.ext (congrFun e 0) (congrFun e 1)) (fun i => ?_) v).trans (Fintype.sum_prod_type _))
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, h0⟩)).symm
  · rintro ⟨k, rfl⟩
    funext b
    apply Fin.ext
    match b with
    | ⟨0, _⟩ => rfl
    | ⟨_ + 1, hb⟩ => exact absurd hb (by omega)

theorem gain_A (c : Dev nD) (t : Fin cfg0.N) (h0 : t.val % 4 = 0) (h1 : ¬1 ≤ t.val) (y : S1x128.Idx) :
    (outsAt0 m c t.val t.isLt).2.2 y = ∑ k : Fin 512, Sums.ext (rows m c (y 1)) (t.val * 512 + k.val) := by
  rw [outsAt0_A m c t h0 h1]
  unfold out0_A_6
  rw [View.read_writes_junk_eq_canon]; frame_out
  exact step m c t y

theorem gain_B (c : Dev nD) (t : Fin cfg0.N) (h0 : ¬t.val % 4 = 0) (h1 : 1 ≤ t.val) (y : S1x128.Idx) :
    (outsAt0 m c t.val t.isLt).2.2 y = (outsAt0 m c (t.val - 1) (Nat.lt_of_le_of_lt (Nat.sub_le _ _) t.isLt)).2.2 y + ∑ k : Fin 512, Sums.ext (rows m c (y 1)) (t.val * 512 + k.val) := by
  rw [outsAt0_B m c t h0 h1]
  unfold out0_B_6
  rw [View.read_writes_junk_eq_canon]; frame_out
  refine Eq.trans ?_ (congrArg (_ + ·) (step m c t y))
  pointwise [k0_pay4]

theorem lt4 {n : ℕ} (h : n + 1 < cfg0.N) : n + 1 < 4 := lt_of_lt_of_eq h (show cfg0.N = 4 from N_0)

theorem last6 (t : Fin cfg0.N) (hf : (cfg0.win 6).flush t = true) : t.val = 3 ∧ win0_6.index t = ![0, 0] :=
  (by decide +kernel : ∀ t : Fin grid0.N, (cfg0.win 6).flush t = true → t.val = 3 ∧ win0_6.index t = ![0, 0]) t hf

theorem final6 (c : Dev nD) : (dats m 0 c).arrAt 6 cfg0.N = grad (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨ht, e⟩ := last6 t hf
  blk_simp
  rw [after0_6, Sums.grow 512 (Sums.ext (rows m c (y 1))) (fun n h => (outsAt0 m c n h).2.2 y)
    (fun h => gain_A m c ⟨0, h⟩ rfl (Nat.not_succ_le_zero 0) y)
    (fun n h => gain_B m c ⟨n + 1, h⟩ (by have := lt4 h; dsimp only; omega) (by dsimp only; omega) y) t.val t.isLt, ht]
  refine (Sums.all (rows m c (y 1))).trans ?_
  exact congrArg (fun q => ∑ r, row _ _ _ q r) (Fin.ext (by blk_simp; simp [e]))

theorem ref (o : FVec Ideal S2048x1024 .f32) (p : FVec Ideal S2048x4224 .f32) (d : FVec Ideal S2048x1024 .f32) :
    broadcastInDim Cert.Reference29Ideal.S1x128 ![1] Cert.Reference29Ideal.Facts₀.bcast_S128_S1x128_1 (Host.reduceAdd (shapeCast Cert.Reference29Ideal.S1x1x128 (Host.reduceAdd (mulf (mulf (shapeCast Cert.Reference29Ideal.S2048x8x128 o Cert.Reference29Ideal.Facts₀.shapeCasts_S2048x1024_S2048x8x128) (broadcastInDim Cert.Reference29Ideal.S2048x8x128 ![0, 1, 2] Cert.Reference29Ideal.Facts₀.bcast_S2048x8x1_S2048x8x128_0_1_2 (Host.rsqrt (addf (Host.divf (broadcastInDim Cert.Reference29Ideal.S2048x8x1 ![0, 1] Cert.Reference29Ideal.Facts₀.bcast_S2048x8_S2048x8x1_0_1 (Host.reduceAdd (mulf (shapeCast Cert.Reference29Ideal.S2048x8x128 o Cert.Reference29Ideal.Facts₀.shapeCasts_S2048x1024_S2048x8x128) (shapeCast Cert.Reference29Ideal.S2048x8x128 o Cert.Reference29Ideal.Facts₀.shapeCasts_S2048x1024_S2048x8x128)) (constant Cert.Reference29Ideal.S_ .f32 0x00000000#32) Cert.Reference29Ideal.Facts₀.reducesTo_S2048x8x128_S2048x8_d2 Cert.Reference29Ideal.Facts₀.h_S_)) (broadcastInDim Cert.Reference29Ideal.S2048x8x1 ![] Cert.Reference29Ideal.Facts₀.bcast_S_S2048x8x1 (constant Cert.Reference29Ideal.S_ .f32 0x43000000#32))) (broadcastInDim Cert.Reference29Ideal.S2048x8x1 ![] Cert.Reference29Ideal.Facts₀.bcast_S_S2048x8x1 (constant Cert.Reference29Ideal.S_ .f32 0x358637BD#32)))))) (mulf (shapeCast Cert.Reference29Ideal.S2048x8x128 d Cert.Reference29Ideal.Facts₀.shapeCasts_S2048x1024_S2048x8x128) (mulf (shapeCast Cert.Reference29Ideal.S2048x8x128 (extractStridedSlice Cert.Reference29Ideal.S2048x1024 ![0, 3072] p Cert.Reference29Ideal.Facts₀.slices_S2048x4224_S2048x1024_0_3072) Cert.Reference29Ideal.Facts₀.shapeCasts_S2048x1024_S2048x8x128) (Host.divf (broadcastInDim Cert.Reference29Ideal.S2048x8x128 ![] Cert.Reference29Ideal.Facts₀.bcast_S_S2048x8x128 (constant Cert.Reference29Ideal.S_ .f32 0x3F800000#32)) (addf (broadcastInDim Cert.Reference29Ideal.S2048x8x128 ![] Cert.Reference29Ideal.Facts₀.bcast_S_S2048x8x128 (constant Cert.Reference29Ideal.S_ .f32 0x3F800000#32)) (Host.exp (Host.negf (shapeCast Cert.Reference29Ideal.S2048x8x128 (extractStridedSlice Cert.Reference29Ideal.S2048x1024 ![0, 3072] p Cert.Reference29Ideal.Facts₀.slices_S2048x4224_S2048x1024_0_3072) Cert.Reference29Ideal.Facts₀.shapeCasts_S2048x1024_S2048x8x128)))))))) (constant Cert.Reference29Ideal.S_ .f32 0x00000000#32) Cert.Reference29Ideal.Facts₀.reducesTo_S2048x8x128_S128_d0_1 Cert.Reference29Ideal.Facts₀.h_S_) Cert.Reference29Ideal.Facts₀.shapeCasts_S128_S1x1x128) (constant Cert.Reference29Ideal.S_ .f32 0x00000000#32) Cert.Reference29Ideal.Facts₀.reducesTo_S1x1x128_S128_d0_1 Cert.Reference29Ideal.Facts₀.h_S_)
      = grad o p d := by
  funext y
  pointwise [reduce01, grad, row, entry]
  rw [Fin.sum_univ_one, Fin.sum_univ_one]
  rfl

theorem algebraic : Cert.algebraic_Kernel29Ideal_Reference29Ideal := fun m g m' g' _ e =>
  ⟨fun c => grad (m ((c : Thread nD τ).loc main_arg0)) (m ((c : Thread nD τ).loc main_arg1)) (m ((c : Thread nD τ).loc main_arg2)),
    (θ_run defs _ _).mono (fun _ h c => ⟨(h c).2.2.1.trans (final6 m c), (h c).2.2.2⟩) (Value.run_blocks m g),
    (θ_run Cert.Reference29Ideal.defs _ _).mono
      (fun _ h c => by
        obtain ⟨a0, a1, a2, a3⟩ := e c
        exact ⟨(h c).1.trans ((ref _ _ _).trans (by rw [a0, a1, a2])), (h c).2⟩)
      (Cert.Reference29Ideal.Value.run m' g')⟩

end Cert.Kernel29Ideal.Opt

end
-- ==== Proof.lean ====
/- The certificate's claims: for each program its frames, what its idealization preserves, and the
   equation with its reference. -/
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Kernel19
public import proofs.«01_k».proof.Proof.Gen.Kernel19Ideal
public import proofs.«01_k».proof.Proof.Gen.Reference19Ideal
public import proofs.«01_k».proof.Proof.Gen.Kernel20
public import proofs.«01_k».proof.Proof.Gen.Kernel20Ideal
public import proofs.«01_k».proof.Proof.Gen.Reference20Ideal
public import proofs.«01_k».proof.Proof.Gen.Kernel21
public import proofs.«01_k».proof.Proof.Gen.Kernel21Ideal
public import proofs.«01_k».proof.Proof.Gen.Reference21Ideal
public import proofs.«01_k».proof.Proof.Gen.Kernel22
public import proofs.«01_k».proof.Proof.Gen.Kernel22Ideal
public import proofs.«01_k».proof.Proof.Gen.Reference22Ideal
public import proofs.«01_k».proof.Proof.Gen.Kernel23
public import proofs.«01_k».proof.Proof.Gen.Kernel23Ideal
public import proofs.«01_k».proof.Proof.Gen.Reference23Ideal
public import proofs.«01_k».proof.Proof.Gen.Kernel24
public import proofs.«01_k».proof.Proof.Gen.Kernel24Ideal
public import proofs.«01_k».proof.Proof.Gen.Reference24Ideal
public import proofs.«01_k».proof.Proof.Gen.Kernel25
public import proofs.«01_k».proof.Proof.Gen.Kernel25Ideal
public import proofs.«01_k».proof.Proof.Gen.Reference25Ideal
public import proofs.«01_k».proof.Proof.Gen.Kernel26
public import proofs.«01_k».proof.Proof.Gen.Kernel26Ideal
public import proofs.«01_k».proof.Proof.Gen.Reference26Ideal
public import proofs.«01_k».proof.Proof.Gen.Kernel27
public import proofs.«01_k».proof.Proof.Gen.Kernel27Ideal
public import proofs.«01_k».proof.Proof.Gen.Reference27Ideal
public import proofs.«01_k».proof.Proof.Gen.Kernel28
public import proofs.«01_k».proof.Proof.Gen.Kernel28Ideal
public import proofs.«01_k».proof.Proof.Gen.Reference28Ideal
public import proofs.«01_k».proof.Proof.Gen.Kernel29
public import proofs.«01_k».proof.Proof.Gen.Kernel29Ideal
public import proofs.«01_k».proof.Proof.Gen.Reference29Ideal
public import proofs.«01_k».proof.Proof.Gen.Pre_below_infinity
public import proofs.«01_k».proof.Proof.Gen.Pre_dn_w_out_device
public import proofs.«01_k».proof.Proof.Gen.Pre_dn_w_in_device
public import proofs.«01_k».proof.Proof.Gen.Pre_cf_w_in_device
public import proofs.«01_k».proof.Proof.Gen.Pre_ff_w1_device
public import proofs.«01_k».proof.Proof.Gen.Pre_ff_w2_device
public import proofs.«01_k».proof.Proof.Frames
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Opt.Device
public import proofs.«01_k».proof.Proof.Gen.Kernel2.Frame
public import proofs.«01_k».proof.Proof.Gen.Kernel2Ideal.Value
public import proofs.«01_k».proof.Proof.Gen.Reference2Ideal.Run
public import proofs.«01_k».proof.Proof.Mlp.P2
public import proofs.«01_k».proof.Proof.Gen.Kernel3.Frame
public import proofs.«01_k».proof.Proof.Gen.Kernel3Ideal.Value
public import proofs.«01_k».proof.Proof.Gen.Reference3Ideal.Run
public import proofs.«01_k».proof.Proof.Mlp.P3
public import proofs.«01_k».proof.Proof.Gen.Kernel4.Frame
public import proofs.«01_k».proof.Proof.Gen.Kernel4Ideal.Value
public import proofs.«01_k».proof.Proof.Gen.Reference4Ideal.Run
public import proofs.«01_k».proof.Proof.Mlp.P4
public import proofs.«01_k».proof.Proof.Gen.Kernel5.Frame
public import proofs.«01_k».proof.Proof.Gen.Kernel5Ideal.Value
public import proofs.«01_k».proof.Proof.Gen.Reference5Ideal.Run
public import proofs.«01_k».proof.Proof.Mlp.P5
public import proofs.«01_k».proof.Proof.Gen.Kernel6.Frame
public import proofs.«01_k».proof.Proof.Gen.Kernel6Ideal.Value
public import proofs.«01_k».proof.Proof.Gen.Reference6Ideal.Run
public import proofs.«01_k».proof.Proof.Mlp.P6
public import proofs.«01_k».proof.Proof.Gen.Kernel7.Frame
public import proofs.«01_k».proof.Proof.Gen.Kernel7Ideal.Value
public import proofs.«01_k».proof.Proof.Gen.Reference7Ideal.Run
public import proofs.«01_k».proof.Proof.Mlp.P7
public import proofs.«01_k».proof.Proof.Gen.Kernel8.Frame
public import proofs.«01_k».proof.Proof.Gen.Kernel8Ideal.Value
public import proofs.«01_k».proof.Proof.Gen.Reference8Ideal.Run
public import proofs.«01_k».proof.Proof.Proj.P8
public import proofs.«01_k».proof.Proof.Gen.Kernel9.Frame
public import proofs.«01_k».proof.Proof.Gen.Kernel9Ideal.Value
public import proofs.«01_k».proof.Proof.Gen.Reference9Ideal.Run
public import proofs.«01_k».proof.Proof.Proj.P9
public import proofs.«01_k».proof.Proof.Gen.Kernel10.Frame
public import proofs.«01_k».proof.Proof.Gen.Kernel10Ideal.Value
public import proofs.«01_k».proof.Proof.Gen.Reference10Ideal.Run
public import proofs.«01_k».proof.Proof.Proj.P10
public import proofs.«01_k».proof.Proof.Gen.Kernel11.Frame
public import proofs.«01_k».proof.Proof.Gen.Kernel11Ideal.Value
public import proofs.«01_k».proof.Proof.Gen.Reference11Ideal.Run
public import proofs.«01_k».proof.Proof.Proj.P11
public import proofs.«01_k».proof.Proof.Gen.Kernel12.Frame
public import proofs.«01_k».proof.Proof.Gen.Kernel12Ideal.Value
public import proofs.«01_k».proof.Proof.Gen.Reference12Ideal.Run
public import proofs.«01_k».proof.Proof.Proj.P12
public import proofs.«01_k».proof.Proof.Gen.Kernel13.Frame
public import proofs.«01_k».proof.Proof.Gen.Kernel13Ideal.Value
public import proofs.«01_k».proof.Proof.Gen.Reference13Ideal.Run
public import proofs.«01_k».proof.Proof.Proj.P13
public import proofs.«01_k».proof.Proof.Gen.Kernel14.Frame
public import proofs.«01_k».proof.Proof.Gen.Kernel14Ideal.Value
public import proofs.«01_k».proof.Proof.Gen.Reference14Ideal.Run
public import proofs.«01_k».proof.Proof.Proj.P14
public import proofs.«01_k».proof.Proof.Gen.Kernel15.Frame
public import proofs.«01_k».proof.Proof.Gen.Kernel15Ideal.Value
public import proofs.«01_k».proof.Proof.Gen.Reference15Ideal.Run
public import proofs.«01_k».proof.Proof.Proj.P15
public import proofs.«01_k».proof.Proof.Gen.Kernel16.Frame
public import proofs.«01_k».proof.Proof.Gen.Kernel16Ideal.Value
public import proofs.«01_k».proof.Proof.Gen.Reference16Ideal.Run
public import proofs.«01_k».proof.Proof.Proj.P16
public import proofs.«01_k».proof.Proof.Gen.Kernel17.Frame
public import proofs.«01_k».proof.Proof.Gen.Kernel17Ideal.Value
public import proofs.«01_k».proof.Proof.Gen.Reference17Ideal.Run
public import proofs.«01_k».proof.Proof.Opt.P17
public import proofs.«01_k».proof.Proof.Gen.Kernel18.Frame
public import proofs.«01_k».proof.Proof.Gen.Kernel18Ideal.Value
public import proofs.«01_k».proof.Proof.Gen.Reference18Ideal.Run
public import proofs.«01_k».proof.Proof.Opt.P18
public import proofs.«01_k».proof.Proof.Gen.Kernel19.Frame
public import proofs.«01_k».proof.Proof.Gen.Kernel19Ideal.Value
public import proofs.«01_k».proof.Proof.Gen.Reference19Ideal.Run
public import proofs.«01_k».proof.Proof.Opt.P19
public import proofs.«01_k».proof.Proof.Gen.Kernel20.Frame
public import proofs.«01_k».proof.Proof.Gen.Kernel20Ideal.Value
public import proofs.«01_k».proof.Proof.Gen.Reference20Ideal.Run
public import proofs.«01_k».proof.Proof.Opt.P20
public import proofs.«01_k».proof.Proof.Gen.Kernel21.Frame
public import proofs.«01_k».proof.Proof.Gen.Kernel21Ideal.Frame
public import proofs.«01_k».proof.Proof.Gen.Reference21Ideal.Run
public import proofs.«01_k».proof.Proof.Opt.P21
public import proofs.«01_k».proof.Proof.Gen.Kernel22.Frame
public import proofs.«01_k».proof.Proof.Gen.Kernel22Ideal.Frame
public import proofs.«01_k».proof.Proof.Gen.Reference22Ideal.Run
public import proofs.«01_k».proof.Proof.Opt.P22
public import proofs.«01_k».proof.Proof.Gen.Kernel23.Frame
public import proofs.«01_k».proof.Proof.Gen.Kernel23Ideal.Frame
public import proofs.«01_k».proof.Proof.Gen.Reference23Ideal.Run
public import proofs.«01_k».proof.Proof.Opt.P23
public import proofs.«01_k».proof.Proof.Gen.Kernel24.Frame
public import proofs.«01_k».proof.Proof.Gen.Kernel24Ideal.Frame
public import proofs.«01_k».proof.Proof.Gen.Reference24Ideal.Run
public import proofs.«01_k».proof.Proof.Opt.P24
public import proofs.«01_k».proof.Proof.Gen.Kernel25.Frame
public import proofs.«01_k».proof.Proof.Gen.Kernel25Ideal.Frame
public import proofs.«01_k».proof.Proof.Gen.Reference25Ideal.Run
public import proofs.«01_k».proof.Proof.Opt.P25
public import proofs.«01_k».proof.Proof.Gen.Kernel26.Frame
public import proofs.«01_k».proof.Proof.Gen.Kernel26Ideal.Value
public import proofs.«01_k».proof.Proof.Gen.Reference26Ideal.Run
public import proofs.«01_k».proof.Proof.Opt.P26
public import proofs.«01_k».proof.Proof.Gen.Kernel27.Frame
public import proofs.«01_k».proof.Proof.Gen.Kernel27Ideal.Value
public import proofs.«01_k».proof.Proof.Gen.Reference27Ideal.Run
public import proofs.«01_k».proof.Proof.Opt.P27
public import proofs.«01_k».proof.Proof.Gen.Kernel28.Frame
public import proofs.«01_k».proof.Proof.Gen.Kernel28Ideal.Value
public import proofs.«01_k».proof.Proof.Gen.Reference28Ideal.Run
public import proofs.«01_k».proof.Proof.Opt.P28
public import proofs.«01_k».proof.Proof.Gen.Kernel29.Frame
public import proofs.«01_k».proof.Proof.Gen.Kernel29Ideal.Value
public import proofs.«01_k».proof.Proof.Gen.Reference29Ideal.Run
public import proofs.«01_k».proof.Proof.Opt.P29
public import Idealize.ShloMosaic.Lib.Quiescent

@[expose] public section

noncomputable section

namespace Cert.Proof

open Idealize.ShloMosaic Idealize.SL.Sem

theorem claim : Cert.Claim :=
  ⟨Cert.Kernel.Gen.facts, Cert.KernelIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Pre_below_infinity.Gen.facts, Cert.Pre_dn_w_out_device.Gen.facts, Cert.Pre_dn_w_in_device.Gen.facts, Cert.Pre_cf_w_in_device.Gen.facts, Cert.Pre_ff_w1_device.Gen.facts, Cert.Pre_ff_w2_device.Gen.facts,
    frame_kernel,
    frame_kernelIdeal,
    fun m ρ _ => Cert.Kernel2.Gen.frame m ρ,
    fun m ρ _ => Cert.Kernel2Ideal.Gen.frame m ρ,
    fun m ρ _ => (θ_run Cert.Reference2Ideal.defs _ _).mono (fun _ h => ⟨fun c => (h c).2, sem_eq_zero_of_no_sems rfl _⟩) (Cert.Reference2Ideal.Value.run m ρ),
    fun m ρ _ => Cert.Kernel3.Gen.frame m ρ,
    fun m ρ _ => Cert.Kernel3Ideal.Gen.frame m ρ,
    fun m ρ _ => (θ_run Cert.Reference3Ideal.defs _ _).mono (fun _ h => ⟨fun c => (h c).2, sem_eq_zero_of_no_sems rfl _⟩) (Cert.Reference3Ideal.Value.run m ρ),
    fun m ρ _ => Cert.Kernel4.Gen.frame m ρ,
    fun m ρ _ => Cert.Kernel4Ideal.Gen.frame m ρ,
    fun m ρ _ => (θ_run Cert.Reference4Ideal.defs _ _).mono (fun _ h => ⟨fun c => (h c).2, sem_eq_zero_of_no_sems rfl _⟩) (Cert.Reference4Ideal.Value.run m ρ),
    fun m ρ _ => Cert.Kernel5.Gen.frame m ρ,
    fun m ρ _ => Cert.Kernel5Ideal.Gen.frame m ρ,
    fun m ρ _ => Cert.Kernel5Ideal.Gen.frame m ρ,
    fun m ρ _ => (θ_run Cert.Reference5Ideal.defs _ _).mono (fun _ h => ⟨fun c => (h c).2, sem_eq_zero_of_no_sems rfl _⟩) (Cert.Reference5Ideal.Value.run m ρ),
    fun m ρ _ => (θ_run Cert.Reference5Ideal.defs _ _).mono (fun _ h => ⟨fun c => (h c).2, sem_eq_zero_of_no_sems rfl _⟩) (Cert.Reference5Ideal.Value.run m ρ),
    fun m ρ _ => Cert.Kernel6.Gen.frame m ρ,
    fun m ρ _ => Cert.Kernel6Ideal.Gen.frame m ρ,
    fun m ρ _ => (θ_run Cert.Reference6Ideal.defs _ _).mono (fun _ h => ⟨fun c => (h c).2, sem_eq_zero_of_no_sems rfl _⟩) (Cert.Reference6Ideal.Value.run m ρ),
    fun m ρ _ => Cert.Kernel7.Gen.frame m ρ,
    fun m ρ _ => Cert.Kernel7Ideal.Gen.frame m ρ,
    fun m ρ _ => (θ_run Cert.Reference7Ideal.defs _ _).mono (fun _ h => ⟨fun c => (h c).2, sem_eq_zero_of_no_sems rfl _⟩) (Cert.Reference7Ideal.Value.run m ρ),
    fun m ρ _ => Cert.Kernel8.Gen.frame m ρ,
    fun m ρ _ => Cert.Kernel8Ideal.Gen.frame m ρ,
    fun m ρ _ => (θ_run Cert.Reference8Ideal.defs _ _).mono (fun _ h => ⟨fun c => (h c).2, sem_eq_zero_of_no_sems rfl _⟩) (Cert.Reference8Ideal.Value.run m ρ),
    fun m ρ _ => Cert.Kernel9.Gen.frame m ρ,
    fun m ρ _ => Cert.Kernel9Ideal.Gen.frame m ρ,
    fun m ρ _ => (θ_run Cert.Reference9Ideal.defs _ _).mono (fun _ h => ⟨fun c => (h c).2, sem_eq_zero_of_no_sems rfl _⟩) (Cert.Reference9Ideal.Value.run m ρ),
    fun m ρ _ => Cert.Kernel10.Gen.frame m ρ,
    fun m ρ _ => Cert.Kernel10Ideal.Gen.frame m ρ,
    fun m ρ _ => (θ_run Cert.Reference10Ideal.defs _ _).mono (fun _ h => ⟨fun c => (h c).2, sem_eq_zero_of_no_sems rfl _⟩) (Cert.Reference10Ideal.Value.run m ρ),
    fun m ρ _ => Cert.Kernel11.Gen.frame m ρ,
    fun m ρ _ => Cert.Kernel11Ideal.Gen.frame m ρ,
    fun m ρ _ => (θ_run Cert.Reference11Ideal.defs _ _).mono (fun _ h => ⟨fun c => (h c).2, sem_eq_zero_of_no_sems rfl _⟩) (Cert.Reference11Ideal.Value.run m ρ),
    fun m ρ _ => Cert.Kernel12.Gen.frame m ρ,
    fun m ρ _ => Cert.Kernel12Ideal.Gen.frame m ρ,
    fun m ρ _ => (θ_run Cert.Reference12Ideal.defs _ _).mono (fun _ h => ⟨fun c => (h c).2, sem_eq_zero_of_no_sems rfl _⟩) (Cert.Reference12Ideal.Value.run m ρ),
    fun m ρ _ => Cert.Kernel13.Gen.frame m ρ,
    fun m ρ _ => Cert.Kernel13Ideal.Gen.frame m ρ,
    fun m ρ _ => (θ_run Cert.Reference13Ideal.defs _ _).mono (fun _ h => ⟨fun c => (h c).2, sem_eq_zero_of_no_sems rfl _⟩) (Cert.Reference13Ideal.Value.run m ρ),
    fun m ρ _ => Cert.Kernel14.Gen.frame m ρ,
    fun m ρ _ => Cert.Kernel14Ideal.Gen.frame m ρ,
    fun m ρ _ => (θ_run Cert.Reference14Ideal.defs _ _).mono (fun _ h => ⟨fun c => (h c).2, sem_eq_zero_of_no_sems rfl _⟩) (Cert.Reference14Ideal.Value.run m ρ),
    fun m ρ _ => Cert.Kernel15.Gen.frame m ρ,
    fun m ρ _ => Cert.Kernel15Ideal.Gen.frame m ρ,
    fun m ρ _ => (θ_run Cert.Reference15Ideal.defs _ _).mono (fun _ h => ⟨fun c => (h c).2, sem_eq_zero_of_no_sems rfl _⟩) (Cert.Reference15Ideal.Value.run m ρ),
    fun m ρ _ => Cert.Kernel16.Gen.frame m ρ,
    fun m ρ _ => Cert.Kernel16Ideal.Gen.frame m ρ,
    fun m ρ _ => (θ_run Cert.Reference16Ideal.defs _ _).mono (fun _ h => ⟨fun c => (h c).2, sem_eq_zero_of_no_sems rfl _⟩) (Cert.Reference16Ideal.Value.run m ρ),
    fun m ρ _ => Cert.Kernel17.Gen.frame m ρ,
    fun m ρ _ => Cert.Kernel17Ideal.Gen.frame m ρ,
    fun m ρ _ => (θ_run Cert.Reference17Ideal.defs _ _).mono (fun _ h => ⟨fun c => (h c).2, sem_eq_zero_of_no_sems rfl _⟩) (Cert.Reference17Ideal.Value.run m ρ),
    fun m ρ _ => Cert.Kernel18.Gen.frame m ρ,
    fun m ρ _ => Cert.Kernel18Ideal.Gen.frame m ρ,
    fun m ρ _ => (θ_run Cert.Reference18Ideal.defs _ _).mono (fun _ h => ⟨fun c => (h c).2.2.2.2, sem_eq_zero_of_no_sems rfl _⟩) (Cert.Reference18Ideal.Value.run m ρ),
    fun m ρ _ => Cert.Kernel19.Gen.frame m ρ,
    fun m ρ _ => Cert.Kernel19Ideal.Gen.frame m ρ,
    fun m ρ _ => (θ_run Cert.Reference19Ideal.defs _ _).mono (fun _ h => ⟨fun c => (h c).2.2.2, sem_eq_zero_of_no_sems rfl _⟩) (Cert.Reference19Ideal.Value.run m ρ),
    fun m ρ _ => Cert.Kernel20.Gen.frame m ρ,
    fun m ρ _ => Cert.Kernel20Ideal.Gen.frame m ρ,
    fun m ρ _ => (θ_run Cert.Reference20Ideal.defs _ _).mono (fun _ h => ⟨fun c => (h c).2, sem_eq_zero_of_no_sems rfl _⟩) (Cert.Reference20Ideal.Value.run m ρ),
    fun m ρ h => Cert.Kernel21.Gen.frame m ρ (Cert.Kernel21.Opt.okM m h),
    fun m ρ h => Cert.Kernel21Ideal.Gen.frame m ρ (Cert.Kernel21Ideal.Opt.okM m h),
    fun m ρ _ => (θ_run Cert.Reference21Ideal.defs _ _).mono (fun _ h => ⟨fun c => (h c).2.2.2.2, sem_eq_zero_of_no_sems rfl _⟩) (Cert.Reference21Ideal.Value.run m ρ),
    fun m ρ _ => (θ_run Cert.Reference21Ideal.defs _ _).mono (fun _ h => ⟨fun c => (h c).2.2.2.2, sem_eq_zero_of_no_sems rfl _⟩) (Cert.Reference21Ideal.Value.run m ρ),
    fun m ρ h => Cert.Kernel22.Gen.frame m ρ (Cert.Kernel22.Opt.okM m h),
    fun m ρ h => Cert.Kernel22Ideal.Gen.frame m ρ (Cert.Kernel22Ideal.Opt.okM m h),
    fun m ρ _ => (θ_run Cert.Reference22Ideal.defs _ _).mono (fun _ h => ⟨fun c => (h c).2.2.2.2, sem_eq_zero_of_no_sems rfl _⟩) (Cert.Reference22Ideal.Value.run m ρ),
    fun m ρ _ => (θ_run Cert.Reference22Ideal.defs _ _).mono (fun _ h => ⟨fun c => (h c).2.2.2.2, sem_eq_zero_of_no_sems rfl _⟩) (Cert.Reference22Ideal.Value.run m ρ),
    fun m ρ h => Cert.Kernel23.Gen.frame m ρ (Cert.Kernel23.Opt.okM m h),
    fun m ρ h => Cert.Kernel23Ideal.Gen.frame m ρ (Cert.Kernel23Ideal.Opt.okM m h),
    fun m ρ _ => (θ_run Cert.Reference23Ideal.defs _ _).mono (fun _ h => ⟨fun c => (h c).2.2.2.2, sem_eq_zero_of_no_sems rfl _⟩) (Cert.Reference23Ideal.Value.run m ρ),
    fun m ρ _ => (θ_run Cert.Reference23Ideal.defs _ _).mono (fun _ h => ⟨fun c => (h c).2.2.2.2, sem_eq_zero_of_no_sems rfl _⟩) (Cert.Reference23Ideal.Value.run m ρ),
    fun m ρ h => Cert.Kernel24.Gen.frame m ρ (Cert.Kernel24.Opt.okM m h),
    fun m ρ h => Cert.Kernel24Ideal.Gen.frame m ρ (Cert.Kernel24Ideal.Opt.okM m h),
    fun m ρ _ => (θ_run Cert.Reference24Ideal.defs _ _).mono (fun _ h => ⟨fun c => (h c).2.2.2.2, sem_eq_zero_of_no_sems rfl _⟩) (Cert.Reference24Ideal.Value.run m ρ),
    fun m ρ _ => (θ_run Cert.Reference24Ideal.defs _ _).mono (fun _ h => ⟨fun c => (h c).2.2.2.2, sem_eq_zero_of_no_sems rfl _⟩) (Cert.Reference24Ideal.Value.run m ρ),
    fun m ρ h => Cert.Kernel25.Gen.frame m ρ (Cert.Kernel25.Opt.okM m h),
    fun m ρ h => Cert.Kernel25Ideal.Gen.frame m ρ (Cert.Kernel25Ideal.Opt.okM m h),
    fun m ρ _ => (θ_run Cert.Reference25Ideal.defs _ _).mono (fun _ h => ⟨fun c => (h c).2.2.2.2, sem_eq_zero_of_no_sems rfl _⟩) (Cert.Reference25Ideal.Value.run m ρ),
    fun m ρ _ => (θ_run Cert.Reference25Ideal.defs _ _).mono (fun _ h => ⟨fun c => (h c).2.2.2.2, sem_eq_zero_of_no_sems rfl _⟩) (Cert.Reference25Ideal.Value.run m ρ),
    fun m ρ _ => Cert.Kernel26.Gen.frame m ρ,
    fun m ρ _ => Cert.Kernel26Ideal.Gen.frame m ρ,
    fun m ρ _ => (θ_run Cert.Reference26Ideal.defs _ _).mono (fun _ h => ⟨fun c => (h c).2.2, sem_eq_zero_of_no_sems rfl _⟩) (Cert.Reference26Ideal.Value.run m ρ),
    fun m ρ _ => Cert.Kernel27.Gen.frame m ρ,
    fun m ρ _ => Cert.Kernel27Ideal.Gen.frame m ρ,
    fun m ρ _ => (θ_run Cert.Reference27Ideal.defs _ _).mono (fun _ h => ⟨fun c => (h c).2.2, sem_eq_zero_of_no_sems rfl _⟩) (Cert.Reference27Ideal.Value.run m ρ),
    fun m ρ _ => Cert.Kernel28.Gen.frame m ρ,
    fun m ρ _ => Cert.Kernel28Ideal.Gen.frame m ρ,
    fun m ρ _ => (θ_run Cert.Reference28Ideal.defs _ _).mono (fun _ h => ⟨fun c => (h c).2, sem_eq_zero_of_no_sems rfl _⟩) (Cert.Reference28Ideal.Value.run m ρ),
    fun m ρ _ => Cert.Kernel29.Gen.frame m ρ,
    fun m ρ _ => Cert.Kernel29Ideal.Gen.frame m ρ,
    fun m ρ _ => (θ_run Cert.Reference29Ideal.defs _ _).mono (fun _ h => ⟨fun c => (h c).2, sem_eq_zero_of_no_sems rfl _⟩) (Cert.Reference29Ideal.Value.run m ρ),
    trivial,
    trivial,
    Cert.Kernel2Ideal.Mlp.algebraic,
    trivial,
    Cert.Kernel3Ideal.Mlp.algebraic,
    trivial,
    Cert.Kernel4Ideal.Mlp.algebraic,
    trivial,
    Cert.Kernel5Ideal.Mlp.algebraic,
    trivial,
    Cert.Kernel6Ideal.Mlp.algebraic,
    trivial,
    Cert.Kernel7Ideal.Mlp.algebraic,
    trivial,
    Cert.Kernel8Ideal.Proj.algebraic,
    trivial,
    Cert.Kernel9Ideal.Proj.algebraic,
    trivial,
    Cert.Kernel10Ideal.Proj.algebraic,
    trivial,
    Cert.Kernel11Ideal.Proj.algebraic,
    trivial,
    Cert.Kernel12Ideal.Proj.algebraic,
    trivial,
    Cert.Kernel13Ideal.Proj.algebraic,
    trivial,
    Cert.Kernel14Ideal.Proj.algebraic,
    trivial,
    Cert.Kernel15Ideal.Proj.algebraic,
    trivial,
    Cert.Kernel16Ideal.Proj.algebraic,
    trivial,
    Cert.Kernel17Ideal.Opt.algebraic,
    trivial,
    Cert.Kernel18Ideal.Opt.algebraic,
    trivial,
    Cert.Kernel19Ideal.Opt.algebraic,
    trivial,
    Cert.Kernel20Ideal.Opt.algebraic,
    trivial,
    Cert.Kernel21Ideal.Opt.algebraic,
    trivial,
    Cert.Kernel22Ideal.Opt.algebraic,
    trivial,
    Cert.Kernel23Ideal.Opt.algebraic,
    trivial,
    Cert.Kernel24Ideal.Opt.algebraic,
    trivial,
    Cert.Kernel25Ideal.Opt.algebraic,
    trivial,
    Cert.Kernel26Ideal.Opt.algebraic,
    trivial,
    Cert.Kernel27Ideal.Opt.algebraic,
    trivial,
    Cert.Kernel28Ideal.Opt.algebraic,
    trivial,
    Cert.Kernel29Ideal.Opt.algebraic⟩

end Cert.Proof

end
